-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x3 : Shape := ⟨3, ![4, 4096, 3]⟩
abbrev S4x4096x32 : Shape := ⟨3, ![4, 4096, 32]⟩
abbrev S64x35 : Shape := ⟨2, ![64, 35]⟩
abbrev S64 : Shape := ⟨1, ![64]⟩
abbrev S_ : Shape := ⟨0, ![]⟩
abbrev S64x3 : Shape := ⟨2, ![64, 3]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel
  slices_S64x35_S64x3_0_0 : S64x35.Slices ![0, 0] S64x3
  bcast_S_S64x3 : S_.BroadcastsInDim S64x3 (![] : Fin 0 → Fin S64x3.rank)
  reducesTo_S64x3_S_d0_1 : S64x3.ReducesTo [0, 1] S_

variable [Facts]

def fn {F : FTy → Type} [FloatOps F] (main_arg0 : FVec F S4x4096x3 .f32) (main_arg1 : FVec F S4x4096x32 .f32) (main_arg2 : FVec F S64x35 .f32) (main_arg3 : FVec F S64 .f32) (main_arg4 : FVec F S64 .f32) (main_arg5 : FVec F S64 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S64x3 .f32 := (extractStridedSlice S64x3 ![0, 0] · slices_S64x35_S64x3_0_0) main_arg2
  let main_v5 : FVec F S64x3 .f32 := Host.absf main_v4
  let main_cst_0 : FVec F S_ .f32 := constant S_ .f32 0x7F800000#32
  let main_v6 : FVec F S64x3 .f32 := broadcastInDim S64x3 ![] bcast_S_S64x3 main_cst_0
  let main_v7 : IVec S64x3 1 := cmpf .olt main_v5 main_v6
  let main_c_1 : IVec S_ 1 := constantI S_ 1 1#1
  let main_v8 : IVec S_ 1 := (fun x v => Host.reduce IntOp.andi x v reducesTo_S64x3_S_d0_1 h_S_) main_v7 main_c_1
  let main_v9 : IVec S_ 1 := andi main_v3 main_v8
  main_v9
-- ==== Kernel.lean ====
abbrev S4x4096x3 : Shape := ⟨3, ![4, 4096, 3]⟩
abbrev S4x4096x32 : Shape := ⟨3, ![4, 4096, 32]⟩
abbrev S64x35 : Shape := ⟨2, ![64, 35]⟩
abbrev S64 : Shape := ⟨1, ![64]⟩
abbrev S3x4x4096 : Shape := ⟨3, ![3, 4, 4096]⟩
abbrev S3x4x32x128 : Shape := ⟨4, ![3, 4, 32, 128]⟩
abbrev S4x512x3 : Shape := ⟨3, ![4, 512, 3]⟩
abbrev S1x4x32x128 : Shape := ⟨4, ![1, 4, 32, 128]⟩
abbrev S4x32x128 : Shape := ⟨3, ![4, 32, 128]⟩
abbrev S1x32x128 : Shape := ⟨3, ![1, 32, 128]⟩
abbrev S1x4x1x1 : Shape := ⟨4, ![1, 4, 1, 1]⟩
abbrev S4x1x1 : Shape := ⟨3, ![4, 1, 1]⟩
abbrev S4x1x3 : Shape := ⟨3, ![4, 1, 3]⟩
abbrev S4 : Shape := ⟨1, ![4]⟩
abbrev S35x64 : Shape := ⟨2, ![35, 64]⟩
abbrev S3x64 : Shape := ⟨2, ![3, 64]⟩
abbrev S32x64 : Shape := ⟨2, ![32, 64]⟩
abbrev S1x64 : Shape := ⟨2, ![1, 64]⟩
abbrev S4x3x4096 : Shape := ⟨3, ![4, 3, 4096]⟩
abbrev S4x512x64 : Shape := ⟨3, ![4, 512, 64]⟩
abbrev S1x3x4096 : Shape := ⟨3, ![1, 3, 4096]⟩
abbrev S1x4096x3 : Shape := ⟨3, ![1, 4096, 3]⟩
abbrev S1x4096x32 : Shape := ⟨3, ![1, 4096, 32]⟩
abbrev S1x512x3 : Shape := ⟨3, ![1, 512, 3]⟩
abbrev S1x512x64 : Shape := ⟨3, ![1, 512, 64]⟩
abbrev S4096x64 : Shape := ⟨2, ![4096, 64]⟩
abbrev S64x4096 : Shape := ⟨2, ![64, 4096]⟩
abbrev S4096x32 : Shape := ⟨2, ![4096, 32]⟩
abbrev S4096x3 : Shape := ⟨2, ![4096, 3]⟩
abbrev S1x1x4096 : Shape := ⟨3, ![1, 1, 4096]⟩
abbrev S1x4096 : Shape := ⟨2, ![1, 4096]⟩
abbrev S128x128 : Shape := ⟨2, ![128, 128]⟩
abbrev S1x64x3 : Shape := ⟨3, ![1, 64, 3]⟩
abbrev S64x3 : Shape := ⟨2, ![64, 3]⟩
abbrev S64x1 : Shape := ⟨2, ![64, 1]⟩
abbrev S2048x128 : Shape := ⟨2, ![2048, 128]⟩
abbrev S64x32x128 : Shape := ⟨3, ![64, 32, 128]⟩
abbrev S64x32x1 : Shape := ⟨3, ![64, 32, 1]⟩
abbrev S64x32 : Shape := ⟨2, ![64, 32]⟩
abbrev S32x32 : Shape := ⟨2, ![32, 32]⟩
abbrev S1 : Shape := ⟨1, ![1]⟩
abbrev S1x1 : Shape := ⟨2, ![1, 1]⟩
abbrev S64x64 : Shape := ⟨2, ![64, 64]⟩
abbrev S128x64 : Shape := ⟨2, ![128, 64]⟩
abbrev S64x128 : Shape := ⟨2, ![64, 128]⟩
abbrev S64x128x1 : Shape := ⟨3, ![64, 128, 1]⟩
abbrev S1x128x64 : Shape := ⟨3, ![1, 128, 64]⟩
abbrev S64x128x64 : Shape := ⟨3, ![64, 128, 64]⟩
abbrev S1x64x64 : Shape := ⟨3, ![1, 64, 64]⟩

abbrev nBuf : Space → Nat
  | .hbm => 17
  | .vmem => 19
  | .smem => 0
  | _ => 0

abbrev bufTy : (tb : Table) → Fin (tcTables nBuf tb) → BufTy
  | .hbm, ⟨0, _⟩ => ⟨S4x4096x3, .f32⟩
  | .hbm, ⟨1, _⟩ => ⟨S4x4096x32, .f32⟩
  | .hbm, ⟨2, _⟩ => ⟨S64x35, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S3x4x4096, .f32⟩
  | .hbm, ⟨7, _⟩ => ⟨S3x4x32x128, .f32⟩
  | .hbm, ⟨8, _⟩ => ⟨S4x512x3, .f32⟩
  | .hbm, ⟨9, _⟩ => ⟨S35x64, .f32⟩
  | .hbm, ⟨10, _⟩ => ⟨S3x64, .f32⟩
  | .hbm, ⟨11, _⟩ => ⟨S32x64, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S4x3x4096, .f32⟩
  | .hbm, ⟨16, _⟩ => ⟨S4x512x64, .f32⟩
  | .local _ .vmem, ⟨0, _⟩ => ⟨S3x4x32x128, .f32⟩
  | .local _ .vmem, ⟨1, _⟩ => ⟨S4x512x3, .f32⟩
  | .local _ .vmem, ⟨2, _⟩ => ⟨S1x3x4096, .f32⟩
  | .local _ .vmem, ⟨3, _⟩ => ⟨S1x3x4096, .f32⟩
  | .local _ .vmem, ⟨4, _⟩ => ⟨S1x4096x3, .f32⟩
  | .local _ .vmem, ⟨5, _⟩ => ⟨S1x4096x3, .f32⟩
  | .local _ .vmem, ⟨6, _⟩ => ⟨S1x4096x32, .f32⟩
  | .local _ .vmem, ⟨7, _⟩ => ⟨S1x4096x32, .f32⟩
  | .local _ .vmem, ⟨8, _⟩ => ⟨S1x512x3, .f32⟩
  | .local _ .vmem, ⟨9, _⟩ => ⟨S1x512x3, .f32⟩
  | .local _ .vmem, ⟨10, _⟩ => ⟨S3x64, .f32⟩
  | .local _ .vmem, ⟨11, _⟩ => ⟨S32x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x512x64, .f32⟩
  | .local _ .vmem, ⟨16, _⟩ => ⟨S1x512x64, .f32⟩
  | .local _ .vmem, ⟨17, _⟩ => ⟨S4096x64, .f32⟩
  | .local _ .vmem, ⟨18, _⟩ => ⟨S64x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg9_1 : Ref sig .tc := ⟨.vmem, 16, rfl⟩
abbrev cc1_scratch0 : Ref sig .tc := ⟨.vmem, 17, rfl⟩
abbrev cc1_scratch1 : Ref sig .tc := ⟨.vmem, 18, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem9_1 : DmaSem sig := 16

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c512_i32 : BitVec 32 := 512#32
  let v18 : BitVec 32 := Scalar.addi c0_i32 c512_i32
  let c1_i32 : BitVec 32 := 1#32
  ⟨c0_i32, v18, c1_i32⟩
def k0_off1 (k0_t1 : Fin k0_t1_loop.trips) : Fin 3 → Nat :=
  let c0_22 : Index := 0#32
  let c0_i32 : BitVec 32 := 0#32
  let c1_i32 : BitVec 32 := 1#32
  let arg2 : BitVec 32 := Scf.iv c0_i32 c1_i32 k0_t1
  let v21 : Index := Scalar.indexCast arg2
  let c0_23 : Index := 0#32
  ![0, v21.toNat, 0]
abbrev stage0_0 : Fin 1 → Memref sig .tc .vmem S3x4x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![4], ![false]⟩

@[reducible] def k1_t1_loop : Scf.Loop 32 :=
  let c0_i32 : BitVec 32 := 0#32
  let c8_i32 : BitVec 32 := 8#32
  let v35 : BitVec 32 := Scalar.addi c0_i32 c8_i32
  let c1_i32 : BitVec 32 := 1#32
  ⟨c0_i32, v35, c1_i32⟩
def k1_off1 (k1_t1 : Fin k1_t1_loop.trips) : Fin 3 → Nat :=
  let c0_28 : Index := 0#32
  let c0_i32 : BitVec 32 := 0#32
  let c1_i32 : BitVec 32 := 1#32
  let arg13 : BitVec 32 := Scf.iv c0_i32 c1_i32 k1_t1
  let c64_i32 : BitVec 32 := 64#32
  let v36 : BitVec 32 := Scalar.muli arg13 c64_i32
  let v37 : Index := Scalar.indexCast v36
  let c0_29 : Index := 0#32
  ![0, v37.toNat, 0]
@[reducible] def k1_t2_loop (v97 : BitVec 32) : Scf.Loop 32 :=
  let c0_i32_43 : BitVec 32 := 0#32
  let v99 : BitVec 32 := Scalar.subi v97 c0_i32_43
  let c1_i32_44 : BitVec 32 := 1#32
  let v101 : BitVec 32 := Scalar.divsi v99 c1_i32_44
  let v102 : BitVec 32 := Scalar.muli v101 c1_i32_44
  let v103 : BitVec 32 := Scalar.addi c0_i32_43 v102
  let c1_i32_45 : BitVec 32 := 1#32
  ⟨c0_i32_43, v103, c1_i32_45⟩

def k1_off2 (v97 : BitVec 32) (k1_t2 : Fin (k1_t2_loop v97).trips) : Fin 2 → Nat :=
  let c0_i32_43 : BitVec 32 := 0#32
  let c1_i32_45 : BitVec 32 := 1#32
  let arg14 : BitVec 32 := Scf.iv c0_i32_43 c1_i32_45 k1_t2
  let c128_i32 : BitVec 32 := 128#32
  let v133 : BitVec 32 := Scalar.muli arg14 c128_i32
  let v134 : Index := Scalar.indexCast v133
  let c0_56 : Index := 0#32
  ![v134.toNat, 0]
def k1_off3 (v97 : BitVec 32) (k1_t2 : Fin (k1_t2_loop v97).trips) : Fin 2 → Nat :=
  let c0_58 : Index := 0#32
  let c0_i32_43 : BitVec 32 := 0#32
  let c1_i32_45 : BitVec 32 := 1#32
  let arg14 : BitVec 32 := Scf.iv c0_i32_43 c1_i32_45 k1_t2
  let c128_i32_57 : BitVec 32 := 128#32
  let v136 : BitVec 32 := Scalar.muli arg14 c128_i32_57
  let v137 : Index := Scalar.indexCast v136
  ![0, v137.toNat]
@[reducible] def k1_t3_loop (v97 : BitVec 32) : Scf.Loop 32 :=
  let c0_i32_43 : BitVec 32 := 0#32
  let v99 : BitVec 32 := Scalar.subi v97 c0_i32_43
  let c1_i32_44 : BitVec 32 := 1#32
  let v101 : BitVec 32 := Scalar.divsi v99 c1_i32_44
  let v102 : BitVec 32 := Scalar.muli v101 c1_i32_44
  let v103 : BitVec 32 := Scalar.addi c0_i32_43 v102
  let v100 : BitVec 32 := Scalar.addi c0_i32_43 v99
  let c1_i32_46 : BitVec 32 := 1#32
  ⟨v103, v100, c1_i32_46⟩
def k1_off4 (v97 : BitVec 32) (k1_t3 : Fin (k1_t3_loop v97).trips) : Fin 2 → Nat :=
  let c0_i32_43 : BitVec 32 := 0#32
  let v99 : BitVec 32 := Scalar.subi v97 c0_i32_43
  let c1_i32_44 : BitVec 32 := 1#32
  let v101 : BitVec 32 := Scalar.divsi v99 c1_i32_44
  let v102 : BitVec 32 := Scalar.muli v101 c1_i32_44
  let v103 : BitVec 32 := Scalar.addi c0_i32_43 v102
  let c1_i32_46 : BitVec 32 := 1#32
  let arg14 : BitVec 32 := Scf.iv v103 c1_i32_46 k1_t3
  let c128_i32 : BitVec 32 := 128#32
  let v133 : BitVec 32 := Scalar.muli arg14 c128_i32
  let v134 : Index := Scalar.indexCast v133
  let c0_56 : Index := 0#32
  ![v134.toNat, 0]
def k1_off5 (v97 : BitVec 32) (k1_t3 : Fin (k1_t3_loop v97).trips) : Fin 2 → Nat :=
  let c0_58 : Index := 0#32
  let c0_i32_43 : BitVec 32 := 0#32
  let v99 : BitVec 32 := Scalar.subi v97 c0_i32_43
  let c1_i32_44 : BitVec 32 := 1#32
  let v101 : BitVec 32 := Scalar.divsi v99 c1_i32_44
  let v102 : BitVec 32 := Scalar.muli v101 c1_i32_44
  let v103 : BitVec 32 := Scalar.addi c0_i32_43 v102
  let c1_i32_46 : BitVec 32 := 1#32
  let arg14 : BitVec 32 := Scf.iv v103 c1_i32_46 k1_t3
  let c128_i32_57 : BitVec 32 := 128#32
  let v136 : BitVec 32 := Scalar.muli arg14 c128_i32_57
  let v137 : Index := Scalar.indexCast v136
  ![0, v137.toNat]

def k1_chk1 (v97 : BitVec 32) : Prop :=
  ((k1_t2_loop v97).OK) ∧
  (∀ k1_t2 : Fin (k1_t2_loop v97).trips, ∀ a, (k1_off2 v97 k1_t2) a + S128x64.size a ≤ S4096x64.size a) ∧
  (∀ k1_t2 : Fin (k1_t2_loop v97).trips, ∀ a, (k1_off3 v97 k1_t2) a + S64x128.size a ≤ S64x4096.size a) ∧
  ((k1_t3_loop v97).OK) ∧
  (∀ k1_t3 : Fin (k1_t3_loop v97).trips, ∀ a, (k1_off4 v97 k1_t3) a + S128x64.size a ≤ S4096x64.size a) ∧
  (∀ k1_t3 : Fin (k1_t3_loop v97).trips, ∀ a, (k1_off5 v97 k1_t3) a + S64x128.size a ≤ S64x4096.size a)
theorem k1_t2_ok : ∀ (v97 : BitVec 32) (k1_hw1 : k1_chk1 v97), (k1_t2_loop v97).OK := fun v97 k1_hw1 => k1_hw1.1
theorem k1_off2_inb : ∀ (v97 : BitVec 32) (k1_hw1 : k1_chk1 v97) (k1_t2 : Fin (k1_t2_loop v97).trips), ∀ a, (k1_off2 v97 k1_t2) a + S128x64.size a ≤ S4096x64.size a := fun v97 k1_hw1 k1_t2 => k1_hw1.2.1 k1_t2
theorem k1_off3_inb : ∀ (v97 : BitVec 32) (k1_hw1 : k1_chk1 v97) (k1_t2 : Fin (k1_t2_loop v97).trips), ∀ a, (k1_off3 v97 k1_t2) a + S64x128.size a ≤ S64x4096.size a := fun v97 k1_hw1 k1_t2 => k1_hw1.2.2.1 k1_t2
theorem k1_t3_ok : ∀ (v97 : BitVec 32) (k1_hw1 : k1_chk1 v97), (k1_t3_loop v97).OK := fun v97 k1_hw1 => k1_hw1.2.2.2.1
theorem k1_off4_inb : ∀ (v97 : BitVec 32) (k1_hw1 : k1_chk1 v97) (k1_t3 : Fin (k1_t3_loop v97).trips), ∀ a, (k1_off4 v97 k1_t3) a + S128x64.size a ≤ S4096x64.size a := fun v97 k1_hw1 k1_t3 => k1_hw1.2.2.2.2.1 k1_t3
theorem k1_off5_inb : ∀ (v97 : BitVec 32) (k1_hw1 : k1_chk1 v97) (k1_t3 : Fin (k1_t3_loop v97).trips), ∀ a, (k1_off5 v97 k1_t3) a + S64x128.size a ≤ S64x4096.size a := fun v97 k1_hw1 k1_t3 => k1_hw1.2.2.2.2.2 k1_t3

def k1_off6 (k1_t1 : Fin k1_t1_loop.trips) : Fin 3 → Nat :=
  let c0_54 : Index := 0#32
  let c0_i32 : BitVec 32 := 0#32
  let c1_i32 : BitVec 32 := 1#32
  let arg13 : BitVec 32 := Scf.iv c0_i32 c1_i32 k1_t1
  let c64_i32_53 : BitVec 32 := 64#32
  let v128 : BitVec 32 := Scalar.muli arg13 c64_i32_53
  let v129 : Index := Scalar.indexCast v128
  let c0_55 : Index := 0#32
  ![0, v129.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x3x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4096x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S3x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1x512x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S4x4096x3 : Shape := ⟨3, ![4, 4096, 3]⟩
abbrev S4x4096x32 : Shape := ⟨3, ![4, 4096, 32]⟩
abbrev S64x35 : Shape := ⟨2, ![64, 35]⟩
abbrev S64 : Shape := ⟨1, ![64]⟩
abbrev S_ : Shape := ⟨0, ![]⟩
abbrev S4x4096 : Shape := ⟨2, ![4, 4096]⟩
abbrev S4 : Shape := ⟨1, ![4]⟩
abbrev S512x4 : Shape := ⟨2, ![512, 4]⟩
abbrev S4x1x1 : Shape := ⟨3, ![4, 1, 1]⟩
abbrev S1 : Shape := ⟨1, ![1]⟩
abbrev S1x1x1 : Shape := ⟨3, ![1, 1, 1]⟩
abbrev S4x1 : Shape := ⟨2, ![4, 1]⟩
abbrev S4x1x3 : Shape := ⟨3, ![4, 1, 3]⟩
abbrev S1x4 : Shape := ⟨2, ![1, 4]⟩
abbrev S4x512 : Shape := ⟨2, ![4, 512]⟩
abbrev S4x512x1 : Shape := ⟨3, ![4, 512, 1]⟩
abbrev S4x512x3 : Shape := ⟨3, ![4, 512, 3]⟩
abbrev S4096 : Shape := ⟨1, ![4096]⟩
abbrev S1x1x4096 : Shape := ⟨3, ![1, 1, 4096]⟩
abbrev S4x512x4096 : Shape := ⟨3, ![4, 512, 4096]⟩
abbrev S4x512x1x3 : Shape := ⟨4, ![4, 512, 1, 3]⟩
abbrev S4x1x4096x3 : Shape := ⟨4, ![4, 1, 4096, 3]⟩
abbrev S4x512x4096x3 : Shape := ⟨4, ![4, 512, 4096, 3]⟩
abbrev S4x512x32 : Shape := ⟨3, ![4, 512, 32]⟩
abbrev S4x16384 : Shape := ⟨2, ![4, 16384]⟩
abbrev S4x16384x1 : Shape := ⟨3, ![4, 16384, 1]⟩
abbrev S4x16384x3 : Shape := ⟨3, ![4, 16384, 3]⟩
abbrev S4x512x32x3 : Shape := ⟨4, ![4, 512, 32, 3]⟩
abbrev S4x16384x32 : Shape := ⟨3, ![4, 16384, 32]⟩
abbrev S4x512x32x32 : Shape := ⟨4, ![4, 512, 32, 32]⟩
abbrev S4x512x32x35 : Shape := ⟨4, ![4, 512, 32, 35]⟩
abbrev S4x35x32x512 : Shape := ⟨4, ![4, 35, 32, 512]⟩
abbrev S4x32x512x64 : Shape := ⟨4, ![4, 32, 512, 64]⟩
abbrev S4x64x32x512 : Shape := ⟨4, ![4, 64, 32, 512]⟩
abbrev S1x64x1x1 : Shape := ⟨4, ![1, 64, 1, 1]⟩
abbrev S4x64x512 : Shape := ⟨3, ![4, 64, 512]⟩
abbrev S4x512x64 : Shape := ⟨3, ![4, 512, 64]⟩
abbrev S1x1x64 : Shape := ⟨3, ![1, 1, 64]⟩

abbrev nBuf : Space → Nat
  | .hbm => 216
  | .vmem => 0
  | .smem => 0
  | _ => 0

abbrev hbmTy0_0 (i : Nat) : BufTy := match i % 128 with
  | 0 => ⟨S4x4096x3, .f32⟩
  | 1 => ⟨S4x4096x32, .f32⟩
  | 2 => ⟨S64x35, .f32⟩
  | 3 => ⟨S64, .f32⟩
  | 4 => ⟨S64, .f32⟩
  | 5 => ⟨S64, .f32⟩
  | 6 => ⟨S_, .f32⟩
  | 7 => ⟨S4x4096, .f32⟩
  | 8 => ⟨S_, .i32⟩
  | 9 => ⟨S4, .i32⟩
  | 10 => ⟨S_, .i32⟩
  | 11 => ⟨S512x4, .i32⟩
  | 12 => ⟨S_, .i32⟩
  | 13 => ⟨S4x4096x3, .f32⟩
  | 14 => ⟨S_, .i32⟩
  | 15 => ⟨S4x4096, .f32⟩
  | 16 => ⟨S4, .i32⟩
  | 17 => ⟨S512x4, .i32⟩
  | 18 => ⟨S_, .i32⟩
  | 19 => ⟨S_, .i1⟩
  | 20 => ⟨S4x1x1, .i32⟩
  | 21 => ⟨S_, .i32⟩
  | 22 => ⟨S4x1x1, .i32⟩
  | 23 => ⟨S4x1x1, .i1⟩
  | 24 => ⟨S_, .i32⟩
  | 25 => ⟨S4x1x1, .i32⟩
  | 26 => ⟨S4x1x1, .i32⟩
  | 27 => ⟨S4x1x1, .i32⟩
  | 28 => ⟨S1, .i32⟩
  | 29 => ⟨S_, .i32⟩
  | 30 => ⟨S4x1x1, .i32⟩
  | 31 => ⟨S4x1x1, .i1⟩
  | 32 => ⟨S1x1x1, .i32⟩
  | 33 => ⟨S4x1x1, .i32⟩
  | 34 => ⟨S4x1x1, .i1⟩
  | 35 => ⟨S4x1x1, .i1⟩
  | 36 => ⟨S_, .i1⟩
  | 37 => ⟨S4x1, .i1⟩
  | 38 => ⟨S4x1x3, .f32⟩
  | 39 => ⟨S4x1x3, .i1⟩
  | 40 => ⟨S_, .f32⟩
  | 41 => ⟨S4x1x3, .f32⟩
  | 42 => ⟨S4x1x3, .f32⟩
  | 43 => ⟨S4x4096x3, .f32⟩
  | 44 => ⟨S4x4096x3, .f32⟩
  | 45 => ⟨S4x4096x3, .f32⟩
  | 46 => ⟨S_, .f32⟩
  | 47 => ⟨S4x4096, .f32⟩
  | 48 => ⟨S4x4096, .f32⟩
  | 49 => ⟨S4x4096, .i32⟩
  | 50 => ⟨S_, .f32⟩
  | 51 => ⟨S_, .i32⟩
  | 52 => ⟨S4, .f32⟩
  | 53 => ⟨S4, .i32⟩
  | 54 => ⟨S1x4, .i32⟩
  | 55 => ⟨S_, .i32⟩
  | 56 => ⟨S512x4, .i32⟩
  | 57 => ⟨S_, .i32⟩
  | 58 => ⟨S_, .i32⟩
  | 59 => ⟨S4x512, .i32⟩
  | 60 => ⟨S4x512x1, .i32⟩
  | 61 => ⟨S_, .i32⟩
  | 62 => ⟨S4x512x1, .i32⟩
  | 63 => ⟨S4x512x1, .i1⟩
  | 64 => ⟨S_, .i32⟩
  | 65 => ⟨S4x512x1, .i32⟩
  | 66 => ⟨S4x512x1, .i32⟩
  | 67 => ⟨S4x512x1, .i32⟩
  | 68 => ⟨S1, .i32⟩
  | 69 => ⟨S_, .i32⟩
  | 70 => ⟨S4x512x1, .i32⟩
  | 71 => ⟨S4x512x1, .i1⟩
  | 72 => ⟨S1x1x1, .i32⟩
  | 73 => ⟨S4x512x1, .i32⟩
  | 74 => ⟨S4x512x1, .i1⟩
  | 75 => ⟨S4x512x1, .i1⟩
  | 76 => ⟨S_, .i1⟩
  | 77 => ⟨S4x512, .i1⟩
  | 78 => ⟨S4x512x3, .f32⟩
  | 79 => ⟨S4x512x3, .i1⟩
  | 80 => ⟨S_, .f32⟩
  | 81 => ⟨S4x512x3, .f32⟩
  | 82 => ⟨S4x512x3, .f32⟩
  | 83 => ⟨S4096, .i32⟩
  | 84 => ⟨S1x1x4096, .i32⟩
  | 85 => ⟨S4x512x4096, .i32⟩
  | 86 => ⟨S4x512x1x3, .f32⟩
  | 87 => ⟨S4x1x4096x3, .f32⟩
  | 88 => ⟨S4x512x4096x3, .f32⟩
  | 89 => ⟨S4x512x4096x3, .f32⟩
  | 90 => ⟨S4x512x4096x3, .f32⟩
  | 91 => ⟨S4x512x4096x3, .f32⟩
  | 92 => ⟨S_, .f32⟩
  | 93 => ⟨S4x512x4096, .f32⟩
  | 94 => ⟨S_, .f32⟩
  | 95 => ⟨S4x512x4096, .f32⟩
  | 96 => ⟨S4x512x4096, .i1⟩
  | 97 => ⟨S_, .i32⟩
  | 98 => ⟨S_, .i32⟩
  | 99 => ⟨S4x512x4096, .i32⟩
  | 100 => ⟨S4x512x4096, .i32⟩
  | 101 => ⟨S4x512x4096, .i32⟩
  | 102 => ⟨S4x512x32, .i32⟩
  | 103 => ⟨S4x512x1, .i32⟩
  | 104 => ⟨S4x512x32, .i32⟩
  | 105 => ⟨S_, .i32⟩
  | 106 => ⟨S4x512x32, .i32⟩
  | 107 => ⟨S4x512x32, .i1⟩
  | 108 => ⟨S4x512x32, .i32⟩
  | 109 => ⟨S4x16384, .i32⟩
  | 110 => ⟨S4x16384x1, .i32⟩
  | 111 => ⟨S_, .i32⟩
  | 112 => ⟨S4x16384x1, .i32⟩
  | 113 => ⟨S4x16384x1, .i1⟩
  | 114 => ⟨S_, .i32⟩
  | 115 => ⟨S4x16384x1, .i32⟩
  | 116 => ⟨S4x16384x1, .i32⟩
  | 117 => ⟨S4x16384x1, .i32⟩
  | 118 => ⟨S1, .i32⟩
  | 119 => ⟨S_, .i32⟩
  | 120 => ⟨S4x16384x1, .i32⟩
  | 121 => ⟨S4x16384x1, .i1⟩
  | 122 => ⟨S1x1x1, .i32⟩
  | 123 => ⟨S4x16384x1, .i32⟩
  | 124 => ⟨S4x16384x1, .i1⟩
  | 125 => ⟨S4x16384x1, .i1⟩
  | 126 => ⟨S_, .i1⟩
  | 127 => ⟨S4x16384, .i1⟩
  | _ => ⟨S4x4096x3, .f32⟩

abbrev hbmTy0_1 (i : Nat) : BufTy := match i % 128 with
  | 0 => ⟨S4x16384x3, .f32⟩
  | 1 => ⟨S4x16384x3, .i1⟩
  | 2 => ⟨S_, .f32⟩
  | 3 => ⟨S4x16384x3, .f32⟩
  | 4 => ⟨S4x16384x3, .f32⟩
  | 5 => ⟨S4x512x32x3, .f32⟩
  | 6 => ⟨S4x512x1x3, .f32⟩
  | 7 => ⟨S4x512x32x3, .f32⟩
  | 8 => ⟨S4x512x32x3, .f32⟩
  | 9 => ⟨S4x16384, .i32⟩
  | 10 => ⟨S4x16384x1, .i32⟩
  | 11 => ⟨S_, .i32⟩
  | 12 => ⟨S4x16384x1, .i32⟩
  | 13 => ⟨S4x16384x1, .i1⟩
  | 14 => ⟨S_, .i32⟩
  | 15 => ⟨S4x16384x1, .i32⟩
  | 16 => ⟨S4x16384x1, .i32⟩
  | 17 => ⟨S4x16384x1, .i32⟩
  | 18 => ⟨S1, .i32⟩
  | 19 => ⟨S_, .i32⟩
  | 20 => ⟨S4x16384x1, .i32⟩
  | 21 => ⟨S4x16384x1, .i1⟩
  | 22 => ⟨S1x1x1, .i32⟩
  | 23 => ⟨S4x16384x1, .i32⟩
  | 24 => ⟨S4x16384x1, .i1⟩
  | 25 => ⟨S4x16384x1, .i1⟩
  | 26 => ⟨S_, .i1⟩
  | 27 => ⟨S4x16384, .i1⟩
  | 28 => ⟨S4x16384x32, .f32⟩
  | 29 => ⟨S4x16384x32, .i1⟩
  | 30 => ⟨S_, .f32⟩
  | 31 => ⟨S4x16384x32, .f32⟩
  | 32 => ⟨S4x16384x32, .f32⟩
  | 33 => ⟨S4x512x32x32, .f32⟩
  | 34 => ⟨S4x512x32x35, .f32⟩
  | 35 => ⟨S4x35x32x512, .f32⟩
  | 36 => ⟨S4x32x512x64, .f32⟩
  | 37 => ⟨S4x64x32x512, .f32⟩
  | 38 => ⟨S1x64x1x1, .f32⟩
  | 39 => ⟨S4x64x32x512, .f32⟩
  | 40 => ⟨S4x64x32x512, .f32⟩
  | 41 => ⟨S_, .f32⟩
  | 42 => ⟨S4x64x512, .f32⟩
  | 43 => ⟨S4x512x64, .f32⟩
  | 44 => ⟨S_, .f32⟩
  | 45 => ⟨S4x512, .f32⟩
  | 46 => ⟨S4x512x1, .f32⟩
  | 47 => ⟨S_, .f32⟩
  | 48 => ⟨S4x512x1, .f32⟩
  | 49 => ⟨S4x512x1, .f32⟩
  | 50 => ⟨S_, .i32⟩
  | 51 => ⟨S_, .f32⟩
  | 52 => ⟨S4x512, .f32⟩
  | 53 => ⟨S4x512x1, .f32⟩
  | 54 => ⟨S_, .f32⟩
  | 55 => ⟨S4x512x1, .f32⟩
  | 56 => ⟨S4x512x1, .f32⟩
  | 57 => ⟨S4x512x64, .f32⟩
  | 58 => ⟨S4x512x64, .f32⟩
  | 59 => ⟨S4x512x64, .f32⟩
  | 60 => ⟨S_, .f32⟩
  | 61 => ⟨S_, .f32⟩
  | 62 => ⟨S_, .f32⟩
  | 63 => ⟨S_, .f32⟩
  | 64 => ⟨S4x512, .f32⟩
  | 65 => ⟨S4x512x1, .f32⟩
  | 66 => ⟨S4x512x1, .f32⟩
  | 67 => ⟨S4x512x1, .f32⟩
  | 68 => ⟨S_, .f32⟩
  | 69 => ⟨S_, .i1⟩
  | 70 => ⟨S_, .f32⟩
  | 71 => ⟨S_, .f32⟩
  | 72 => ⟨S4x512x1, .f32⟩
  | 73 => ⟨S4x512x1, .f32⟩
  | 74 => ⟨S4x512x64, .f32⟩
  | 75 => ⟨S4x512x64, .f32⟩
  | 76 => ⟨S_, .f32⟩
  | 77 => ⟨S4x512x1, .f32⟩
  | 78 => ⟨S4x512x1, .f32⟩
  | 79 => ⟨S4x512x1, .f32⟩
  | 80 => ⟨S4x512x64, .f32⟩
  | 81 => ⟨S4x512x64, .f32⟩
  | 82 => ⟨S1x1x64, .f32⟩
  | 83 => ⟨S4x512x64, .f32⟩
  | 84 => ⟨S4x512x64, .f32⟩
  | 85 => ⟨S1x1x64, .f32⟩
  | 86 => ⟨S4x512x64, .f32⟩
  | 87 => ⟨S4x512x64, .f32⟩
  | _ => ⟨S4x4096x3, .f32⟩

abbrev hbmTy (i : Nat) : BufTy := match i / 128 with
  | 0 => hbmTy0_0 i
  | 1 => hbmTy0_1 i
  | _ => ⟨S4x4096x3, .f32⟩

abbrev bufTy : (tb : Table) → Fin (tcTables nBuf tb) → BufTy
  | .hbm, ⟨i, _⟩ => hbmTy i
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_c_1 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_while0c_c_15 : Ref sig .tc := ⟨.hbm, 18, rfl⟩
abbrev main_while0c_v65 : Ref sig .tc := ⟨.hbm, 19, rfl⟩
abbrev main_while0b_v65 : Ref sig .tc := ⟨.hbm, 20, rfl⟩
abbrev main_while0b_call0_c : Ref sig .tc := ⟨.hbm, 21, rfl⟩
abbrev main_while0b_call0_v0 : Ref sig .tc := ⟨.hbm, 22, rfl⟩
abbrev main_while0b_call0_v1 : Ref sig .tc := ⟨.hbm, 23, rfl⟩
abbrev main_while0b_call0_c_0 : Ref sig .tc := ⟨.hbm, 24, rfl⟩
abbrev main_while0b_call0_v2 : Ref sig .tc := ⟨.hbm, 25, rfl⟩
abbrev main_while0b_call0_v3 : Ref sig .tc := ⟨.hbm, 26, rfl⟩
abbrev main_while0b_call0_v4 : Ref sig .tc := ⟨.hbm, 27, rfl⟩
abbrev main_while0b_call0_c_1 : Ref sig .tc := ⟨.hbm, 28, rfl⟩
abbrev main_while0b_call0_c_2 : Ref sig .tc := ⟨.hbm, 29, rfl⟩
abbrev main_while0b_call0_v5 : Ref sig .tc := ⟨.hbm, 30, rfl⟩
abbrev main_while0b_call0_v6 : Ref sig .tc := ⟨.hbm, 31, rfl⟩
abbrev main_while0b_call0_v7 : Ref sig .tc := ⟨.hbm, 32, rfl⟩
abbrev main_while0b_call0_v8 : Ref sig .tc := ⟨.hbm, 33, rfl⟩
abbrev main_while0b_call0_v9 : Ref sig .tc := ⟨.hbm, 34, rfl⟩
abbrev main_while0b_call0_v10 : Ref sig .tc := ⟨.hbm, 35, rfl⟩
abbrev main_while0b_call0_c_3 : Ref sig .tc := ⟨.hbm, 36, rfl⟩
abbrev main_while0b_call0_v11 : Ref sig .tc := ⟨.hbm, 37, rfl⟩
abbrev main_while0b_call0_v12 : Ref sig .tc := ⟨.hbm, 38, rfl⟩
abbrev main_while0b_call0_v13 : Ref sig .tc := ⟨.hbm, 39, rfl⟩
abbrev main_while0b_call0_cst : Ref sig .tc := ⟨.hbm, 40, rfl⟩
abbrev main_while0b_call0_v14 : Ref sig .tc := ⟨.hbm, 41, rfl⟩
abbrev main_while0b_v66 : Ref sig .tc := ⟨.hbm, 42, rfl⟩
abbrev main_while0b_v67 : Ref sig .tc := ⟨.hbm, 43, rfl⟩
abbrev main_while0b_v68 : Ref sig .tc := ⟨.hbm, 44, rfl⟩
abbrev main_while0b_v69 : Ref sig .tc := ⟨.hbm, 45, rfl⟩
abbrev main_while0b_cst_15 : Ref sig .tc := ⟨.hbm, 46, rfl⟩
abbrev main_while0b_v70 : Ref sig .tc := ⟨.hbm, 47, rfl⟩
abbrev main_while0b_v71 : Ref sig .tc := ⟨.hbm, 48, rfl⟩
abbrev main_while0b_call1_v0 : Ref sig .tc := ⟨.hbm, 49, rfl⟩
abbrev main_while0b_call1_cst : Ref sig .tc := ⟨.hbm, 50, rfl⟩
abbrev main_while0b_call1_c : Ref sig .tc := ⟨.hbm, 51, rfl⟩
abbrev main_while0b_call1_v1_0 : Ref sig .tc := ⟨.hbm, 52, rfl⟩
abbrev main_while0b_v72 : Ref sig .tc := ⟨.hbm, 53, rfl⟩
abbrev main_while0b_call2_v0 : Ref sig .tc := ⟨.hbm, 54, rfl⟩
abbrev main_while0b_call2_c : Ref sig .tc := ⟨.hbm, 55, rfl⟩
abbrev main_while0b_v73 : Ref sig .tc := ⟨.hbm, 56, rfl⟩
abbrev main_while0b_c_16 : Ref sig .tc := ⟨.hbm, 57, rfl⟩
abbrev main_while0b_v74 : Ref sig .tc := ⟨.hbm, 58, rfl⟩
abbrev main_v4 : Ref sig .tc := ⟨.hbm, 59, rfl⟩
abbrev main_v5 : Ref sig .tc := ⟨.hbm, 60, rfl⟩
abbrev main_call3_c : Ref sig .tc := ⟨.hbm, 61, rfl⟩
abbrev main_call3_v0 : Ref sig .tc := ⟨.hbm, 62, rfl⟩
abbrev main_call3_v1 : Ref sig .tc := ⟨.hbm, 63, rfl⟩
abbrev main_call3_c_0 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_c_1 : Ref sig .tc := ⟨.hbm, 68, rfl⟩
abbrev main_call3_c_2 : Ref sig .tc := ⟨.hbm, 69, rfl⟩
abbrev main_call3_v5 : Ref sig .tc := ⟨.hbm, 70, rfl⟩
abbrev main_call3_v6 : Ref sig .tc := ⟨.hbm, 71, rfl⟩
abbrev main_call3_v7 : Ref sig .tc := ⟨.hbm, 72, rfl⟩
abbrev main_call3_v8 : Ref sig .tc := ⟨.hbm, 73, rfl⟩
abbrev main_call3_v9 : Ref sig .tc := ⟨.hbm, 74, rfl⟩
abbrev main_call3_v10 : Ref sig .tc := ⟨.hbm, 75, rfl⟩
abbrev main_call3_c_3 : Ref sig .tc := ⟨.hbm, 76, rfl⟩
abbrev main_call3_v11 : Ref sig .tc := ⟨.hbm, 77, rfl⟩
abbrev main_call3_v12 : Ref sig .tc := ⟨.hbm, 78, rfl⟩
abbrev main_call3_v13 : Ref sig .tc := ⟨.hbm, 79, rfl⟩
abbrev main_call3_cst : Ref sig .tc := ⟨.hbm, 80, rfl⟩
abbrev main_call3_v14 : Ref sig .tc := ⟨.hbm, 81, rfl⟩
abbrev main_v6 : Ref sig .tc := ⟨.hbm, 82, rfl⟩
abbrev main_v7 : Ref sig .tc := ⟨.hbm, 83, rfl⟩
abbrev main_v8 : Ref sig .tc := ⟨.hbm, 84, rfl⟩
abbrev main_v9 : Ref sig .tc := ⟨.hbm, 85, rfl⟩
abbrev main_v10 : Ref sig .tc := ⟨.hbm, 86, rfl⟩
abbrev main_v11 : Ref sig .tc := ⟨.hbm, 87, rfl⟩
abbrev main_v12 : Ref sig .tc := ⟨.hbm, 88, rfl⟩
abbrev main_v13 : Ref sig .tc := ⟨.hbm, 89, rfl⟩
abbrev main_v14 : Ref sig .tc := ⟨.hbm, 90, rfl⟩
abbrev main_v15 : Ref sig .tc := ⟨.hbm, 91, rfl⟩
abbrev main_cst_2 : Ref sig .tc := ⟨.hbm, 92, rfl⟩
abbrev main_v16 : Ref sig .tc := ⟨.hbm, 93, rfl⟩
abbrev main_cst_3 : Ref sig .tc := ⟨.hbm, 94, rfl⟩
abbrev main_v17 : Ref sig .tc := ⟨.hbm, 95, rfl⟩
abbrev main_v18 : Ref sig .tc := ⟨.hbm, 96, rfl⟩
abbrev main_c_4 : Ref sig .tc := ⟨.hbm, 97, rfl⟩
abbrev main_call4_v0 : Ref sig .tc := ⟨.hbm, 98, rfl⟩
abbrev main_call4_v1 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_v23 : Ref sig .tc := ⟨.hbm, 104, rfl⟩
abbrev main_c_5 : Ref sig .tc := ⟨.hbm, 105, rfl⟩
abbrev main_v24 : Ref sig .tc := ⟨.hbm, 106, rfl⟩
abbrev main_v25 : Ref sig .tc := ⟨.hbm, 107, rfl⟩
abbrev main_v26 : Ref sig .tc := ⟨.hbm, 108, rfl⟩
abbrev main_v27 : Ref sig .tc := ⟨.hbm, 109, rfl⟩
abbrev main_v28 : Ref sig .tc := ⟨.hbm, 110, rfl⟩
abbrev main_call7_c : Ref sig .tc := ⟨.hbm, 111, rfl⟩
abbrev main_call7_v0 : Ref sig .tc := ⟨.hbm, 112, rfl⟩
abbrev main_call7_v1 : Ref sig .tc := ⟨.hbm, 113, rfl⟩
abbrev main_call7_c_0 : Ref sig .tc := ⟨.hbm, 114, rfl⟩
abbrev main_call7_v2 : Ref sig .tc := ⟨.hbm, 115, rfl⟩
abbrev main_call7_v3 : Ref sig .tc := ⟨.hbm, 116, rfl⟩
abbrev main_call7_v4 : Ref sig .tc := ⟨.hbm, 117, rfl⟩
abbrev main_call7_c_1 : Ref sig .tc := ⟨.hbm, 118, rfl⟩
abbrev main_call7_c_2 : Ref sig .tc := ⟨.hbm, 119, rfl⟩
abbrev main_call7_v5 : Ref sig .tc := ⟨.hbm, 120, rfl⟩
abbrev main_call7_v6 : Ref sig .tc := ⟨.hbm, 121, rfl⟩
abbrev main_call7_v7 : Ref sig .tc := ⟨.hbm, 122, rfl⟩
abbrev main_call7_v8 : Ref sig .tc := ⟨.hbm, 123, rfl⟩
abbrev main_call7_v9 : Ref sig .tc := ⟨.hbm, 124, rfl⟩
abbrev main_call7_v10 : Ref sig .tc := ⟨.hbm, 125, rfl⟩
abbrev main_call7_c_3 : Ref sig .tc := ⟨.hbm, 126, rfl⟩
abbrev main_call7_v11 : Ref sig .tc := ⟨.hbm, 127, rfl⟩
abbrev main_call7_v12 : Ref sig .tc := ⟨.hbm, 128, rfl⟩
abbrev main_call7_v13 : Ref sig .tc := ⟨.hbm, 129, rfl⟩
abbrev main_call7_cst : Ref sig .tc := ⟨.hbm, 130, rfl⟩
abbrev main_call7_v14 : Ref sig .tc := ⟨.hbm, 131, rfl⟩
abbrev main_v29 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩
abbrev main_call8_c : Ref sig .tc := ⟨.hbm, 139, rfl⟩
abbrev main_call8_v0 : Ref sig .tc := ⟨.hbm, 140, rfl⟩
abbrev main_call8_v1 : Ref sig .tc := ⟨.hbm, 141, rfl⟩
abbrev main_call8_c_0 : Ref sig .tc := ⟨.hbm, 142, rfl⟩
abbrev main_call8_v2 : Ref sig .tc := ⟨.hbm, 143, rfl⟩
abbrev main_call8_v3 : Ref sig .tc := ⟨.hbm, 144, rfl⟩
abbrev main_call8_v4 : Ref sig .tc := ⟨.hbm, 145, rfl⟩
abbrev main_call8_c_1 : Ref sig .tc := ⟨.hbm, 146, rfl⟩
abbrev main_call8_c_2 : Ref sig .tc := ⟨.hbm, 147, rfl⟩
abbrev main_call8_v5 : Ref sig .tc := ⟨.hbm, 148, rfl⟩
abbrev main_call8_v6 : Ref sig .tc := ⟨.hbm, 149, rfl⟩
abbrev main_call8_v7 : Ref sig .tc := ⟨.hbm, 150, rfl⟩
abbrev main_call8_v8 : Ref sig .tc := ⟨.hbm, 151, rfl⟩
abbrev main_call8_v9 : Ref sig .tc := ⟨.hbm, 152, rfl⟩
abbrev main_call8_v10 : Ref sig .tc := ⟨.hbm, 153, rfl⟩
abbrev main_call8_c_3 : Ref sig .tc := ⟨.hbm, 154, rfl⟩
abbrev main_call8_v11 : Ref sig .tc := ⟨.hbm, 155, rfl⟩
abbrev main_call8_v12 : Ref sig .tc := ⟨.hbm, 156, rfl⟩
abbrev main_call8_v13 : Ref sig .tc := ⟨.hbm, 157, rfl⟩
abbrev main_call8_cst : Ref sig .tc := ⟨.hbm, 158, rfl⟩
abbrev main_call8_v14 : Ref sig .tc := ⟨.hbm, 159, rfl⟩
abbrev main_v36 : Ref sig .tc := ⟨.hbm, 160, rfl⟩
abbrev main_v37 : Ref sig .tc := ⟨.hbm, 161, rfl⟩
abbrev main_v38 : Ref sig .tc := ⟨.hbm, 162, rfl⟩
abbrev main_v39 : Ref sig .tc := ⟨.hbm, 163, rfl⟩
abbrev main_v40 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_cst_6 : Ref sig .tc := ⟨.hbm, 169, rfl⟩
abbrev main_v45 : Ref sig .tc := ⟨.hbm, 170, rfl⟩
abbrev main_v46 : Ref sig .tc := ⟨.hbm, 171, rfl⟩
abbrev main_cst_7 : Ref sig .tc := ⟨.hbm, 172, rfl⟩
abbrev main_v47 : Ref sig .tc := ⟨.hbm, 173, rfl⟩
abbrev main_v48 : Ref sig .tc := ⟨.hbm, 174, rfl⟩
abbrev main_cst_8 : Ref sig .tc := ⟨.hbm, 175, rfl⟩
abbrev main_v49 : Ref sig .tc := ⟨.hbm, 176, rfl⟩
abbrev main_v50 : Ref sig .tc := ⟨.hbm, 177, rfl⟩
abbrev main_c_9 : Ref sig .tc := ⟨.hbm, 178, rfl⟩
abbrev main_call9_cst : Ref sig .tc := ⟨.hbm, 179, rfl⟩
abbrev main_call9_v0 : Ref sig .tc := ⟨.hbm, 180, rfl⟩
abbrev main_call9_v1 : Ref sig .tc := ⟨.hbm, 181, rfl⟩
abbrev main_call9_cst_0 : Ref sig .tc := ⟨.hbm, 182, rfl⟩
abbrev main_call9_v2 : Ref sig .tc := ⟨.hbm, 183, rfl⟩
abbrev main_call9_v3 : Ref sig .tc := ⟨.hbm, 184, rfl⟩
abbrev main_call9_v4 : Ref sig .tc := ⟨.hbm, 185, rfl⟩
abbrev main_call9_v5 : Ref sig .tc := ⟨.hbm, 186, rfl⟩
abbrev main_call9_v6 : Ref sig .tc := ⟨.hbm, 187, rfl⟩
abbrev main_call9_v7 : Ref sig .tc := ⟨.hbm, 188, rfl⟩
abbrev main_call9_cst_1 : Ref sig .tc := ⟨.hbm, 189, rfl⟩
abbrev main_call9_v8 : Ref sig .tc := ⟨.hbm, 190, rfl⟩
abbrev main_call9_cst_2 : Ref sig .tc := ⟨.hbm, 191, rfl⟩
abbrev main_call9_v9 : Ref sig .tc := ⟨.hbm, 192, rfl⟩
abbrev main_call9_v10 : Ref sig .tc := ⟨.hbm, 193, rfl⟩
abbrev main_call9_v11 : Ref sig .tc := ⟨.hbm, 194, rfl⟩
abbrev main_call9_v12 : Ref sig .tc := ⟨.hbm, 195, rfl⟩
abbrev main_call9_cst_3 : Ref sig .tc := ⟨.hbm, 196, rfl⟩
abbrev main_call9_v13 : Ref sig .tc := ⟨.hbm, 197, rfl⟩
abbrev main_call9_cst_4 : Ref sig .tc := ⟨.hbm, 198, rfl⟩
abbrev main_call9_call0_v0 : Ref sig .tc := ⟨.hbm, 199, rfl⟩
abbrev main_call9_call0_v1 : Ref sig .tc := ⟨.hbm, 200, rfl⟩
abbrev main_v51 : Ref sig .tc := ⟨.hbm, 201, rfl⟩
abbrev main_v52 : Ref sig .tc := ⟨.hbm, 202, rfl⟩
abbrev main_v53 : Ref sig .tc := ⟨.hbm, 203, rfl⟩
abbrev main_cst_10 : Ref sig .tc := ⟨.hbm, 204, rfl⟩
abbrev main_v54 : Ref sig .tc := ⟨.hbm, 205, rfl⟩
abbrev main_v55 : Ref sig .tc := ⟨.hbm, 206, rfl⟩
abbrev main_v56 : Ref sig .tc := ⟨.hbm, 207, rfl⟩
abbrev main_v57 : Ref sig .tc := ⟨.hbm, 208, rfl⟩
abbrev main_v58 : Ref sig .tc := ⟨.hbm, 209, rfl⟩
abbrev main_v59 : Ref sig .tc := ⟨.hbm, 210, rfl⟩
abbrev main_v60 : Ref sig .tc := ⟨.hbm, 211, rfl⟩
abbrev main_v61 : Ref sig .tc := ⟨.hbm, 212, rfl⟩
abbrev main_v62 : Ref sig .tc := ⟨.hbm, 213, rfl⟩
abbrev main_v63 : Ref sig .tc := ⟨.hbm, 214, rfl⟩
abbrev main_v64 : Ref sig .tc := ⟨.hbm, 215, rfl⟩

abbrev nD : Nat := 1
abbrev τ : Topo := Topo.v7x

variable {F : FTy → Type} [FloatOps F]

abbrev main_while0_count : Scf.Loop 32 := ⟨0#32, 512#32, 1#32⟩
-- ==== Proof.FpsBody.lean ====
module

public import proofs.«01_k».proof.Proof.Gen.KernelIdeal.Loops
public import proofs.«01_k».proof.Proof.Gen.KernelIdeal.Points
public import Idealize.ShloMosaic.Lib.Pipeline.ValueKit

/-! The farthest-point call: what its body leaves in the block of centres. -/

@[expose] public section
set_option maxRecDepth 16384
noncomputable section

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the frame kit. -/
local notation "𝕄" => MT nD τ sig Unit (Elt F) ℕ (UR sig nD τ) ℕ

/-- What the loop carries: the distance of every point to the centres chosen so far, and the current centre. -/
abbrev FpsCarry (F : FTy → Type) : Type := FVec F S4x32x128 .f32 × FVec F S4x1x1 .f32 × FVec F S4x1x1 .f32 × FVec F S4x1x1 .f32

/-- One step: the distances lowered by the current centre, and the next centre. -/
def fpsStep (v0 v2 v4 : Vec F S1x4x32x128 .f32) (acc : FpsCarry F) : FpsCarry F :=
  (k0_pay9 v0 v2 v4 acc.1 acc.2.1 acc.2.2.1 acc.2.2.2, k0_pay11 v0 v2 v4 acc.1 acc.2.1 acc.2.2.1 acc.2.2.2,
    k0_pay12 v0 v2 v4 acc.1 acc.2.1 acc.2.2.1 acc.2.2.2, k0_pay13 v0 v2 v4 acc.1 acc.2.1 acc.2.2.1 acc.2.2.2)

/-- The row of centres that trip `k` stores. -/
def fpsPiece (acc : FpsCarry F) (k : Fin k0_t1_loop.trips) : View.Piece (Elt F) S4x512x3 .f32 :=
  ⟨Rect.unit (s := S4x512x3) (k0_off1 k) S4x1x3.size (k0_off1_inb k), k0_pay8 acc.2.1 acc.2.2.1 acc.2.2.2⟩

/-- What is carried after `n` steps. -/
def fpsAcc (v0 v2 v4 : Vec F S1x4x32x128 .f32) (init : FpsCarry F) : ℕ → FpsCarry F
  | 0 => init
  | n + 1 => fpsStep v0 v2 v4 (fpsAcc v0 v2 v4 init n)

/-- The rows of centres stored in the first `n` trips, the last first. -/
def fpsPieces (v0 v2 v4 : Vec F S1x4x32x128 .f32) (init : FpsCarry F) : ℕ → List (View.Piece (Elt F) S4x512x3 .f32)
  | 0 => []
  | n + 1 =>
    if h : n < k0_t1_loop.trips then fpsPiece (fpsAcc v0 v2 v4 init n) ⟨n, h⟩ :: fpsPieces v0 v2 v4 init n
    else fpsPieces v0 v2 v4 init n

/-- The carried value at loop entry, from the block of coordinates. -/
def fpsInit (x : Vec F S3x4x32x128 .f32) : FpsCarry F :=
  (k0_pay7, k0_pay4 (View.ld x (Rect.unit (s := S3x4x32x128) ![0, 0, 0, 0] S1x4x1x1.size inb_S3x4x32x128_S1x4x1x1_0_0_0_0)),
    k0_pay5 (View.ld x (Rect.unit (s := S3x4x32x128) ![1, 0, 0, 0] S1x4x1x1.size inb_S3x4x32x128_S1x4x1x1_1_0_0_0)),
    k0_pay6 (View.ld x (Rect.unit (s := S3x4x32x128) ![2, 0, 0, 0] S1x4x1x1.size inb_S3x4x32x128_S1x4x1x1_2_0_0_0)))

/-- The three coordinate planes of the block. -/
def planeX (x : Vec F S3x4x32x128 .f32) : Vec F S1x4x32x128 .f32 :=
  View.ld x (Rect.unit (s := S3x4x32x128) ![0, 0, 0, 0] S1x4x32x128.size inb_S3x4x32x128_S1x4x32x128_0_0_0_0)
def planeY (x : Vec F S3x4x32x128 .f32) : Vec F S1x4x32x128 .f32 :=
  View.ld x (Rect.unit (s := S3x4x32x128) ![1, 0, 0, 0] S1x4x32x128.size inb_S3x4x32x128_S1x4x32x128_1_0_0_0)
def planeZ (x : Vec F S3x4x32x128 .f32) : Vec F S1x4x32x128 .f32 :=
  View.ld x (Rect.unit (s := S3x4x32x128) ![2, 0, 0, 0] S1x4x32x128.size inb_S3x4x32x128_S1x4x32x128_2_0_0_0)

/-- The pieces the whole body stores. -/
def fpsOutPieces (x : Vec F S3x4x32x128 .f32) : List (View.Piece (Elt F) S4x512x3 .f32) :=
  fpsPieces (planeX x) (planeY x) (planeZ x) (fpsInit x) k0_t1_loop.trips

/-- The generated recursion of the loop is the one above. -/
theorem st_eq_fps (𝒱 : Variants) (c : Dev nD) (bd : Option 𝒱.V) (arg0 : Memref sig .tc .vmem S3x4x32x128 .f32) (harg0 : arg0.IsWhole)
    (arg1 : Memref sig .tc .vmem S4x512x3 .f32) (harg1 : arg1.IsWhole) (v0 v2 v4 : Vec F S1x4x32x128 .f32) (init : FpsCarry F)
    (n : ℕ) (hn : n ≤ k0_t1_loop.trips) :
    st_k0_t1 (F := F) 𝒱 c bd arg0 harg0 arg1 harg1 v0 v2 v4 init n = (fpsAcc v0 v2 v4 init n, fpsPieces v0 v2 v4 init n) := by
  induction n with
  | zero => rfl
  | succ n ih =>
    rw [st_k0_t1.eq_2, ih (by omega), fpsPieces.eq_2, dif_pos (show n < k0_t1_loop.trips by omega)]
    unfold st_k0_t1Step
    rw [dif_pos (show n < k0_t1_loop.trips by omega)]
    unfold tripR_k0_t1 tripL_k0_t1 trip_k0_t1; rfl

theorem fps_body (𝒱 : Variants) (c : Dev nD) (bd : Option 𝒱.V) (arg0 : Memref sig .tc .vmem S3x4x32x128 .f32) (harg0 : arg0.IsWhole)
    (arg1 : Memref sig .tc .vmem S4x512x3 .f32) (harg1 : arg1.IsWhole)
    (f0 : BufTy.Contents (Elt F) arg0.view.ty) (f1 : BufTy.Contents (Elt F) arg1.view.ty) (E : Set ℕ) :
  (iprop((arg0.view.loc (c : Thread nD τ) ↦[arg0.view.set]{fullShare} f0)
    ∗ (arg1.view.loc (c : Thread nD τ) ↦[arg1.view.set]{fullShare} f1)) : sProp 𝕄)
  ⊢ wp frame (wpE (defs₀ (F := F)) 𝒱 (c : Thread nD τ) bd) E (cc0__fps_body (F := F) arg0 harg0 arg1 harg1)
      (fun _ => iprop((arg0.view.loc (c : Thread nD τ) ↦[arg0.view.set]{fullShare} f0)
        ∗ (∃ g, (arg1.view.loc (c : Thread nD τ) ↦[arg1.view.set]{fullShare} g)
            ∗ ⌜g = arg1.view.writes (Elt F) f1 (fpsOutPieces (arg0.view.read (Elt F) f0))⌝))) := by
  rw [cc0__fps_body_eq_skeleton]
  unfold cc0__fps_body_skel
  iintro ⟨H0, H1⟩
  sl_exec
  sl_step
  isplitl [H0]; · iexact H0
  iexists _; isplitl [H1]; · iexact H1
  ipureintro
  rw [st_eq_fps _ _ _ _ _ _ _ _ _ _ _ _ (le_refl _)]
  rfl
end Cert.KernelIdeal.Body
-- ==== Proof.GroupTrip.lean ====
module

public import proofs.«01_k».proof.Proof.Gen.KernelIdeal.Loops
public import proofs.«01_k».proof.Proof.Gen.KernelIdeal.Points
public import Idealize.ShloMosaic.Lib.LoopRemainder
public import Idealize.ShloMosaic.Lib.Pipeline.ValueKit

@[expose] public section
set_option maxRecDepth 16384
noncomputable section

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the frame kit. -/
local notation "𝕄" => MT nD τ sig Unit (Elt F) ℕ (UR sig nD τ) ℕ

/-- The number of blocks of 128 points the inner loop visits always passes the check made of it. -/
abbrev Chk (F : FTy → Type) [FloatOps F] [Named F] : Prop :=
  ∀ v71 : FVec F S64x32 .f32, k1_chk1 (Scalar.fptosi 32 (k1_pay10 v71))

/-- The running maximum of the inner loop after its first `n` blocks: `P` the projected points, `M` the mask. -/
def maxSt (v97 : BitVec 32) (hw : k1_chk1 v97) (P : Vec F S4096x64 .f32) (M : Vec F S64x4096 .f32) : ℕ → FVec F S64x64 .f32
  | 0 => k1_pay11
  | n + 1 =>
    if h : n < (k1_t2_loop v97).trips then
      k1_pay12 (maxSt v97 hw P M n)
        (View.ld P (Rect.unit (s := S4096x64) (k1_off2 v97 ⟨n, h⟩) S128x64.size (k1_off2_inb v97 hw ⟨n, h⟩)))
        (View.ld M (Rect.unit (s := S64x4096) (k1_off3 v97 ⟨n, h⟩) S64x128.size (k1_off3_inb v97 hw ⟨n, h⟩)))
    else maxSt v97 hw P M n

/-- What one chunk `k` of 64 centres stores: the centres' rows `x4`, the coordinate rows, the triangular matrix, scale,
    shift and coordinate weights as the body read them, `P` the projected points. -/
def chunkPay (hchk : Chk F) (v19 v21 v23 : FVec F S1x4096 .f32) (v28 : FVec F S128x128 .f32) (v30 : FVec F S1x64 .f32)
    (v31 : Vec F S1x64 .f32) (v33 : Vec F S3x64 .f32) (P : Vec F S4096x64 .f32) (v38 : Vec F S1x64x3 .f32) : FVec F S1x64x64 .f32 :=
  k1_pay3
    (k1_pay14 v30 (k1_pay2 v33) (k1_pay4 v38)
      (maxSt _ (hchk (k1_pay7 v19 v21 v23 v28 v38)) P (k1_pay9 (k1_pay8 v19 v21 v23 v28 v38))
        (k1_t2_loop (Scalar.fptosi 32 (k1_pay10 (k1_pay7 v19 v21 v23 v28 v38)))).trips))
    (k1_pay15 (k1_pay1 v31))

/-- The piece chunk `k` stores. -/
def chunkPiece (hchk : Chk F) (v19 v21 v23 : FVec F S1x4096 .f32) (v28 : FVec F S128x128 .f32) (v30 : FVec F S1x64 .f32)
    (v31 : Vec F S1x64 .f32) (v33 : Vec F S3x64 .f32) (P : Vec F S4096x64 .f32) (x4 : Vec F S1x512x3 .f32)
    (k : Fin k1_t1_loop.trips) : View.Piece (Elt F) S1x512x64 .f32 :=
  ⟨Rect.unit (s := S1x512x64) (k1_off6 k) S1x64x64.size (k1_off6_inb k),
    chunkPay hchk v19 v21 v23 v28 v30 v31 v33 P
      (View.ld x4 (Rect.unit (s := S1x512x3) (k1_off1 k) S1x64x3.size (k1_off1_inb k)))⟩

section
variable (𝒱 : Variants) (c : Dev nD) (bd : Option 𝒱.V) (i : grid1.Coords)
  (arg1 : Memref sig .tc .vmem S1x3x4096 .f32) (harg1 : arg1.IsWhole) (arg2 : Memref sig .tc .vmem S1x4096x3 .f32)
  (harg2 : arg2.IsWhole) (arg3 : Memref sig .tc .vmem S1x4096x32 .f32) (harg3 : arg3.IsWhole)
  (arg4 : Memref sig .tc .vmem S1x512x3 .f32) (harg4 : arg4.IsWhole) (arg5 : Memref sig .tc .vmem S3x64 .f32)
  (harg5 : arg5.IsWhole) (arg6 : Memref sig .tc .vmem S32x64 .f32) (harg6 : arg6.IsWhole)
  (arg7 : Memref sig .tc .vmem S1x64 .f32) (harg7 : arg7.IsWhole) (arg8 : Memref sig .tc .vmem S1x64 .f32)
  (harg8 : arg8.IsWhole) (arg9 : Memref sig .tc .vmem S1x64 .f32) (harg9 : arg9.IsWhole)
  (arg10 : Memref sig .tc .vmem S1x512x64 .f32) (harg10 : arg10.IsWhole) (arg11 : Memref sig .tc .vmem S4096x64 .f32)
  (harg11 : arg11.IsWhole) (arg12 : Memref sig .tc .vmem S64x4096 .f32) (harg12 : arg12.IsWhole)
  (v19 v21 v23 : FVec F S1x4096 .f32) (v28 : FVec F S128x128 .f32) (v30 : FVec F S1x64 .f32) (v31 : Vec F S1x64 .f32)
  (v33 : Vec F S3x64 .f32)

/-- What one trip over a chunk of 64 centres touches. -/
abbrev ChunkRes (X4 : BufTy.Contents (Elt F) arg4.view.ty) (X11 : BufTy.Contents (Elt F) arg11.view.ty)
    (f10 : BufTy.Contents (Elt F) arg10.view.ty) : sProp 𝕄 :=
  iprop((arg4.view.loc (c : Thread nD τ) ↦[arg4.view.set]{fullShare} X4)
    ∗ (arg11.view.loc (c : Thread nD τ) ↦[arg11.view.set]{fullShare} X11)
    ∗ (arg10.view.loc (c : Thread nD τ) ↦[arg10.view.set]{fullShare} f10))

/-- One trip at a symbolic chunk `k`: the pieces it writes into the output block are what the run finds. -/
@[irreducible] def chunkRun (hchk : Chk F) (X4 : BufTy.Contents (Elt F) arg4.view.ty) (X11 : BufTy.Contents (Elt F) arg11.view.ty)
    (f12 : BufTy.Contents (Elt F) arg12.view.ty) (k : Fin k1_t1_loop.trips) :
    { L : List (View.Piece (Elt F) S1x512x64 .f32) // ∀ (E : Set ℕ) (f10 : BufTy.Contents (Elt F) arg10.view.ty),
      iprop(ChunkRes (F := F) c arg4 arg10 arg11 X4 X11 f10 ∗ (arg12.view.loc (c : Thread nD τ) ↦[arg12.view.set]{fullShare} f12))
      ⊢ wp frame (wpE (defs₀ (F := F)) 𝒱 (c : Thread nD τ) bd) E
          (k1_t1_body (F := F) i arg1 harg1 arg2 harg2 arg3 harg3 arg4 harg4 arg5 harg5 arg6 harg6 arg7 harg7 arg8 harg8
            arg9 harg9 arg10 harg10 arg11 harg11 arg12 harg12 v19 v21 v23 v28 v30 v31 v33 k ())
          (fun _ => iprop(ChunkRes (F := F) c arg4 arg10 arg11 X4 X11 (arg10.view.writes (Elt F) f10 L)
            ∗ ∃ f, arg12.view.loc (c : Thread nD τ) ↦[arg12.view.set]{fullShare} f)) } := by
  have hk : k.val < 8 := Nat.lt_of_lt_of_le k.isLt k1_t1_abs.2.1
  have h := hchk (k1_pay7 v19 v21 v23 v28 (arg4.view.readAt (Elt F) (Rect.unit (s := S1x512x3) (k1_off1 k) S1x64x3.size (k1_off1_inb k)).toLoadRect X4))
  refine ⟨?_, fun E f10 => ?run⟩
  case run =>
    unfold k1_t1_body
    iintro ⟨⟨HR4, HR11, HW10⟩, HW12⟩
    sl_exec
    sl_step
    sl_close

/-- The generated recursion of the inner loop is `maxSt` of what the two scratch buffers hold. -/
theorem st_eq_maxSt (v34 : FVec F S3x64 .f32) (v39 : FVec F S64x3 .f32) (v71 : FVec F S64x32 .f32) (v84 : FVec F S64x4096 .f32)
    (v32 : FVec F S1x64 .f32) (v97 : BitVec 32) (hw : k1_chk1 v97) (X11 : BufTy.Contents (Elt F) arg11.view.ty)
    (X12 : BufTy.Contents (Elt F) arg12.view.ty) (n : ℕ) :
    st_k1_t2 (F := F) 𝒱 c bd i arg1 harg1 arg2 harg2 arg3 harg3 arg4 harg4 arg5 harg5 arg6 harg6 arg7 harg7 arg8 harg8 arg9 harg9 arg10 harg10 arg11 harg11 arg12 harg12 v30 v32 v34 v39 v71 v84 v97 hw X11 X12 k1_pay11 n
      = maxSt v97 hw (arg11.view.read (Elt F) X11) (arg12.view.read (Elt F) X12) n := by
  induction n with
  | zero => rfl
  | succ n ih =>
    rw [st_k1_t2.eq_2, maxSt.eq_2, ih]
    unfold st_k1_t2Step
    split
    · unfold tripR_k1_t2 trip_k1_t2; rfl
    · rfl

/-- What the run finds is the piece named above, whatever the mask scratch held before. -/
theorem chunkRun_eq (hchk : Chk F) (X4 : BufTy.Contents (Elt F) arg4.view.ty) (X11 : BufTy.Contents (Elt F) arg11.view.ty)
    (f12 : BufTy.Contents (Elt F) arg12.view.ty) (k : Fin k1_t1_loop.trips) :
    (chunkRun (F := F) 𝒱 c bd i arg1 harg1 arg2 harg2 arg3 harg3 arg4 harg4 arg5 harg5 arg6 harg6 arg7 harg7 arg8 harg8 arg9 harg9 arg10 harg10 arg11 harg11 arg12 harg12 v19 v21 v23 v28 v30 v31 v33 hchk X4 X11 f12 k).1
      = [chunkPiece hchk v19 v21 v23 v28 v30 v31 v33 (arg11.view.read (Elt F) X11) (arg4.view.read (Elt F) X4) k] := by
  have hM : arg12.view.read (Elt F) (arg12.view.writes (Elt F) arg12.view.junk (chunkRun.sl.HW12_1 arg4 v19 v21 v23 v28 X4 k))
      = k1_pay9 (k1_pay8 v19 v21 v23 v28
          (View.ld (arg4.view.read (Elt F) X4) (Rect.unit (s := S1x512x3) (k1_off1 k) S1x64x3.size (k1_off1_inb k)))) := by
    rw [View.read_writes_junk_eq_canon]
    exact View.canon_unit_zero (by funext a; match a with | 0 => rfl | 1 => rfl) _ _
  have e := (st_eq_maxSt 𝒱 c bd i arg1 harg1 arg2 harg2 arg3 harg3 arg4 harg4 arg5 harg5 arg6 harg6 arg7 harg7 arg8 harg8 arg9 harg9 arg10 harg10 arg11 harg11 arg12 harg12 v30
      (k1_pay2 v33) (k1_pay4 (arg4.view.readAt (Elt F) (Rect.unit (s := S1x512x3) (k1_off1 k) S1x64x3.size (k1_off1_inb k)).toLoadRect X4))
      (k1_pay7 v19 v21 v23 v28 (arg4.view.readAt (Elt F) (Rect.unit (s := S1x512x3) (k1_off1 k) S1x64x3.size (k1_off1_inb k)).toLoadRect X4))
      (k1_pay8 v19 v21 v23 v28 (arg4.view.readAt (Elt F) (Rect.unit (s := S1x512x3) (k1_off1 k) S1x64x3.size (k1_off1_inb k)).toLoadRect X4))
      (k1_pay1 v31) _ (hchk (k1_pay7 v19 v21 v23 v28 (arg4.view.readAt (Elt F) (Rect.unit (s := S1x512x3) (k1_off1 k) S1x64x3.size (k1_off1_inb k)).toLoadRect X4))) X11 (arg12.view.writes (Elt F) arg12.view.junk (chunkRun.sl.HW12_1 arg4 v19 v21 v23 v28 X4 k))
      (k1_t2_loop (Scalar.fptosi 32 (k1_pay10 (k1_pay7 v19 v21 v23 v28
        (arg4.view.readAt (Elt F) (Rect.unit (s := S1x512x3) (k1_off1 k) S1x64x3.size (k1_off1_inb k)).toLoadRect X4))))).trips).trans
    (congrArg (fun M => maxSt _ (hchk (k1_pay7 v19 v21 v23 v28 (arg4.view.readAt (Elt F) (Rect.unit (s := S1x512x3) (k1_off1 k) S1x64x3.size (k1_off1_inb k)).toLoadRect X4))) (arg11.view.read (Elt F) X11) M _) hM)
  unfold chunkRun chunkPiece chunkPay
  exact congrArg (fun z => [(⟨Rect.unit (s := S1x512x64) (k1_off6 k) S1x64x64.size (k1_off6_inb k),
    k1_pay3 (k1_pay14 v30 (k1_pay2 v33) (k1_pay4 (View.ld (arg4.view.read (Elt F) X4)
      (Rect.unit (s := S1x512x3) (k1_off1 k) S1x64x3.size (k1_off1_inb k)))) z) (k1_pay15 (k1_pay1 v31))⟩ :
      View.Piece (Elt F) S1x512x64 .f32)]) e

/-- The pieces of the first `n` chunks, the last first. -/
def chunkPieces (hchk : Chk F) (v19 v21 v23 : FVec F S1x4096 .f32) (v28 : FVec F S128x128 .f32) (v30 : FVec F S1x64 .f32)
    (v31 : Vec F S1x64 .f32) (v33 : Vec F S3x64 .f32) (P : Vec F S4096x64 .f32) (x4 : Vec F S1x512x3 .f32) :
    ℕ → List (View.Piece (Elt F) S1x512x64 .f32)
  | 0 => []
  | n + 1 =>
    if h : n < k1_t1_loop.trips then
      chunkPiece hchk v19 v21 v23 v28 v30 v31 v33 P x4 ⟨n, h⟩ :: chunkPieces hchk v19 v21 v23 v28 v30 v31 v33 P x4 n
    else chunkPieces hchk v19 v21 v23 v28 v30 v31 v33 P x4 n

/-- Before chunk `k`: the centres and the projected points as read, the output block holding the pieces of the chunks
    before, the mask scratch at anything. -/
abbrev chunkInv (hchk : Chk F) (X4 : BufTy.Contents (Elt F) arg4.view.ty) (X11 : BufTy.Contents (Elt F) arg11.view.ty)
    (G10 : BufTy.Contents (Elt F) arg10.view.ty) (k : ℕ) : sProp 𝕄 :=
  iprop((arg4.view.loc (c : Thread nD τ) ↦[arg4.view.set]{fullShare} X4)
    ∗ (arg11.view.loc (c : Thread nD τ) ↦[arg11.view.set]{fullShare} X11)
    ∗ (∃ f, (arg10.view.loc (c : Thread nD τ) ↦[arg10.view.set]{fullShare} f)
        ∗ ⌜f = arg10.view.writes (Elt F) G10 (chunkPieces hchk v19 v21 v23 v28 v30 v31 v33 (arg11.view.read (Elt F) X11) (arg4.view.read (Elt F) X4) k)⌝)
    ∗ ∃ f, arg12.view.loc (c : Thread nD τ) ↦[arg12.view.set]{fullShare} f)

set_option warn.classDefReducibility false in
/-- The loop over the eight chunks, by that invariant. -/
@[sl_loop] def loopInv_k1_t1 (E : Set ℕ) (hchk : Chk F) (X4 : BufTy.Contents (Elt F) arg4.view.ty)
    (X11 : BufTy.Contents (Elt F) arg11.view.ty) (G10 : BufTy.Contents (Elt F) arg10.view.ty) :
    LoopInvTy_k1_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 v19 v21 v23 v28 v30 v31 v33 where
  inv k _ := chunkInv (F := F) c arg4 arg10 arg11 arg12 v19 v21 v23 v28 v30 v31 v33 hchk X4 X11 G10 k
  step k acc := by
    iintro ⟨H4, H11, ⟨%f10, H10, %h10⟩, ⟨%f12, H12⟩⟩
    iapply (wp_wand_r Idealize.ShloMosaic.frame (wpE (defs₀ (F := F)) 𝒱 (c : Thread nD τ) bd) E)
    isplitl [H4 H11 H10 H12]
    · iapply ((chunkRun (F := F) 𝒱 c bd i arg1 harg1 arg2 harg2 arg3 harg3 arg4 harg4 arg5 harg5 arg6 harg6 arg7 harg7 arg8 harg8 arg9 harg9 arg10 harg10 arg11 harg11 arg12 harg12 v19 v21 v23 v28 v30 v31 v33 hchk X4 X11 f12 k).2 E f10)
      isplitr [H12]
      · isplitl [H4]; · iexact H4
        isplitl [H11]; · iexact H11
        iexact H10
      · iexact H12
    · iintro %yld ⟨⟨H4, H11, H10⟩, ⟨%f, H12⟩⟩
      isplitl [H4]; · iexact H4
      isplitl [H11]; · iexact H11
      isplitl [H10]
      · iexists _; isplitl [H10]; · iexact H10
        ipureintro
        rw [chunkRun_eq, h10, ← View.writes_append, chunkPieces.eq_2, dif_pos k.isLt]
        rfl
      · iexists f; iexact H12
end

/-- The output block of one grid point, as a function of its nine input blocks. -/
def groupPieces (hchk : Chk F) (x1 : Vec F S1x3x4096 .f32) (x2 : Vec F S1x4096x3 .f32) (x3 : Vec F S1x4096x32 .f32)
    (x4 : Vec F S1x512x3 .f32) (x5 : Vec F S3x64 .f32) (x6 : Vec F S32x64 .f32) (x7 x8 x9 : Vec F S1x64 .f32) (n : ℕ) :
    List (View.Piece (Elt F) S1x512x64 .f32) :=
  chunkPieces hchk
    (k1_pay17 (View.ld x1 (Rect.unit (s := S1x3x4096) ![0, 0, 0] S1x1x4096.size inb_S1x3x4096_S1x1x4096_0_0_0)))
    (k1_pay18 (View.ld x1 (Rect.unit (s := S1x3x4096) ![0, 1, 0] S1x1x4096.size inb_S1x3x4096_S1x1x4096_0_1_0)))
    (k1_pay19 (View.ld x1 (Rect.unit (s := S1x3x4096) ![0, 2, 0] S1x1x4096.size inb_S1x3x4096_S1x1x4096_0_2_0)))
    k1_pay20 (k1_pay21 x8) x9 x5 (k1_pay16 x3 x6 x2 x5 x7) x4 n

theorem group_body (𝒱 : Variants) (c : Dev nD) (bd : Option 𝒱.V) (i : grid1.Coords)
  (arg1 : Memref sig .tc .vmem S1x3x4096 .f32) (harg1 : arg1.IsWhole) (arg2 : Memref sig .tc .vmem S1x4096x3 .f32)
  (harg2 : arg2.IsWhole) (arg3 : Memref sig .tc .vmem S1x4096x32 .f32) (harg3 : arg3.IsWhole)
  (arg4 : Memref sig .tc .vmem S1x512x3 .f32) (harg4 : arg4.IsWhole) (arg5 : Memref sig .tc .vmem S3x64 .f32)
  (harg5 : arg5.IsWhole) (arg6 : Memref sig .tc .vmem S32x64 .f32) (harg6 : arg6.IsWhole)
  (arg7 : Memref sig .tc .vmem S1x64 .f32) (harg7 : arg7.IsWhole) (arg8 : Memref sig .tc .vmem S1x64 .f32)
  (harg8 : arg8.IsWhole) (arg9 : Memref sig .tc .vmem S1x64 .f32) (harg9 : arg9.IsWhole)
  (arg10 : Memref sig .tc .vmem S1x512x64 .f32) (harg10 : arg10.IsWhole) (arg11 : Memref sig .tc .vmem S4096x64 .f32)
  (harg11 : arg11.IsWhole) (arg12 : Memref sig .tc .vmem S64x4096 .f32) (harg12 : arg12.IsWhole)
  (hchk : Chk F) (f1 : BufTy.Contents (Elt F) arg1.view.ty) (f2 : BufTy.Contents (Elt F) arg2.view.ty)
  (f3 : BufTy.Contents (Elt F) arg3.view.ty) (f4 : BufTy.Contents (Elt F) arg4.view.ty)
  (f5 : BufTy.Contents (Elt F) arg5.view.ty) (f6 : BufTy.Contents (Elt F) arg6.view.ty)
  (f7 : BufTy.Contents (Elt F) arg7.view.ty) (f8 : BufTy.Contents (Elt F) arg8.view.ty)
  (f9 : BufTy.Contents (Elt F) arg9.view.ty) (f10 : BufTy.Contents (Elt F) arg10.view.ty)
  (f11 : BufTy.Contents (Elt F) arg11.view.ty) (f12 : BufTy.Contents (Elt F) arg12.view.ty) (E : Set ℕ) :
  (iprop((arg1.view.loc (c : Thread nD τ) ↦[arg1.view.set]{fullShare} f1)
    ∗ (arg2.view.loc (c : Thread nD τ) ↦[arg2.view.set]{fullShare} f2)
    ∗ (arg3.view.loc (c : Thread nD τ) ↦[arg3.view.set]{fullShare} f3)
    ∗ (arg4.view.loc (c : Thread nD τ) ↦[arg4.view.set]{fullShare} f4)
    ∗ (arg5.view.loc (c : Thread nD τ) ↦[arg5.view.set]{fullShare} f5)
    ∗ (arg6.view.loc (c : Thread nD τ) ↦[arg6.view.set]{fullShare} f6)
    ∗ (arg7.view.loc (c : Thread nD τ) ↦[arg7.view.set]{fullShare} f7)
    ∗ (arg8.view.loc (c : Thread nD τ) ↦[arg8.view.set]{fullShare} f8)
    ∗ (arg9.view.loc (c : Thread nD τ) ↦[arg9.view.set]{fullShare} f9)
    ∗ (arg10.view.loc (c : Thread nD τ) ↦[arg10.view.set]{fullShare} f10)
    ∗ (arg11.view.loc (c : Thread nD τ) ↦[arg11.view.set]{fullShare} f11)
    ∗ (arg12.view.loc (c : Thread nD τ) ↦[arg12.view.set]{fullShare} f12)) : sProp 𝕄)
  ⊢ wp frame (wpE (defs₀ (F := F)) 𝒱 (c : Thread nD τ) bd) E
      (cc1__group_body (F := F) i arg1 harg1 arg2 harg2 arg3 harg3 arg4 harg4 arg5 harg5 arg6 harg6 arg7 harg7 arg8 harg8
        arg9 harg9 arg10 harg10 arg11 harg11 arg12 harg12)
      (fun _ => iprop((arg1.view.loc (c : Thread nD τ) ↦[arg1.view.set]{fullShare} f1)
        ∗ (arg2.view.loc (c : Thread nD τ) ↦[arg2.view.set]{fullShare} f2)
        ∗ (arg3.view.loc (c : Thread nD τ) ↦[arg3.view.set]{fullShare} f3)
        ∗ (arg4.view.loc (c : Thread nD τ) ↦[arg4.view.set]{fullShare} f4)
        ∗ (arg5.view.loc (c : Thread nD τ) ↦[arg5.view.set]{fullShare} f5)
        ∗ (arg6.view.loc (c : Thread nD τ) ↦[arg6.view.set]{fullShare} f6)
        ∗ (arg7.view.loc (c : Thread nD τ) ↦[arg7.view.set]{fullShare} f7)
        ∗ (arg8.view.loc (c : Thread nD τ) ↦[arg8.view.set]{fullShare} f8)
        ∗ (arg9.view.loc (c : Thread nD τ) ↦[arg9.view.set]{fullShare} f9)
        ∗ (∃ g, (arg10.view.loc (c : Thread nD τ) ↦[arg10.view.set]{fullShare} g)
            ∗ ⌜g = arg10.view.writes (Elt F) f10 (groupPieces hchk (arg1.view.read (Elt F) f1) (arg2.view.read (Elt F) f2)
                (arg3.view.read (Elt F) f3) (arg4.view.read (Elt F) f4) (arg5.view.read (Elt F) f5) (arg6.view.read (Elt F) f6)
                (arg7.view.read (Elt F) f7) (arg8.view.read (Elt F) f8) (arg9.view.read (Elt F) f9) k1_t1_loop.trips)⌝)
        ∗ (∃ g, arg11.view.loc (c : Thread nD τ) ↦[arg11.view.set]{fullShare} g)
        ∗ (∃ g, arg12.view.loc (c : Thread nD τ) ↦[arg12.view.set]{fullShare} g))) := by
  rw [cc1__group_body_eq_skeleton]
  unfold cc1__group_body_skel
  iintro ⟨H1, H2, H3, H4, H5, H6, H7, H8, H9, H10, H11, H12⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; isplitl [H10]; · iexact H10
    ipureintro
    have h2 : (![0, 0] : Fin 2 → ℕ) = fun _ => 0 := by funext a; match a with | 0 => rfl | 1 => rfl
    have h3 : (![0, 0, 0] : Fin 3 → ℕ) = fun _ => 0 := by funext a; match a with | 0 => rfl | 1 => rfl | 2 => rfl
    have e3 : arg3.view.readAt (Elt F) (Rect.unit (s := S1x4096x32) ![0, 0, 0] S1x4096x32.size inb_S1x4096x32_S1x4096x32_0_0_0).toLoadRect f3
        = arg3.view.read (Elt F) f3 := View.ld_unit_zero h3 _ _
    have e6 : arg6.view.readAt (Elt F) (Rect.unit (s := S32x64) ![0, 0] S32x64.size inb_S32x64_S32x64_0_0).toLoadRect f6
        = arg6.view.read (Elt F) f6 := View.ld_unit_zero h2 _ _
    have e2 : arg2.view.readAt (Elt F) (Rect.unit (s := S1x4096x3) ![0, 0, 0] S1x4096x3.size inb_S1x4096x3_S1x4096x3_0_0_0).toLoadRect f2
        = arg2.view.read (Elt F) f2 := View.ld_unit_zero h3 _ _
    have e5 : arg5.view.readAt (Elt F) (Rect.unit (s := S3x64) ![0, 0] S3x64.size inb_S3x64_S3x64_0_0).toLoadRect f5
        = arg5.view.read (Elt F) f5 := View.ld_unit_zero h2 _ _
    have e7 : arg7.view.readAt (Elt F) (Rect.unit (s := S1x64) ![0, 0] S1x64.size inb_S1x64_S1x64_0_0).toLoadRect f7
        = arg7.view.read (Elt F) f7 := View.ld_unit_zero h2 _ _
    have e9 : arg9.view.readAt (Elt F) (Rect.unit (s := S1x64) ![0, 0] S1x64.size inb_S1x64_S1x64_0_0).toLoadRect f9
        = arg9.view.read (Elt F) f9 := View.ld_unit_zero h2 _ _
    have hP : arg11.view.read (Elt F) (arg11.view.writes (Elt F) arg11.view.junk
          (group_body.sl.H11_1 arg2 arg3 arg5 arg6 arg7 f2 f3 f5 f6 f7))
        = k1_pay16 (arg3.view.read (Elt F) f3) (arg6.view.read (Elt F) f6) (arg2.view.read (Elt F) f2)
            (arg5.view.read (Elt F) f5) (arg7.view.read (Elt F) f7) := by
      rw [View.read_writes_junk_eq_canon, ← e3, ← e6, ← e2, ← e5, ← e7]
      exact View.canon_unit_zero h2 _ _
    rw [hP]
    unfold groupPieces
    have e8 : group_body.sl.v30 arg8 f8 = k1_pay21 (arg8.view.read (Elt F) f8) :=
      congrArg k1_pay21 (View.ld_unit_zero h2 _ _)
    rw [e9, e5, e8]
    rfl
  isplitl [H11]; · iexists _; iexact H11
  iexists _; iexact H12
end Cert.KernelIdeal.Body
-- ==== Proof.KernelRun.lean ====
module

public import proofs.«01_k».proof.Proof.FpsBody
public import proofs.«01_k».proof.Proof.GroupTrip
public import proofs.«01_k».proof.Proof.Gen.KernelIdeal.Launch
public import proofs.«01_k».proof.Proof.Gen.KernelIdeal.Regions
public import Idealize.ShloMosaic.Lib.Pipeline.RegionArraysS

/-! The whole kernel program: two host stretches and two calls, run from any memory. -/

@[expose] public section
set_option maxRecDepth 16384
noncomputable section

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resource algebra of the frame kit. -/
local notation "𝕄" => MT nD τ sig Unit (Elt F) ℕ (UR sig nD τ) ℕ

/-- The rounds algebra inside the resource algebra. -/
def EP : Emb (UR sig nD τ) (MT nD τ sig Unit (Elt F) ℕ (UR sig nD τ) ℕ) :=
  (Emb.refl _).trans (uEmb (nD := nD) (sig := sig) (Ix := Unit) (Val := Elt F) (Name := ℕ) (U := UR sig nD τ) (Lvl := ℕ)).toEmb

instance EP_landsIn : (EP : Emb (UR sig nD τ) 𝕄).LandsIn (upEmb : UEmb _ 𝕄) := by unfold EP; infer_instance

/-! ## What the calls leave in their result blocks -/

theorem k0_trips : k0_t1_loop.trips = 512 := by decide +kernel
theorem k1_trips : k1_t1_loop.trips = 8 := by decide +kernel

/-- The piece of trip `k` is among those of the first `n` trips. -/
theorem fpsPiece_mem (v0 v2 v4 : Vec F S1x4x32x128 .f32) (init : FpsCarry F) (k : Fin k0_t1_loop.trips) :
    ∀ n, (k : ℕ) < n → fpsPiece (fpsAcc v0 v2 v4 init k) k ∈ fpsPieces v0 v2 v4 init n
  | 0, h => absurd h (Nat.not_lt_zero _)
  | n + 1, h => by
    rw [fpsPieces.eq_2]
    by_cases e : (k : ℕ) = n
    · subst e; rw [dif_pos k.isLt]; exact List.mem_cons_self
    · have := fpsPiece_mem v0 v2 v4 init k n (by omega)
      split
      · exact List.mem_cons_of_mem _ this
      · exact this

/-- Row `k` of the centres is the piece of trip `k`. -/
theorem mem_fpsPiece (acc : FpsCarry F) (k : Fin k0_t1_loop.trips) (y : S4x512x3.Idx) :
    y ∈ (fpsPiece acc k).1.set ↔ (y 1 : ℕ) = k := by
  have h0 : (y 0 : ℕ) < 4 := (y 0).isLt
  have h2 : (y 2 : ℕ) < 3 := (y 2).isLt
  unfold fpsPiece
  rw [Rect.mem_set_unit, k0_off1_eq]
  constructor
  · intro h
    have h1 : (k : ℕ) ≤ (y 1 : ℕ) ∧ (y 1 : ℕ) < k + 1 := h 1
    omega
  · intro h a
    match a with
    | 0 => exact ⟨Nat.zero_le _, by show (y 0 : ℕ) < 0 + 4; omega⟩
    | 1 => exact ⟨by show (k : ℕ) ≤ (y 1 : ℕ); omega, by show (y 1 : ℕ) < k + 1; omega⟩
    | 2 => exact ⟨Nat.zero_le _, by show (y 2 : ℕ) < 0 + 3; omega⟩

/-- The pieces cover the block of centres. -/
theorem fps_cover (x : Vec F S3x4x32x128 .f32) (y : S4x512x3.Idx) : ∃ p ∈ fpsOutPieces x, y ∈ p.1.set := by
  have h : (y 1 : ℕ) < k0_t1_loop.trips := by rw [k0_trips]; exact (y 1).isLt
  exact ⟨_, fpsPiece_mem _ _ _ _ ⟨_, h⟩ _ h, (mem_fpsPiece _ _ _).mpr rfl⟩

/-- What the farthest-point call leaves. -/
def fpsOut (x : Vec F S3x4x32x128 .f32) : Vec F S4x512x3 .f32 := View.canon (fpsOutPieces x)

/-- The piece of chunk `k` is among those of the first `n` chunks. -/
theorem chunkPiece_mem (hchk : Chk F) (v19 v21 v23 : FVec F S1x4096 .f32) (v28 : FVec F S128x128 .f32) (v30 : FVec F S1x64 .f32)
    (v31 : Vec F S1x64 .f32) (v33 : Vec F S3x64 .f32) (P : Vec F S4096x64 .f32) (x4 : Vec F S1x512x3 .f32) (k : Fin k1_t1_loop.trips) :
    ∀ n, (k : ℕ) < n → chunkPiece hchk v19 v21 v23 v28 v30 v31 v33 P x4 k ∈ chunkPieces hchk v19 v21 v23 v28 v30 v31 v33 P x4 n
  | 0, h => absurd h (Nat.not_lt_zero _)
  | n + 1, h => by
    rw [chunkPieces.eq_2]
    by_cases e : (k : ℕ) = n
    · subst e; rw [dif_pos k.isLt]; exact List.mem_cons_self
    · have := chunkPiece_mem hchk v19 v21 v23 v28 v30 v31 v33 P x4 k n (by omega)
      split
      · exact List.mem_cons_of_mem _ this
      · exact this

/-- Rows `64 k` to `64 k + 63` of the features are the piece of chunk `k`. -/
theorem mem_chunkPiece (hchk : Chk F) (v19 v21 v23 : FVec F S1x4096 .f32) (v28 : FVec F S128x128 .f32) (v30 : FVec F S1x64 .f32)
    (v31 : Vec F S1x64 .f32) (v33 : Vec F S3x64 .f32) (P : Vec F S4096x64 .f32) (x4 : Vec F S1x512x3 .f32) (k : Fin k1_t1_loop.trips)
    (y : S1x512x64.Idx) :
    y ∈ (chunkPiece hchk v19 v21 v23 v28 v30 v31 v33 P x4 k).1.set ↔ (y 1 : ℕ) / 64 = k := by
  have h0 : (y 0 : ℕ) < 1 := (y 0).isLt
  have h2 : (y 2 : ℕ) < 64 := (y 2).isLt
  unfold chunkPiece
  rw [Rect.mem_set_unit, k1_off6_eq]
  constructor
  · intro h
    have h1 : 64 * (k : ℕ) ≤ (y 1 : ℕ) ∧ (y 1 : ℕ) < 64 * k + 64 := h 1
    omega
  · intro h a
    match a with
    | 0 => exact ⟨Nat.zero_le _, by show (y 0 : ℕ) < 0 + 1; omega⟩
    | 1 => exact ⟨by show 64 * (k : ℕ) ≤ (y 1 : ℕ); omega, by show (y 1 : ℕ) < 64 * k + 64; omega⟩
    | 2 => exact ⟨Nat.zero_le _, by show (y 2 : ℕ) < 0 + 64; omega⟩

/-- The pieces cover the block of features. -/
theorem group_cover (hchk : Chk F) (x1 : Vec F S1x3x4096 .f32) (x2 : Vec F S1x4096x3 .f32) (x3 : Vec F S1x4096x32 .f32)
    (x4 : Vec F S1x512x3 .f32) (x5 : Vec F S3x64 .f32) (x6 : Vec F S32x64 .f32) (x7 x8 x9 : Vec F S1x64 .f32) (y : S1x512x64.Idx) :
    ∃ p ∈ groupPieces hchk x1 x2 x3 x4 x5 x6 x7 x8 x9 k1_t1_loop.trips, y ∈ p.1.set := by
  have h : (y 1 : ℕ) / 64 < k1_t1_loop.trips := by
    rw [k1_trips]
    have : (y 1 : ℕ) < 512 := (y 1).isLt
    omega
  exact ⟨_, chunkPiece_mem hchk _ _ _ _ _ _ _ _ _ ⟨_, h⟩ _ h, (mem_chunkPiece hchk _ _ _ _ _ _ _ _ _ _ _).mpr rfl⟩

/-- What the grouping call leaves at one point. -/
def groupOut (hchk : Chk F) (x1 : Vec F S1x3x4096 .f32) (x2 : Vec F S1x4096x3 .f32) (x3 : Vec F S1x4096x32 .f32)
    (x4 : Vec F S1x512x3 .f32) (x5 : Vec F S3x64 .f32) (x6 : Vec F S32x64 .f32) (x7 x8 x9 : Vec F S1x64 .f32) :
    Vec F S1x512x64 .f32 :=
  View.canon (groupPieces hchk x1 x2 x3 x4 x5 x6 x7 x8 x9 k1_t1_loop.trips)

/-- What is left depends on the blocks read only. -/
theorem groupOut_congr (hchk : Chk F) {x1 y1 : Vec F S1x3x4096 .f32} {x2 y2 : Vec F S1x4096x3 .f32} {x3 y3 : Vec F S1x4096x32 .f32}
    {x4 y4 : Vec F S1x512x3 .f32} {x5 y5 : Vec F S3x64 .f32} {x6 y6 : Vec F S32x64 .f32} {x7 x8 x9 y7 y8 y9 : Vec F S1x64 .f32}
    (h1 : x1 = y1) (h2 : x2 = y2) (h3 : x3 = y3) (h4 : x4 = y4) (h5 : x5 = y5) (h6 : x6 = y6) (h7 : x7 = y7) (h8 : x8 = y8)
    (h9 : x9 = y9) :
    View.canon (groupPieces hchk x1 x2 x3 x4 x5 x6 x7 x8 x9 k1_t1_loop.trips) = groupOut hchk y1 y2 y3 y4 y5 y6 y7 y8 y9 := by
  subst h1 h2 h3 h4 h5 h6 h7 h8 h9; rfl

/-! ## The buffers between the items, and the proof data of the two calls -/

variable (hchk : Chk F) (m : (ℓ : Loc nD τ sig) → Buf (Elt F) ℓ) (ρ : Dev nD → PrngReg)

/-- The buffers when the first call is entered. -/
abbrev U1 (c : Dev nD) : Valuation τ sig (Elt F) := StableHlo.after hostOps0 (fun b => m (c, b))

/-- The first call's proof data. -/
def dat0 (c : Dev nD) : Dat τ (Elt F) Unit ℕ (UR sig nD τ) ℕ cfg0 c where
  A w := U1 m c (Proc.devRef .tc (Pipeline.arrRef spec0 w))
  after w t := match w with
    | ⟨0, _⟩ => (win0_0.blk t).view.read (Elt F) (U1 m c main_v1)
    | ⟨1, _⟩ => fpsOut ((win0_0.blk t).view.read (Elt F) (U1 m c main_v1))
  Φ _ := Pipeline.scopedRest (Ix := Unit) (Name := ℕ) (U := UR sig nD τ) (Lvl := ℕ) (Val := Elt F) spec0 c
  q _ := fullShare
  owed _ := 0

/-- The buffers after the first call, and when the second is entered. -/
def U2 (c : Dev nD) : Valuation τ sig (Elt F) := Pipeline.afterRegion (dat0 m c) (U1 m c)
def U3 (c : Dev nD) : Valuation τ sig (Elt F) := StableHlo.after hostOps1 (U2 m c)

/-- The block of window `w`'s array at point `t`. -/
def blk1 (c : Dev nD) (w : Fin cfg1.W) (t : Fin cfg1.N) : ((cfg1.win w).xblock (cfg1.grid.coords t)).Idx → Elt F (cfg1.win w).elt :=
  ((cfg1.win w).blk t).view.read (Elt F) (U3 m c (Proc.devRef .tc (Pipeline.arrRef spec1 w)))

/-- The second call's proof data. -/
def dat1 (c : Dev nD) : Dat τ (Elt F) Unit ℕ (UR sig nD τ) ℕ cfg1 c where
  A w := U3 m c (Proc.devRef .tc (Pipeline.arrRef spec1 w))
  after w t := match w with
    | ⟨0, _⟩ => blk1 m c 0 t
    | ⟨1, _⟩ => blk1 m c 1 t
    | ⟨2, _⟩ => blk1 m c 2 t
    | ⟨3, _⟩ => blk1 m c 3 t
    | ⟨4, _⟩ => blk1 m c 4 t
    | ⟨5, _⟩ => blk1 m c 5 t
    | ⟨6, _⟩ => blk1 m c 6 t
    | ⟨7, _⟩ => blk1 m c 7 t
    | ⟨8, _⟩ => blk1 m c 8 t
    | ⟨9, _⟩ => groupOut hchk (blk1 m c 0 t) (blk1 m c 1 t) (blk1 m c 2 t) (blk1 m c 3 t) (blk1 m c 4 t)
        (blk1 m c 5 t) (blk1 m c 6 t) (blk1 m c 7 t) (blk1 m c 8 t)
  Φ _ := Pipeline.scopedRest (Ix := Unit) (Name := ℕ) (U := UR sig nD τ) (Lvl := ℕ) (Val := Elt F) spec1 c
  q _ := fullShare
  owed _ := 0

/-- The buffers at the end. -/
def U4 (c : Dev nD) : Valuation τ sig (Elt F) := Pipeline.afterRegion (dat1 hchk m c) (U3 m c)

/-- The proof data of both calls. -/
def dats (p : Fin 2) (c : Dev nD) : Dat τ (Elt F) Unit ℕ (UR sig nD τ) ℕ (cfgs p) c :=
  match p with
  | ⟨0, _⟩ => dat0 m c
  | ⟨1, _⟩ => dat1 hchk m c

theorem before0 (c : Dev nD) (d) : (dat0 m c).before 0 t0_0 d = (win0_0.blk t0_0).view.read (Elt F) (U1 m c main_v1) := by
  unfold Dat.before; rw [if_pos (by decide)]; rfl

/-- An input window of the second call holds its block at every point. -/
theorem before1 (c : Dev nD) (t : Fin cfg1.N) (w : Fin cfg1.W) (hw : (cfg1.win w).isOut = false) (d) :
    (dat1 hchk m c).before w t d = (dat1 hchk m c).after w t := by
  revert hw d
  fin_cases w <;> first
    | (intro hw d; exact absurd hw (by decide))
    | (intro hw d
       exact (dat1 hchk m c).before_in_eq_fetched _ hw (fun _ => rfl) (fun _ _ _ => rfl) (fun _ => rfl) t d)

/-- A triple followed by a wand from its post. -/
theorem wp_then {p : Prog (TpuEff nD τ sig (Elt F) Λ₀ .tc) PUnit} {c : Dev nD} {A B : sProp 𝕄} {Q : PUnit → sProp 𝕄}
    (h : A ⊢ wp frame (wpE (defs₀ (F := F)) Variants.none (c : Thread nD τ) none) Set.univ p (fun _ => B)) :
    (iprop(A ∗ (B -∗ Q ⟨⟩)) : sProp 𝕄) ⊢ wp frame (wpE (defs₀ (F := F)) Variants.none (c : Thread nD τ) none) Set.univ p Q :=
  (sep_mono h .rfl).trans ((wp_frame_r frame _ _).trans (wp_mono frame _ _ fun _ => by
    iintro ⟨H, K⟩; iapply K; iexact H))

theorem body0 (c : Dev nD) : BodyObligation (dat0 m c) (defs₀ (F := F)) Variants.none () Set.univ := fun t => by
  obtain rfl := fin_N0 t
  rw [bigSep_W0, bigSep_W0]
  rw [show (dat0 m c).Φ t0_0.castSucc = Pipeline.scopedRest (Ix := Unit) (Name := ℕ) (U := UR sig nD τ) (Lvl := ℕ) (Val := Elt F) spec0 c from rfl,
    show (dat0 m c).Φ t0_0.succ = Pipeline.scopedRest (Ix := Unit) (Name := ℕ) (U := UR sig nD τ) (Lvl := ℕ) (Val := Elt F) spec0 c from rfl]
  unfold Dat.owesAt Pipeline.owesWithin owns
  rw [show (dat0 m c).owed t0_0.castSucc = 0 from rfl, show (dat0 m c).owed t0_0.succ = 0 from rfl]
  iintro ⟨HΦ, ⟨%W, %hW, HO⟩, ⟨%d0, %f0, %hf0, H0⟩, ⟨%d1, %f1, %hf1, H1⟩⟩
  rw [before0] at hf0
  iapply (wp_then (fps_body Variants.none c none _ (hstage0_0 0) _ (hstage0_1 0) f0 f1 Set.univ))
  isplitl [H0 H1]
  · isplitl [H0] <;> iassumption
  iintro ⟨H0, ⟨%g, H1, %hg⟩⟩
  subst hg
  isplitl [HΦ]; · iexact HΦ
  isplitl [HO]
  · iexists W; isplitr; · ipureintro; exact hW
    iexact HO
  isplitl [H0]
  · iexists _; isplitr; swap; (· iexact H0); ipureintro; exact hf0
  iexists _; isplitr; swap; (· iexact H1); ipureintro
  rw [View.read_writes_eq_canon _ _ _ (fun y => fps_cover _ y), hf0]
  rfl

set_option maxHeartbeats 2000000 in
/-- The second call's body at a point, on the staging buffers. -/
theorem body1_run (c : Dev nD) (t : Fin cfg1.N) :
    (iprop((dat1 hchk m c).Φ t.castSucc ∗ (dat1 hchk m c).owesAt () t.castSucc
      ∗ (∃ d, owns (c : Thread nD τ) ((cfg1.win 0).stage (cfg1.slots t 0)) fullShare ((dat1 hchk m c).before 0 t d)) ∗ (∃ d, owns (c :
      Thread nD τ) ((cfg1.win 1).stage (cfg1.slots t 1)) fullShare ((dat1 hchk m c).before 1 t d)) ∗ (∃ d, owns (c : Thread nD τ)
      ((cfg1.win 2).stage (cfg1.slots t 2)) fullShare ((dat1 hchk m c).before 2 t d)) ∗ (∃ d, owns (c : Thread nD τ) ((cfg1.win 3).stage
      (cfg1.slots t 3)) fullShare ((dat1 hchk m c).before 3 t d)) ∗ (∃ d, owns (c : Thread nD τ) ((cfg1.win 4).stage (cfg1.slots t 4))
      fullShare ((dat1 hchk m c).before 4 t d)) ∗ (∃ d, owns (c : Thread nD τ) ((cfg1.win 5).stage (cfg1.slots t 5)) fullShare ((dat1
      hchk m c).before 5 t d)) ∗ (∃ d, owns (c : Thread nD τ) ((cfg1.win 6).stage (cfg1.slots t 6)) fullShare ((dat1 hchk m c).before 6
      t d)) ∗ (∃ d, owns (c : Thread nD τ) ((cfg1.win 7).stage (cfg1.slots t 7)) fullShare ((dat1 hchk m c).before 7 t d)) ∗ (∃ d, owns
      (c : Thread nD τ) ((cfg1.win 8).stage (cfg1.slots t 8)) fullShare ((dat1 hchk m c).before 8 t d)) ∗ (∃ d, owns (c : Thread nD τ)
      ((cfg1.win 9).stage (cfg1.slots t 9)) fullShare ((dat1 hchk m c).before 9 t d))) : sProp 𝕄)
    ⊢ wp frame (wpE (defs₀ (F := F)) Variants.none (c : Thread nD τ) none) Set.univ (bodyAt1 t) fun _ =>
      iprop((dat1 hchk m c).Φ t.succ ∗ (dat1 hchk m c).owesAt () t.succ
      ∗ owns (c : Thread nD τ) ((cfg1.win 0).stage (cfg1.slots t 0)) fullShare ((dat1 hchk m c).after 0 t) ∗ owns (c : Thread nD τ)
      ((cfg1.win 1).stage (cfg1.slots t 1)) fullShare ((dat1 hchk m c).after 1 t) ∗ owns (c : Thread nD τ) ((cfg1.win 2).stage
      (cfg1.slots t 2)) fullShare ((dat1 hchk m c).after 2 t) ∗ owns (c : Thread nD τ) ((cfg1.win 3).stage (cfg1.slots t 3)) fullShare
      ((dat1 hchk m c).after 3 t) ∗ owns (c : Thread nD τ) ((cfg1.win 4).stage (cfg1.slots t 4)) fullShare ((dat1 hchk m c).after 4 t) ∗
      owns (c : Thread nD τ) ((cfg1.win 5).stage (cfg1.slots t 5)) fullShare ((dat1 hchk m c).after 5 t) ∗ owns (c : Thread nD τ)
      ((cfg1.win 6).stage (cfg1.slots t 6)) fullShare ((dat1 hchk m c).after 6 t) ∗ owns (c : Thread nD τ) ((cfg1.win 7).stage
      (cfg1.slots t 7)) fullShare ((dat1 hchk m c).after 7 t) ∗ owns (c : Thread nD τ) ((cfg1.win 8).stage (cfg1.slots t 8)) fullShare
      ((dat1 hchk m c).after 8 t) ∗ owns (c : Thread nD τ) ((cfg1.win 9).stage (cfg1.slots t 9)) fullShare ((dat1 hchk m c).after 9 t)) := by
  rw [show (dat1 hchk m c).Φ t.castSucc = Pipeline.scopedRest (Ix := Unit) (Name := ℕ) (U := UR sig nD τ) (Lvl := ℕ) (Val := Elt F) spec1 c from rfl,
    show (dat1 hchk m c).Φ t.succ = Pipeline.scopedRest (Ix := Unit) (Name := ℕ) (U := UR sig nD τ) (Lvl := ℕ) (Val := Elt F) spec1 c from rfl,
    scopedRest1_eq]
  unfold Dat.owesAt Pipeline.owesWithin owns
  rw [show (dat1 hchk m c).owed t.castSucc = 0 from rfl, show (dat1 hchk m c).owed t.succ = 0 from rfl]
  iintro ⟨⟨HA, HB, ⟨%g11, H11⟩, ⟨%g12, H12⟩⟩, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩⟩
  rw [before1 hchk m c t _ rfl] at hf0 hf1 hf2 hf3 hf4 hf5 hf6 hf7 hf8
  iapply (wp_then (group_body Variants.none c none (grid1.coords t) _ (hstage1_0 ((cfg1.slots t 0).cast nbuf1_0)) _ (hstage1_1 ((cfg1.slots t 1).cast nbuf1_1))
    _ (hstage1_2 ((cfg1.slots t 2).cast nbuf1_2)) _ (hstage1_3 ((cfg1.slots t 3).cast nbuf1_3)) _ (hstage1_4 ((cfg1.slots t 4).cast nbuf1_4))
    _ (hstage1_5 ((cfg1.slots t 5).cast nbuf1_5)) _ (hstage1_6 ((cfg1.slots t 6).cast nbuf1_6)) _ (hstage1_7 ((cfg1.slots t 7).cast nbuf1_7))
    _ (hstage1_8 ((cfg1.slots t 8).cast nbuf1_8)) _ (hstage1_9 ((cfg1.slots t 9).cast nbuf1_9)) (Memref.whole cc1_scratch0) (Memref.isWhole_whole _)
    (Memref.whole cc1_scratch1) (Memref.isWhole_whole _) hchk f0 f1 f2 f3 f4 f5 f6 f7 f8 f9 g11 g12 Set.univ))
  isplitl [H0 H1 H2 H3 H4 H5 H6 H7 H8 H9 H11 H12]
  · simp only [Memref.view_whole, View.set_whole]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H11]; · iexact H11
    iexact H12
  iintro ⟨H0, H1, H2, H3, H4, H5, H6, H7, H8, ⟨%g, H9, %hg⟩, ⟨%g11', H11⟩, ⟨%g12', H12⟩⟩
  subst hg
  simp only [Memref.view_whole, View.set_whole]
  isplitl [HA HB H11 H12]
  · isplitl [HA]; · iexact HA
    isplitl [HB]; · iexact HB
    isplitl [H11]; · iexists _; iexact H11
    iexists _; iexact H12
  isplitl [HO]
  · iexists W; isplitr; · ipureintro; exact hW
    iexact HO
  isplitl [H0]
  · iexists _; isplitr; swap; (· iexact H0); ipureintro; exact hf0
  isplitl [H1]
  · iexists _; isplitr; swap; (· iexact H1); ipureintro; exact hf1
  isplitl [H2]
  · iexists _; isplitr; swap; (· iexact H2); ipureintro; exact hf2
  isplitl [H3]
  · iexists _; isplitr; swap; (· iexact H3); ipureintro; exact hf3
  isplitl [H4]
  · iexists _; isplitr; swap; (· iexact H4); ipureintro; exact hf4
  isplitl [H5]
  · iexists _; isplitr; swap; (· iexact H5); ipureintro; exact hf5
  isplitl [H6]
  · iexists _; isplitr; swap; (· iexact H6); ipureintro; exact hf6
  isplitl [H7]
  · iexists _; isplitr; swap; (· iexact H7); ipureintro; exact hf7
  isplitl [H8]
  · iexists _; isplitr; swap; (· iexact H8); ipureintro; exact hf8
  iexists _; isplitr; swap; (· iexact H9); ipureintro
  exact (View.read_writes_eq_canon _ _ _ (fun y => group_cover hchk _ _ _ _ _ _ _ _ _ y)).trans
    (groupOut_congr hchk hf0 hf1 hf2 hf3 hf4 hf5 hf6 hf7 hf8)

theorem body1 (c : Dev nD) : BodyObligation (dat1 hchk m c) (defs₀ (F := F)) Variants.none () Set.univ := fun t => by
  rw [bigSep_W1, bigSep_W1]
  exact body1_run hchk m c t

/-! ## The program as segments -/

/-- One level for every semaphore of a TensorCore. -/
abbrev L : GSem nD τ sig → Finset Unit := fun g => if g.1.2 = .tc then {()} else ∅
abbrev lv : GSem nD τ sig → Unit → ℕ := fun _ _ => 0

/-- What rides beside the buffers: the core owes nothing. -/
abbrev R (c : Dev nD) : sProp 𝕄 := iprop(∃ W, owes (c : Thread nD τ) (0 : CellTallies nD τ sig Unit) W)

/-- The host stretches. -/
def host0 : Pipeline.HostSeg (Name := ℕ) (U := UR sig nD τ) (pcfgs (F := F)) defs₀ Variants.none L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (fun c b => m (c, b)) R
def host1 : Pipeline.HostSeg (Name := ℕ) (U := UR sig nD τ) (pcfgs (F := F)) defs₀ Variants.none L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U2 m) R

theorem cut (p : Fin 2) : Pipeline.LevelCut (nD := nD) (τ := τ) (pcfgs (F := F)) adm () L lv p (fun _ => 0) (fun _ => 0) where
  hι c w s := by
    unfold L; rw [if_pos rfl]; exact Finset.mem_singleton_self _
  hιb _ _ _ := le_refl _
  hD _ _ _ h := absurd h (lt_irrefl _)

set_option backward.isDefEq.respectTransparency.types false in
/-- The first call. -/
def region0 : Pipeline.RegionSeg (pcfgs (F := F)) adm (dats hchk m) () defs₀ Variants.none L lv 0 :=
  Pipeline.RegionSeg.ofHeldIn (pcfgs (F := F)) adm (dats hchk m) () defs₀ Variants.none L lv 0 (fun _ => 0) (Pipeline.ucRefs τ sig)
    (fun _ => iprop(emp)) (fun _ => iprop(emp)) launch0.toP rfl (fun c => (body0 m c).loose) (fun _ _ => rfl) (fun _ => rfl)
    (fun c w => (dat0 m c).share_full (fun _ => rfl) w)
    (fun c => by
      show iprop(Pipeline.scopedRest (Ix := Unit) (Name := ℕ) (U := UR sig nD τ) (Lvl := ℕ) (Val := Elt F) spec0 c ∗ emp)
        ⊢ Pipeline.scopedRest (Ix := Unit) (Name := ℕ) (U := UR sig nD τ) (Lvl := ℕ) (Val := Elt F) spec0 c
      iintro ⟨H, -⟩; iexact H)
    (fun c => by
      show Pipeline.scopedRest (Ix := Unit) (Name := ℕ) (U := UR sig nD τ) (Lvl := ℕ) (Val := Elt F) spec0 c
        ⊢ iprop(Pipeline.scopedRest (Ix := Unit) (Name := ℕ) (U := UR sig nD τ) (Lvl := ℕ) (Val := Elt F) spec0 c ∗ emp)
      iintro H; isplitl [H]; (· iexact H); iempintro)
    (fun _ => 0) (cut 0) (fun _ => iprop(emp)) (U1 m) (fun _ _ => rfl)

set_option backward.isDefEq.respectTransparency.types false in
/-- The second call. -/
def region1 : Pipeline.RegionSeg (pcfgs (F := F)) adm (dats hchk m) () defs₀ Variants.none L lv 1 :=
  Pipeline.RegionSeg.ofHeldIn (pcfgs (F := F)) adm (dats hchk m) () defs₀ Variants.none L lv 1 (fun _ => 0) (Pipeline.ucRefs τ sig)
    (fun _ => iprop(emp)) (fun _ => iprop(emp)) launch1.toP rfl (fun c => (body1 hchk m c).loose) (fun _ _ => rfl) (fun _ => rfl)
    (fun c w => (dat1 hchk m c).share_full (fun _ => rfl) w)
    (fun c => by
      show iprop(Pipeline.scopedRest (Ix := Unit) (Name := ℕ) (U := UR sig nD τ) (Lvl := ℕ) (Val := Elt F) spec1 c ∗ emp)
        ⊢ Pipeline.scopedRest (Ix := Unit) (Name := ℕ) (U := UR sig nD τ) (Lvl := ℕ) (Val := Elt F) spec1 c
      iintro ⟨H, -⟩; iexact H)
    (fun c => by
      show Pipeline.scopedRest (Ix := Unit) (Name := ℕ) (U := UR sig nD τ) (Lvl := ℕ) (Val := Elt F) spec1 c
        ⊢ iprop(Pipeline.scopedRest (Ix := Unit) (Name := ℕ) (U := UR sig nD τ) (Lvl := ℕ) (Val := Elt F) spec1 c ∗ emp)
      iintro H; isplitl [H]; (· iexact H); iempintro)
    (fun _ => 0) (cut 1) (fun _ => iprop(emp)) (U3 m) (fun _ _ => rfl)

/-- Every buffer the calls and the host operations name. -/
abbrev S : Finset (DevRef τ sig) := Pipeline.ucRefs τ sig

theorem entry_of {P A B : sProp 𝕄} (h : iprop(A ∗ (B ∗ emp ∗ emp)) ⊢ P) : iprop(A ∗ B) ⊢ P := by
  refine (show iprop(A ∗ B) ⊢ iprop(A ∗ (B ∗ emp ∗ emp)) from ?_).trans h
  iintro ⟨HA, HB⟩
  isplitl [HA]; · iexact HA
  isplitl [HB]; · iexact HB
  isplitl []; · iempintro
  iempintro

theorem exit_of {P A B : sProp 𝕄} (h : P ⊢ iprop(A ∗ (B ∗ emp ∗ emp))) : P ⊢ iprop(A ∗ B) := by
  refine h.trans ?_
  iintro ⟨HA, HB, -, -⟩
  isplitl [HA]; · iexact HA
  iexact HB

theorem arr0_sub : Pipeline.arrRefs (τ := τ) (pcfgs (F := F) 0).spec ⊆ S := Pipeline.arrRefs_sub_ucRefs spec0 (by decide)
theorem arr1_sub : Pipeline.arrRefs (τ := τ) (pcfgs (F := F) 1).spec ⊆ S := Pipeline.arrRefs_sub_ucRefs spec1 (by decide)

set_option backward.isDefEq.respectTransparency.types false in
theorem region0_pre (c : Dev nD) : iprop(StableHlo.held (c : Thread nD τ) S (U1 m c) ∗ R c) ⊢ (region0 hchk m).pre c := by
  unfold region0
  exact entry_of (Pipeline.RegionSeg.ofHeldIn_pre (a := adm) (W := U1 m) (R := fun _ => iprop(emp)) (X := fun _ => iprop(emp))
    (D := fun _ => 0) arr0_sub c)

set_option backward.isDefEq.respectTransparency.types false in
theorem region0_post (c : Dev nD) : (region0 hchk m).post c ⊢ iprop(StableHlo.held (c : Thread nD τ) S (U2 m c) ∗ R c) := by
  unfold region0
  exact exit_of (Pipeline.RegionSeg.ofHeldIn_post (a := adm) arr0_sub c)

set_option backward.isDefEq.respectTransparency.types false in
theorem region1_pre (c : Dev nD) : iprop(StableHlo.held (c : Thread nD τ) S (U3 m c) ∗ R c) ⊢ (region1 hchk m).pre c := by
  unfold region1
  exact entry_of (Pipeline.RegionSeg.ofHeldIn_pre (a := adm) (W := U3 m) (R := fun _ => iprop(emp)) (X := fun _ => iprop(emp))
    (D := fun _ => 0) arr1_sub c)

set_option backward.isDefEq.respectTransparency.types false in
theorem region1_post (c : Dev nD) : (region1 hchk m).post c ⊢ iprop(StableHlo.held (c : Thread nD τ) S (U4 hchk m c) ∗ R c) := by
  unfold region1
  exact exit_of (Pipeline.RegionSeg.ofHeldIn_post (a := adm) arr1_sub c)

theorem host0_pre (c : Dev nD) : iprop(StableHlo.held (c : Thread nD τ) S (fun b => m (c, b)) ∗ R c) ⊢ (host0 m).pre c := .rfl
theorem host0_post (c : Dev nD) : (host0 m).post c ⊢ iprop(StableHlo.held (c : Thread nD τ) S (U1 m c) ∗ R c) := .rfl
theorem host1_pre (c : Dev nD) : iprop(StableHlo.held (c : Thread nD τ) S (U2 m c) ∗ R c) ⊢ (host1 m).pre c := .rfl
theorem host1_post (c : Dev nD) : (host1 m).post c ⊢ iprop(StableHlo.held (c : Thread nD τ) S (U3 m c) ∗ R c) := .rfl

/-- The items in order. -/
abbrev items : List (Pipeline.Seg (pcfgs (F := F)) adm (dats hchk m) () defs₀ Variants.none L lv) :=
  [.host (host0 m), .region (region0 hchk m), .host (host1 m), .region (region1 hchk m)]

theorem items_chain : Pipeline.Seg.Chains (fun c => iprop(StableHlo.held (c : Thread nD τ) S (fun b => m (c, b)) ∗ R c)) (items hchk m)
    (fun c => iprop(StableHlo.held (c : Thread nD τ) S (U4 hchk m c) ∗ R c)) :=
  ⟨host0_pre m, fun c => (host0_post m c).trans (region0_pre hchk m c), fun c => (region0_post hchk m c).trans (host1_pre m c),
    fun c => (host1_post m c).trans (region1_pre hchk m c), region1_post hchk m⟩

theorem items_main (c : Dev nD) (Q : PUnit → sProp 𝕄) :
    wp frame (wpE (Pipeline.defs (pcfgs (F := F)) defs₀) (Variants.lift Variants.none) (c : Thread nD τ) none) Set.univ (Pipeline.Seg.run (items hchk m)) Q
      ⊢ wp frame (wpE (Pipeline.defs (pcfgs (F := F)) defs₀) (Variants.lift Variants.none) (c : Thread nD τ) none) Set.univ (main (F := F) c) Q := by
  rw [main_segs adm (dats hchk m) () Variants.none L lv (host0 m) (host1 m) (region0 hchk m) (region1 hchk m) rfl rfl c]

set_option maxHeartbeats 2000000 in
set_option backward.isDefEq.respectTransparency.types false in
/-- Every run of the program ends with the buffers at `U4` and every counter at zero. -/
theorem run_main : θ_run defs (onTc (τ := τ) (main (F := F))) ⟨m, fun _ => 0, ρ⟩ (fun r =>
    (∀ c : Dev nD, ∀ b ∈ (S : Finset (DevRef τ sig)), r.2.mem ((c : Thread nD τ).1, b) = U4 hchk m c b) ∧ r.2.sem = fun _ => 0) :=
  Pipeline.θ_run_regions_kit_sems (pcfgs (F := F)) adm (dats hchk m) () cellOf_inj EP defs₀ Variants.none L lv m ρ main
    (items hchk m)
    (fun c Q => by rw [main_segs adm (dats hchk m) () Variants.none L lv (host0 m) (host1 m) (region0 hchk m) (region1 hchk m) rfl rfl c])
    (by simp only [Pipeline.Seg.pipes_host, Pipeline.Seg.pipes_region, Pipeline.Seg.pipes_nil]; decide) (O₀ := 0)
    (hL := fun g h => if_neg h) (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
          ⊢ BI.own (EP (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) S (fun b => m (c, b)) ∗ R c))
    (Tₙ := fun c => StableHlo.held (c : Thread nD τ) S (U4 hchk m c))
    (hch := items_chain hchk m)
    (hinit := by
      refine Pipeline.initEach L lv fun c => ?_
      rw [show unscopedBufs c (fun b => m ((c : Thread nD τ).loc b)) = StableHlo.held (c : Thread nD τ) S (fun b => m (c, b))
        from Pipeline.unscopedBufs_held c (fun b => m (c, b))]
      iintro ⟨⟨Hh, -, HO, -, -, -⟩, -⟩
      imodintro
      isplitl [Hh]; · iexact Hh
      iexists ∅; iexact HO)
    (QY := fun c s => ∀ b ∈ (S : Finset (DevRef τ sig)), s.mem ((c : Thread nD τ).1, b) = U4 hchk m c b)
    (hfin := fun c s' => by
      unfold StableHlo.held
      iintro ⟨Hh, HSI⟩
      ihave Hr := (pointsTo_read_all S (fun b => ((c : Thread nD τ).1, b)) (U4 hchk m c) s') $$ [Hh HSI]
      · isplitl [Hh] <;> iassumption
      icases Hr with ⟨%h, HSI⟩
      imodintro
      isplitr; · ipureintro; exact h
      iexact HSI)
    (hQ := fun _ h hz => ⟨h, funext fun g => hz g (.inr (regions_no_unscoped g.2))⟩)

end Cert.KernelIdeal.Body
-- ==== Proof.Check.lean ====
module

public import proofs.«01_k».proof.Proof.GroupTrip
public import Idealize.ShloMosaic.PureOps.Ideal.Laws
public import Idealize.ShloMosaic.Lib.Pointwise

/-! Over the reals: the number of blocks the inner loop visits is the largest row count, at most 32. -/

@[expose] public section
set_option maxRecDepth 16384
noncomputable section

namespace Cert.KernelIdeal.Body
open Cert.KernelIdeal Cert.KernelIdeal.Gen
open Idealize.ShloMosaic Idealize.ShloMosaic.TcCoe

/-- Every count up to 32 meets the side conditions of the loop. -/
theorem chk_nat : ∀ n : Fin 33, k1_chk1 (BitVec.ofNat 32 n) := by decide +kernel

/-- How many of row `r`'s 32 offsets lie below 32. -/
def openBlocks (v71 : FVec Ideal S64x32 .f32) (r : Fin 64) : ℕ := ∑ k : Fin 32, if v71 (ix2 r k) < (32 : ℝ) then 1 else 0

theorem openBlocks_le (v71 : FVec Ideal S64x32 .f32) (r : Fin 64) : openBlocks v71 r ≤ 32 := by
  unfold openBlocks
  refine (Finset.sum_le_card_nsmul _ _ 1 fun k _ => ?_).trans (by simp)
  split <;> omega

/-- The largest of them. -/
def openMax (v71 : FVec Ideal S64x32 .f32) : ℕ := Finset.univ.sup (openBlocks v71)

theorem ofBits_32 : Ideal.ofBits .f32 0x42000000#32 = (32 : ℝ) := by
  simp [Ideal.ofBits, Ideal.ieee, -EReal.coe_mul]; norm_num
theorem ofBits_bot : Ideal.ofBits .f32 0xFF800000#32 = (⊥ : EReal) := by simp [Ideal.ofBits, Ideal.ieee]

/-- A 0/1 word as a real. -/
theorem sitofp_bool (p : Prop) [Decidable p] :
    FloatOps.sitofp (F := Ideal) .f32 (BitVec.setWidth 32 (BitVec.ofBool (decide p))) = (((if p then 1 else 0 : ℕ) : ℝ) : EReal) := by
  by_cases h : p
  · simp only [h, decide_true, if_true]
    show (((BitVec.setWidth 32 (BitVec.ofBool true)).toInt : ℝ) : EReal) = _
    rw [show (BitVec.setWidth 32 (BitVec.ofBool true)).toInt = 1 from by decide]; norm_num
  · simp only [h, decide_false, if_false]
    show (((BitVec.setWidth 32 (BitVec.ofBool false)).toInt : ℝ) : EReal) = _
    rw [show (BitVec.setWidth 32 (BitVec.ofBool false)).toInt = 0 from by decide]; norm_num

/-- A sum of naturals, each read as an extended real. -/
theorem sum_natCast {ι : Type*} (s : Finset ι) (f : ι → ℕ) : ∑ i ∈ s, (((f i : ℕ) : ℝ) : EReal) = (((∑ i ∈ s, f i : ℕ) : ℝ) : EReal) := by
  classical
  induction s using Finset.induction_on with
  | empty => simp
  | insert a s h ih => rw [Finset.sum_insert h, Finset.sum_insert h, ih, Nat.cast_add, EReal.coe_add]

theorem pay10_eq (v71 : FVec Ideal S64x32 .f32) : k1_pay10 v71 = ((openMax v71 : ℝ) : EReal) := by
  unfold k1_pay10
  pointwise
  rw [ofBits_bot, ofBits_32]
  simp only [sitofp_bool, sum_natCast]
  apply le_antisymm
  · rw [Finset.fold_max_le]
    refine ⟨bot_le, fun r _ => ?_⟩
    rw [EReal.coe_le_coe_iff, Nat.cast_le]
    exact Finset.le_sup (f := openBlocks v71) (Finset.mem_univ r)
  · obtain ⟨r, -, hr⟩ := Finset.exists_mem_eq_sup (Finset.univ : Finset (Fin 64)) ⟨0, Finset.mem_univ _⟩ (openBlocks v71)
    rw [Finset.le_fold_max]
    refine .inr ⟨r, Finset.mem_univ _, ?_⟩
    rw [EReal.coe_le_coe_iff, Nat.cast_le]
    exact le_of_eq hr

theorem openMax_le (v71 : FVec Ideal S64x32 .f32) : openMax v71 ≤ 32 := Finset.sup_le fun r _ => openBlocks_le v71 r

/-- The number of visited blocks. -/
theorem fptosi_pay10 (v71 : FVec Ideal S64x32 .f32) : Scalar.fptosi 32 (k1_pay10 v71) = BitVec.ofNat 32 (openMax v71) := by
  rw [pay10_eq]
  show Ideal.fptosi 32 _ = _
  have h := openMax_le v71
  generalize openMax v71 = n at h
  unfold Ideal.fptosi
  rw [Ideal.toIntClamped_coe, if_pos (Nat.cast_nonneg n), Int.floor_natCast]
  have h1 : min (((2 ^ (32 - 1) : ℕ) : ℤ) - 1) (n : ℤ) = n := min_eq_right (by norm_num; omega)
  have h2 : max (-((2 ^ (32 - 1) : ℕ) : ℤ)) (n : ℤ) = n := max_eq_right (by norm_num)
  rw [h1, h2, BitVec.ofInt_natCast]

/-- The side conditions of the group body hold over the reals. -/
theorem chk_ideal : Chk Ideal := fun v71 => by
  rw [fptosi_pay10]; exact chk_nat ⟨openMax v71, Nat.lt_succ_of_le (openMax_le v71)⟩

end Cert.KernelIdeal.Body
-- ==== Proof.Readout.lean ====
module

public import proofs.«01_k».proof.Proof.KernelRun
public import proofs.«01_k».proof.Proof.Check

/-! What the buffers hold when the kernel program ends: its arguments unchanged, its two results. -/

@[expose] public section
set_option maxRecDepth 16384
noncomputable section

namespace Cert.KernelIdeal.Body
open Cert.KernelIdeal Cert.KernelIdeal.Gen
open Idealize.ShloMosaic Idealize.ShloMosaic.TcCoe Idealize.ShloMosaic.Tactic
open Idealize.ShloMosaic.Pipeline (Dat Cfg Window)

variable {F : FTy → Type} [FloatOps F] [Named F]
variable (hchk : Chk F) (m : (ℓ : Loc nD τ sig) → Buf (Elt F) ℓ) (ρ : Dev nD → PrngReg)

theorem inj0 : Function.Injective (Pipeline.arrRef cfg0.spec) := by decide
theorem inj1 : Function.Injective (Pipeline.arrRef cfg1.spec) := by decide

theorem U1_of (c : Dev nD) (r : Ref sig .tc) (h : r ∉ hostOps0_W) : U1 m c r = m (c, r) :=
  StableHlo.after_of_writes_sub hostOps0 _ hostOps0_writes h
theorem U2_of (c : Dev nD) (r : Ref sig .tc) (h : ∀ w, Pipeline.arrRef cfg0.spec w = r → (cfg0.win w).isOut = false) :
    U2 m c r = U1 m c r := Pipeline.afterRegion_keeps (dat0 m c) _ inj0 (fun _ => rfl) r h
theorem U3_of (c : Dev nD) (r : Ref sig .tc) (h : r ∉ hostOps1_W) : U3 m c r = U2 m c r :=
  StableHlo.after_of_writes_sub hostOps1 _ hostOps1_writes h
theorem U4_of (c : Dev nD) (r : Ref sig .tc) (h : ∀ w, Pipeline.arrRef cfg1.spec w = r → (cfg1.win w).isOut = false) :
    U4 hchk m c r = U3 m c r := Pipeline.afterRegion_keeps (dat1 hchk m c) _ inj1 (fun _ => rfl) r h

/-- A buffer no host operation and no call writes. -/
theorem U4_keeps (c : Dev nD) (r : Ref sig .tc) (h0 : r ∉ hostOps0_W) (h1 : r ∉ hostOps1_W)
    (w0 : ∀ w, Pipeline.arrRef cfg0.spec w = r → (cfg0.win w).isOut = false)
    (w1 : ∀ w, Pipeline.arrRef cfg1.spec w = r → (cfg1.win w).isOut = false) : U4 hchk m c r = m (c, r) :=
  (U4_of hchk m c r w1).trans ((U3_of m c r h1).trans ((U2_of m c r w0).trans (U1_of m c r h0)))

theorem mem_S (r : Ref sig .tc) (h : r.isScoped = false) : (Proc.devRef .tc r : DevRef τ sig) ∈ (S : Finset (DevRef τ sig)) :=
  Pipeline.devRef_mem_ucRefs h

/-- The run, read at the arguments and at the results. -/
theorem run_read : θ_run defs (onTc (τ := τ) (main (F := F))) ⟨m, fun _ => 0, ρ⟩ (fun r =>
    (∀ c : Dev nD, r.2.mem ((c.tc : Thread nD τ).loc main_v10) = U4 hchk m c main_v10
      ∧ r.2.mem ((c.tc : Thread nD τ).loc main_v2) = U4 hchk m c main_v2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨h.1 c _ (mem_S main_v10 rfl), h.1 c _ (mem_S main_v2 rfl),
    (h.1 c _ (mem_S main_arg0 rfl)).trans (U4_keeps hchk m c main_arg0 (by decide) (by decide) (by decide) (by decide)),
    (h.1 c _ (mem_S main_arg1 rfl)).trans (U4_keeps hchk m c main_arg1 (by decide) (by decide) (by decide) (by decide)),
    (h.1 c _ (mem_S main_arg2 rfl)).trans (U4_keeps hchk m c main_arg2 (by decide) (by decide) (by decide) (by decide)),
    (h.1 c _ (mem_S main_arg3 rfl)).trans (U4_keeps hchk m c main_arg3 (by decide) (by decide) (by decide) (by decide)),
    (h.1 c _ (mem_S main_arg4 rfl)).trans (U4_keeps hchk m c main_arg4 (by decide) (by decide) (by decide) (by decide)),
    (h.1 c _ (mem_S main_arg5 rfl)).trans (U4_keeps hchk m c main_arg5 (by decide) (by decide) (by decide) (by decide))⟩, h.2⟩)
    (run_main hchk m ρ)

end Cert.KernelIdeal.Body
-- ==== Proof.PlainCheck.lean ====
module

public import proofs.«01_k».proof.Proof.PlainGroupTrip
public import Idealize.ShloMosaic.Lib.NatWords
public import Idealize.ShloMosaic.Lib.NatWordsOrder
public import Idealize.ShloMosaic.PureOps.BitExact.Laws

/-! Over bit patterns: the number of blocks the inner loop visits is at most 32. -/

@[expose] public section
set_option maxRecDepth 16384
noncomputable section

namespace Cert.Kernel.Body
open Cert.Kernel Cert.Kernel.Gen
open Idealize.ShloMosaic Idealize.ShloMosaic.TcCoe Idealize.ShloMosaic.Bits

/-- Every count up to 32 meets the side conditions of the loop. -/
theorem chk_nat : ∀ n : Fin 33, k1_chk1 (BitVec.ofNat 32 n) := by decide +kernel

/-- A 0/1 word, converted, is the word of 0 or 1. -/
theorem sitofp_bit (b : BitVec 1) : FloatOps.sitofp (F := Bits) .f32 (b.setWidth 32) = f32OfNat b.toNat := by
  show sitofp32 _ = _
  have hb : b.toNat < 2 := b.isLt
  have e : (b.setWidth 32).toNat = b.toNat := by rw [BitVec.toNat_setWidth]; exact Nat.mod_eq_of_lt (by omega)
  rw [sitofp32_eq_f32OfNat _ (le_refl 32) (by rw [e]; omega), e]

/-- The count of ones of a row, as the reduction computes it. -/
theorem rowCount (v : IVec S64x32 1) (j : S64.Idx) :
    ∃ n ≤ 32, multiReduction (F := Bits) .add [1] S64 (sitofp .f32 (extui 32 v natLt_1_32)) 0x00000000#32 reduces_S64x32_S64 (.inl rfl) rfl j
      = f32OfNat n := by
  have hs : ((reduceFiber reduces_S64x32_S64 j).sum fun i => (v i).toNat) ≤ 32 := by
    have e := reduces_S64x32_S64.sum_filter_drop_single (fun i => (v i).toNat) j
    have e' : ((reduceFiber reduces_S64x32_S64 j).sum fun i => (v i).toNat) = ∑ k : Fin 32, (v (reduces_S64x32_S64.lift j k)).toNat := e
    rw [e']
    refine (Finset.sum_le_card_nsmul _ _ 1 fun k _ => ?_).trans (by simp)
    have := (v (reduces_S64x32_S64.lift j k)).isLt
    omega
  refine ⟨_, hs, ?_⟩
  refine multiReduction_add_nat [1] reduces_S64x32_S64 _ j (fun i => (v i).toNat) (fun i _ => ?_) (by omega)
  show natOfF32? (FloatOps.sitofp (F := Bits) .f32 ((v i).setWidth 32)) = _
  rw [sitofp_bit]
  exact natOfF32?_f32OfNat _ (by have := (v i).isLt; omega)

/-- The side conditions of the group body hold over bit patterns. -/
theorem chk_bits : Chk Bits := fun v71 => by
  have key : ∃ n ≤ 32, k1_pay10 v71 = f32OfNat n := by
    unfold k1_pay10
    dsimp only
    choose n hn he using rowCount (cmpf .olt v71 (broadcast S64x32 (Scalar.ofBits .f32 0x42000000#32)))
    have step : ∀ (v93 : FVec Bits S1x64 .f32) (m : S1x64.Idx → ℕ) (_ : ∀ i, v93 i = f32OfNat (m i)) (_ : ∀ i, m i ≤ 32) (j : S1.Idx),
        ∃ n ≤ 32, multiReduction .maximumf [1] S1 v93 0xFF800000#32 reduces_S1x64_S1 (.inl rfl) rfl j = f32OfNat n := fun v93 m hv hm j => by
      refine ⟨(Finset.univ.filter fun i => reduces_S1x64_S1.drop i = j).fold max 0 m, ?_, ?_⟩
      · rcases (fold_max_spec (Finset.univ.filter fun i => reduces_S1x64_S1.drop i = j) m 0).2.2 with h | ⟨i, -, h⟩ <;> rw [h]
        · omega
        · exact hm i
      · refine (multiReduction_maximumf_eq_fold _ _ _ _ _ _).trans ?_
        rw [show v93 = fun i => f32OfNat (m i) from funext hv]
        refine fold_maximumf_negativeInfinity_nat _ ⟨(ix2 (0 : Fin 1) (0 : Fin 64) : S1x64.Idx), Finset.mem_filter.mpr ⟨Finset.mem_univ _, ?_⟩⟩ m (fun i _ => (hm i).trans (by norm_num))
        funext a
        match a with
        | 0 => exact Subsingleton.elim (α := Fin 1) _ _
    exact step _ (fun i => n (Shape.reshapeEquiv shapeCasts_S64_S1x64 i)) (fun i => he _) (fun i => hn _) _
  obtain ⟨n, hn, h⟩ := key
  rw [h]
  show k1_chk1 (fptosi32 32 (f32OfNat n))
  rw [fptosi32_nat n (by omega)]
  exact chk_nat ⟨n, Nat.lt_succ_of_le hn⟩

end Cert.Kernel.Body
-- ==== Proof.RefOps.lean ====
/- The reference program as lists of host operations: the operations before its loop, of one trip of the loop, and
   after the loop, a called function's operations a list of their own; and the equations that @main and the loop's body are
   the chains of these lists. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 4096

noncomputable section

namespace Cert.ReferenceIdeal.Ops

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- before the loop. -/
abbrev hostOps0 : List (HloOp τ sig (Elt F)) :=
  [ StableHlo.nullary main_cst (constant S_ .f32 0x501502F9#32),
    StableHlo.unary main_cst main_v0 (broadcastInDim S4x4096 ![] bcast_S_S4x4096 : (⟨S_, .f32⟩ : BufTy).Contents (Elt F) → (⟨S4x4096, .f32⟩ : BufTy).Contents (Elt F)),
    StableHlo.nullary main_c (constantI S_ 32 0#32),
    StableHlo.unary main_c main_v1 (broadcastInDim S4 ![] bcast_S_S4 : (⟨S_, .i32⟩ : BufTy).Contents (Elt F) → (⟨S4, .i32⟩ : BufTy).Contents (Elt F)),
    StableHlo.nullary main_c_0 (constantI S_ 32 0#32),
    StableHlo.unary main_c_0 main_v2 (broadcastInDim S512x4 ![] bcast_S_S512x4 : (⟨S_, .i32⟩ : BufTy).Contents (Elt F) → (⟨S512x4, .i32⟩ : BufTy).Contents (Elt F)),
    StableHlo.nullary main_c_1 (constantI S_ 32 0#32),
    StableHlo.unary main_arg0 main_v3_0 id,
    StableHlo.unary main_c_1 main_v3_1 id,
    StableHlo.unary main_v0 main_v3_2 id,
    StableHlo.unary main_v1 main_v3_3 id,
    StableHlo.unary main_v2 main_v3_4 id ]
theorem hostOps0_sub : (hostOps0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩

/-- the chosen indices, turned to one row per batch element. -/
abbrev hostOps0_1 : List (HloOp τ sig (Elt F)) :=
  [ StableHlo.unary main_v3_4 main_v4 ((transpose S4x512 [1, 0] · transposes_S512x4_S4x512_1_0) : (⟨S512x4, .i32⟩ : BufTy).Contents (Elt F) → (⟨S4x512, .i32⟩ : BufTy).Contents (Elt F)),
    StableHlo.unary main_v4 main_v5 (broadcastInDim S4x512x1 ![0, 1] bcast_S4x512_S4x512x1_0_1 : (⟨S4x512, .i32⟩ : BufTy).Contents (Elt F) → (⟨S4x512x1, .i32⟩ : BufTy).Contents (Elt F)) ]
theorem hostOps0_1_sub : (hostOps0_1 : List (HloOp τ sig (Elt F))).Forall fun op => op.bufs ⊆ StableHlo.tcRefs τ sig :=
  ⟨StableHlo.unary_bufs_sub .., StableHlo.unary_bufs_sub ..⟩

/-- the gather of the chosen points. -/
abbrev hostOps0_2 : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S4x512x1, .i32⟩) (broadcastInDim S4x512x1 ![] bcast_S_S4x512x1),
    StableHlo.TRef.binary (.of main_v5 : StableHlo.TRef sig ⟨S4x512x1, .i32⟩) (.of main_call3_v0 : StableHlo.TRef sig ⟨S4x512x1, .i32⟩) (.of main_call3_v1 : StableHlo.TRef sig ⟨S4x512x1, .i1⟩) (cmpi .slt),
    StableHlo.TRef.nullary (.of main_call3_c_0 : StableHlo.TRef sig ⟨S_, .i32⟩) (constantI S_ 32 4096#32),
    StableHlo.TRef.unary (.of main_call3_c_0 : StableHlo.TRef sig ⟨S_, .i32⟩) (.of main_call3_v2 : StableHlo.TRef sig ⟨S4x512x1, .i32⟩) (broadcastInDim S4x512x1 ![] bcast_S_S4x512x1),
    StableHlo.TRef.binary (.of main_v5 : StableHlo.TRef sig ⟨S4x512x1, .i32⟩) (.of main_call3_v2 : StableHlo.TRef sig ⟨S4x512x1, .i32⟩) (.of main_call3_v3 : StableHlo.TRef sig ⟨S4x512x1, .i32⟩) addi,
    StableHlo.TRef.ternary (.of main_call3_v1 : StableHlo.TRef sig ⟨S4x512x1, .i1⟩) (.of main_call3_v3 : StableHlo.TRef sig ⟨S4x512x1, .i32⟩) (.of main_v5 : StableHlo.TRef sig ⟨S4x512x1, .i32⟩) (.of main_call3_v4 : StableHlo.TRef sig ⟨S4x512x1, .i32⟩) select,
    StableHlo.TRef.nullary (.of main_call3_c_1 : StableHlo.TRef sig ⟨S1, .i32⟩) (constantI S1 32 4095#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v5 : StableHlo.TRef sig ⟨S4x512x1, .i32⟩) (broadcastInDim S4x512x1 ![] bcast_S_S4x512x1),
    StableHlo.TRef.binary (.of main_call3_v4 : StableHlo.TRef sig ⟨S4x512x1, .i32⟩) (.of main_call3_v5 : StableHlo.TRef sig ⟨S4x512x1, .i32⟩) (.of main_call3_v6 : StableHlo.TRef sig ⟨S4x512x1, .i1⟩) (cmpi .sge),
    StableHlo.TRef.unary (.of main_call3_c_1 : StableHlo.TRef sig ⟨S1, .i32⟩) (.of main_call3_v7 : StableHlo.TRef sig ⟨S1x1x1, .i32⟩) (broadcastInDim S1x1x1 ![2] bcast_S1_S1x1x1_2),
    StableHlo.TRef.unary (.of main_call3_v7 : StableHlo.TRef sig ⟨S1x1x1, .i32⟩) (.of main_call3_v8 : StableHlo.TRef sig ⟨S4x512x1, .i32⟩) (broadcastInDim S4x512x1 ![0, 1, 2] bcast_S1x1x1_S4x512x1_0_1_2),
    StableHlo.TRef.binary (.of main_call3_v4 : StableHlo.TRef sig ⟨S4x512x1, .i32⟩) (.of main_call3_v8 : StableHlo.TRef sig ⟨S4x512x1, .i32⟩) (.of main_call3_v9 : StableHlo.TRef sig ⟨S4x512x1, .i1⟩) (cmpi .sle),
    StableHlo.TRef.binary (.of main_call3_v6 : StableHlo.TRef sig ⟨S4x512x1, .i1⟩) (.of main_call3_v9 : StableHlo.TRef sig ⟨S4x512x1, .i1⟩) (.of main_call3_v10 : StableHlo.TRef sig ⟨S4x512x1, .i1⟩) andi,
    StableHlo.TRef.nullary (.of main_call3_c_3 : StableHlo.TRef sig ⟨S_, .i1⟩) (constantI S_ 1 1#1),
    StableHlo.TRef.binary (.of main_call3_v10 : StableHlo.TRef sig ⟨S4x512x1, .i1⟩) (.of main_call3_c_3 : StableHlo.TRef sig ⟨S_, .i1⟩) (.of main_call3_v11 : StableHlo.TRef sig ⟨S4x512, .i1⟩) (fun x v => Host.reduce IntOp.andi x v reducesTo_S4x512x1_S4x512_d2 h_S_),
    StableHlo.TRef.binary (.of main_arg0 : StableHlo.TRef sig ⟨S4x4096x3, .f32⟩) (.of main_call3_v4 : StableHlo.TRef sig ⟨S4x512x1, .i32⟩) (.of main_call3_v12 : StableHlo.TRef sig ⟨S4x512x3, .f32⟩) (fun x i => Host.gather gather_S4x4096x3_S4x512x1_S4x512x3_2_1_0_0_1_2_113 x i),
    StableHlo.TRef.unary (.of main_call3_v11 : StableHlo.TRef sig ⟨S4x512, .i1⟩) (.of main_call3_v13 : StableHlo.TRef sig ⟨S4x512x3, .i1⟩) (broadcastInDim S4x512x3 ![0, 1] bcast_S4x512_S4x512x3_0_1),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v14 : StableHlo.TRef sig ⟨S4x512x3, .f32⟩) (broadcastInDim S4x512x3 ![] bcast_S_S4x512x3),
    StableHlo.TRef.ternary (.of main_call3_v13 : StableHlo.TRef sig ⟨S4x512x3, .i1⟩) (.of main_call3_v12 : StableHlo.TRef sig ⟨S4x512x3, .f32⟩) (.of main_call3_v14 : StableHlo.TRef sig ⟨S4x512x3, .f32⟩) (.of main_v6 : StableHlo.TRef sig ⟨S4x512x3, .f32⟩) select ]
theorem hostOps0_2_sub : (hostOps0_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-- squared distances of every point to every chosen point. -/
abbrev hostOps0_3 : List (HloOp τ sig (Elt F)) :=
  [ StableHlo.nullary main_v7 (iotaInDim S4096 32 0),
    StableHlo.unary main_v7 main_v8 (broadcastInDim S1x1x4096 ![2] bcast_S4096_S1x1x4096_2 : (⟨S4096, .i32⟩ : BufTy).Contents (Elt F) → (⟨S1x1x4096, .i32⟩ : BufTy).Contents (Elt F)),
    StableHlo.unary main_v8 main_v9 (broadcastInDim S4x512x4096 ![0, 1, 2] bcast_S1x1x4096_S4x512x4096_0_1_2 : (⟨S1x1x4096, .i32⟩ : BufTy).Contents (Elt F) → (⟨S4x512x4096, .i32⟩ : BufTy).Contents (Elt F)),
    StableHlo.unary main_v6 main_v10 (broadcastInDim S4x512x1x3 ![0, 1, 3] bcast_S4x512x3_S4x512x1x3_0_1_3 : (⟨S4x512x3, .f32⟩ : BufTy).Contents (Elt F) → (⟨S4x512x1x3, .f32⟩ : BufTy).Contents (Elt F)),
    StableHlo.unary main_arg0 main_v11 (broadcastInDim S4x1x4096x3 ![0, 2, 3] bcast_S4x4096x3_S4x1x4096x3_0_2_3 : (⟨S4x4096x3, .f32⟩ : BufTy).Contents (Elt F) → (⟨S4x1x4096x3, .f32⟩ : BufTy).Contents (Elt F)),
    StableHlo.unary main_v10 main_v12 (broadcastInDim S4x512x4096x3 ![0, 1, 2, 3] bcast_S4x512x1x3_S4x512x4096x3_0_1_2_3 : (⟨S4x512x1x3, .f32⟩ : BufTy).Contents (Elt F) → (⟨S4x512x4096x3, .f32⟩ : BufTy).Contents (Elt F)),
    StableHlo.unary main_v11 main_v13 (broadcastInDim S4x512x4096x3 ![0, 1, 2, 3] bcast_S4x1x4096x3_S4x512x4096x3_0_1_2_3 : (⟨S4x1x4096x3, .f32⟩ : BufTy).Contents (Elt F) → (⟨S4x512x4096x3, .f32⟩ : BufTy).Contents (Elt F)),
    StableHlo.binary main_v12 main_v13 main_v14 (subf : (⟨S4x512x4096x3, .f32⟩ : BufTy).Contents (Elt F) → (⟨S4x512x4096x3, .f32⟩ : BufTy).Contents (Elt F) → (⟨S4x512x4096x3, .f32⟩ : BufTy).Contents (Elt F)),
    StableHlo.binary main_v14 main_v14 main_v15 (mulf : (⟨S4x512x4096x3, .f32⟩ : BufTy).Contents (Elt F) → (⟨S4x512x4096x3, .f32⟩ : BufTy).Contents (Elt F) → (⟨S4x512x4096x3, .f32⟩ : BufTy).Contents (Elt F)),
    StableHlo.nullary main_cst_2 (constant S_ .f32 0x00000000#32),
    StableHlo.binary main_v15 main_cst_2 main_v16 ((fun x v => Host.reduceAdd x v reducesTo_S4x512x4096x3_S4x512x4096_d3 h_S_) : (⟨S4x512x4096x3, .f32⟩ : BufTy).Contents (Elt F) → (⟨S_, .f32⟩ : BufTy).Contents (Elt F) → (⟨S4x512x4096, .f32⟩ : BufTy).Contents (Elt F)),
    StableHlo.nullary main_cst_3 (constant S_ .f32 0x3D23D70A#32),
    StableHlo.unary main_cst_3 main_v17 (broadcastInDim S4x512x4096 ![] bcast_S_S4x512x4096 : (⟨S_, .f32⟩ : BufTy).Contents (Elt F) → (⟨S4x512x4096, .f32⟩ : BufTy).Contents (Elt F)),
    StableHlo.binary main_v16 main_v17 main_v18 (cmpf .ogt : (⟨S4x512x4096, .f32⟩ : BufTy).Contents (Elt F) → (⟨S4x512x4096, .f32⟩ : BufTy).Contents (Elt F) → (⟨S4x512x4096, .i1⟩ : BufTy).Contents (Elt F)),
    StableHlo.nullary main_c_4 (constantI S_ 32 4096#32) ]
theorem hostOps0_3_sub : (hostOps0_3 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub ..⟩

/-- the indices, an out-of-ball one replaced by the number of points. -/
abbrev hostOps0_4 : List (HloOp τ sig (Elt F)) :=
  [ StableHlo.TRef.unary (.of main_c_4 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S4x512x4096, .i32⟩) (broadcastInDim S4x512x4096 ![] bcast_S_S4x512x4096),
    StableHlo.TRef.ternary (.of main_v18 : StableHlo.TRef sig ⟨S4x512x4096, .i1⟩) (.of main_call4_v1 : StableHlo.TRef sig ⟨S4x512x4096, .i32⟩) (.of main_v9 : StableHlo.TRef sig ⟨S4x512x4096, .i32⟩) (.of main_v19 : StableHlo.TRef sig ⟨S4x512x4096, .i32⟩) select ]
theorem hostOps0_4_sub : (hostOps0_4 : List (HloOp τ sig (Elt F))).Forall fun op => op.bufs ⊆ StableHlo.tcRefs τ sig :=
  ⟨StableHlo.unary_bufs_sub .., StableHlo.unary_bufs_sub .., StableHlo.ternary_bufs_sub ..⟩

/-- the sort of the indices. -/
abbrev hostOps0_5 : List (HloOp τ sig (Elt F)) :=
  [ StableHlo.TRef.unary (.of main_v19 : StableHlo.TRef sig ⟨S4x512x4096, .i32⟩) (.of main_v20 : StableHlo.TRef sig ⟨S4x512x4096, .i32⟩) (fun x => Host.sort S4x512x4096 2 comparator_i32_d2 x) ]
theorem hostOps0_5_sub : (hostOps0_5 : List (HloOp τ sig (Elt F))).Forall fun op => op.bufs ⊆ StableHlo.tcRefs τ sig :=
  StableHlo.unary_bufs_sub ..

/-- the first thirty-two of them. -/
abbrev hostOps0_6 : List (HloOp τ sig (Elt F)) :=
  [ StableHlo.unary main_v20 main_v21 ((extractStridedSlice S4x512x32 ![0, 0, 0] · slices_S4x512x4096_S4x512x32_0_0_0) : (⟨S4x512x4096, .i32⟩ : BufTy).Contents (Elt F) → (⟨S4x512x32, .i32⟩ : BufTy).Contents (Elt F)),
    StableHlo.unary main_v21 main_v22 ((extractStridedSlice S4x512x1 ![0, 0, 0] · slices_S4x512x32_S4x512x1_0_0_0) : (⟨S4x512x32, .i32⟩ : BufTy).Contents (Elt F) → (⟨S4x512x1, .i32⟩ : BufTy).Contents (Elt F)),
    StableHlo.unary main_v22 main_v23 (broadcastInDim S4x512x32 ![0, 1, 2] bcast_S4x512x1_S4x512x32_0_1_2 : (⟨S4x512x1, .i32⟩ : BufTy).Contents (Elt F) → (⟨S4x512x32, .i32⟩ : BufTy).Contents (Elt F)),
    StableHlo.nullary main_c_5 (constantI S_ 32 4096#32),
    StableHlo.unary main_c_5 main_v24 (broadcastInDim S4x512x32 ![] bcast_S_S4x512x32 : (⟨S_, .i32⟩ : BufTy).Contents (Elt F) → (⟨S4x512x32, .i32⟩ : BufTy).Contents (Elt F)),
    StableHlo.binary main_v21 main_v24 main_v25 (cmpi .eq : (⟨S4x512x32, .i32⟩ : BufTy).Contents (Elt F) → (⟨S4x512x32, .i32⟩ : BufTy).Contents (Elt F) → (⟨S4x512x32, .i1⟩ : BufTy).Contents (Elt F)) ]
theorem hostOps0_6_sub : (hostOps0_6 : List (HloOp τ sig (Elt F))).Forall fun op => op.bufs ⊆ StableHlo.tcRefs τ sig :=
  ⟨StableHlo.unary_bufs_sub .., StableHlo.unary_bufs_sub .., StableHlo.unary_bufs_sub .., StableHlo.nullary_bufs_sub .., StableHlo.unary_bufs_sub .., StableHlo.binary_bufs_sub ..⟩

/-- padding by the first. -/
abbrev hostOps0_7 : List (HloOp τ sig (Elt F)) :=
  [ StableHlo.TRef.ternary (.of main_v25 : StableHlo.TRef sig ⟨S4x512x32, .i1⟩) (.of main_v23 : StableHlo.TRef sig ⟨S4x512x32, .i32⟩) (.of main_v21 : StableHlo.TRef sig ⟨S4x512x32, .i32⟩) (.of main_v26 : StableHlo.TRef sig ⟨S4x512x32, .i32⟩) select ]
theorem hostOps0_7_sub : (hostOps0_7 : List (HloOp τ sig (Elt F))).Forall fun op => op.bufs ⊆ StableHlo.tcRefs τ sig :=
  StableHlo.ternary_bufs_sub ..

/-- flat indices. -/
abbrev hostOps0_8 : List (HloOp τ sig (Elt F)) :=
  [ StableHlo.reshape main_v26 main_v27 (rfl : (.i32 : EltTy) = .i32) shapeCasts_S4x512x32_S4x16384,
    StableHlo.unary main_v27 main_v28 (broadcastInDim S4x16384x1 ![0, 1] bcast_S4x16384_S4x16384x1_0_1 : (⟨S4x16384, .i32⟩ : BufTy).Contents (Elt F) → (⟨S4x16384x1, .i32⟩ : BufTy).Contents (Elt F)) ]
theorem hostOps0_8_sub : (hostOps0_8 : List (HloOp τ sig (Elt F))).Forall fun op => op.bufs ⊆ StableHlo.tcRefs τ sig :=
  ⟨StableHlo.reshape_bufs_sub .., StableHlo.unary_bufs_sub ..⟩

/-- the gather of the neighbours' coordinates. -/
abbrev hostOps0_9 : List (HloOp τ sig (Elt F)) :=
  [ StableHlo.TRef.nullary (.of main_call7_c : StableHlo.TRef sig ⟨S_, .i32⟩) (constantI S_ 32 0#32),
    StableHlo.TRef.unary (.of main_call7_c : StableHlo.TRef sig ⟨S_, .i32⟩) (.of main_call7_v0 : StableHlo.TRef sig ⟨S4x16384x1, .i32⟩) (broadcastInDim S4x16384x1 ![] bcast_S_S4x16384x1),
    StableHlo.TRef.binary (.of main_v28 : StableHlo.TRef sig ⟨S4x16384x1, .i32⟩) (.of main_call7_v0 : StableHlo.TRef sig ⟨S4x16384x1, .i32⟩) (.of main_call7_v1 : StableHlo.TRef sig ⟨S4x16384x1, .i1⟩) (cmpi .slt),
    StableHlo.TRef.nullary (.of main_call7_c_0 : StableHlo.TRef sig ⟨S_, .i32⟩) (constantI S_ 32 4096#32),
    StableHlo.TRef.unary (.of main_call7_c_0 : StableHlo.TRef sig ⟨S_, .i32⟩) (.of main_call7_v2 : StableHlo.TRef sig ⟨S4x16384x1, .i32⟩) (broadcastInDim S4x16384x1 ![] bcast_S_S4x16384x1),
    StableHlo.TRef.binary (.of main_v28 : StableHlo.TRef sig ⟨S4x16384x1, .i32⟩) (.of main_call7_v2 : StableHlo.TRef sig ⟨S4x16384x1, .i32⟩) (.of main_call7_v3 : StableHlo.TRef sig ⟨S4x16384x1, .i32⟩) addi,
    StableHlo.TRef.ternary (.of main_call7_v1 : StableHlo.TRef sig ⟨S4x16384x1, .i1⟩) (.of main_call7_v3 : StableHlo.TRef sig ⟨S4x16384x1, .i32⟩) (.of main_v28 : StableHlo.TRef sig ⟨S4x16384x1, .i32⟩) (.of main_call7_v4 : StableHlo.TRef sig ⟨S4x16384x1, .i32⟩) select,
    StableHlo.TRef.nullary (.of main_call7_c_1 : StableHlo.TRef sig ⟨S1, .i32⟩) (constantI S1 32 4095#32),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v5 : StableHlo.TRef sig ⟨S4x16384x1, .i32⟩) (broadcastInDim S4x16384x1 ![] bcast_S_S4x16384x1),
    StableHlo.TRef.binary (.of main_call7_v4 : StableHlo.TRef sig ⟨S4x16384x1, .i32⟩) (.of main_call7_v5 : StableHlo.TRef sig ⟨S4x16384x1, .i32⟩) (.of main_call7_v6 : StableHlo.TRef sig ⟨S4x16384x1, .i1⟩) (cmpi .sge),
    StableHlo.TRef.unary (.of main_call7_c_1 : StableHlo.TRef sig ⟨S1, .i32⟩) (.of main_call7_v7 : StableHlo.TRef sig ⟨S1x1x1, .i32⟩) (broadcastInDim S1x1x1 ![2] bcast_S1_S1x1x1_2),
    StableHlo.TRef.unary (.of main_call7_v7 : StableHlo.TRef sig ⟨S1x1x1, .i32⟩) (.of main_call7_v8 : StableHlo.TRef sig ⟨S4x16384x1, .i32⟩) (broadcastInDim S4x16384x1 ![0, 1, 2] bcast_S1x1x1_S4x16384x1_0_1_2),
    StableHlo.TRef.binary (.of main_call7_v4 : StableHlo.TRef sig ⟨S4x16384x1, .i32⟩) (.of main_call7_v8 : StableHlo.TRef sig ⟨S4x16384x1, .i32⟩) (.of main_call7_v9 : StableHlo.TRef sig ⟨S4x16384x1, .i1⟩) (cmpi .sle),
    StableHlo.TRef.binary (.of main_call7_v6 : StableHlo.TRef sig ⟨S4x16384x1, .i1⟩) (.of main_call7_v9 : StableHlo.TRef sig ⟨S4x16384x1, .i1⟩) (.of main_call7_v10 : StableHlo.TRef sig ⟨S4x16384x1, .i1⟩) andi,
    StableHlo.TRef.nullary (.of main_call7_c_3 : StableHlo.TRef sig ⟨S_, .i1⟩) (constantI S_ 1 1#1),
    StableHlo.TRef.binary (.of main_call7_v10 : StableHlo.TRef sig ⟨S4x16384x1, .i1⟩) (.of main_call7_c_3 : StableHlo.TRef sig ⟨S_, .i1⟩) (.of main_call7_v11 : StableHlo.TRef sig ⟨S4x16384, .i1⟩) (fun x v => Host.reduce IntOp.andi x v reducesTo_S4x16384x1_S4x16384_d2 h_S_),
    StableHlo.TRef.binary (.of main_arg0 : StableHlo.TRef sig ⟨S4x4096x3, .f32⟩) (.of main_call7_v4 : StableHlo.TRef sig ⟨S4x16384x1, .i32⟩) (.of main_call7_v12 : StableHlo.TRef sig ⟨S4x16384x3, .f32⟩) (fun x i => Host.gather gather_S4x4096x3_S4x16384x1_S4x16384x3_2_1_0_0_1_2_113 x i),
    StableHlo.TRef.unary (.of main_call7_v11 : StableHlo.TRef sig ⟨S4x16384, .i1⟩) (.of main_call7_v13 : StableHlo.TRef sig ⟨S4x16384x3, .i1⟩) (broadcastInDim S4x16384x3 ![0, 1] bcast_S4x16384_S4x16384x3_0_1),
    StableHlo.TRef.nullary (.of main_call7_cst : StableHlo.TRef sig ⟨S_, .f32⟩) (constant S_ .f32 0x7FC00000#32),
    StableHlo.TRef.unary (.of main_call7_cst : StableHlo.TRef sig ⟨S_, .f32⟩) (.of main_call7_v14 : StableHlo.TRef sig ⟨S4x16384x3, .f32⟩) (broadcastInDim S4x16384x3 ![] bcast_S_S4x16384x3),
    StableHlo.TRef.ternary (.of main_call7_v13 : StableHlo.TRef sig ⟨S4x16384x3, .i1⟩) (.of main_call7_v12 : StableHlo.TRef sig ⟨S4x16384x3, .f32⟩) (.of main_call7_v14 : StableHlo.TRef sig ⟨S4x16384x3, .f32⟩) (.of main_v29 : StableHlo.TRef sig ⟨S4x16384x3, .f32⟩) select ]
theorem hostOps0_9_sub : (hostOps0_9 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-- coordinates relative to the centre. -/
abbrev hostOps0_10 : List (HloOp τ sig (Elt F)) :=
  [ StableHlo.reshape main_v29 main_v30 (rfl : (.f32 : EltTy) = .f32) shapeCasts_S4x16384x3_S4x512x32x3,
    StableHlo.unary main_v6 main_v31 (broadcastInDim S4x512x1x3 ![0, 1, 3] bcast_S4x512x3_S4x512x1x3_0_1_3 : (⟨S4x512x3, .f32⟩ : BufTy).Contents (Elt F) → (⟨S4x512x1x3, .f32⟩ : BufTy).Contents (Elt F)),
    StableHlo.unary main_v31 main_v32 (broadcastInDim S4x512x32x3 ![0, 1, 2, 3] bcast_S4x512x1x3_S4x512x32x3_0_1_2_3 : (⟨S4x512x1x3, .f32⟩ : BufTy).Contents (Elt F) → (⟨S4x512x32x3, .f32⟩ : BufTy).Contents (Elt F)),
    StableHlo.binary main_v30 main_v32 main_v33 (subf : (⟨S4x512x32x3, .f32⟩ : BufTy).Contents (Elt F) → (⟨S4x512x32x3, .f32⟩ : BufTy).Contents (Elt F) → (⟨S4x512x32x3, .f32⟩ : BufTy).Contents (Elt F)),
    StableHlo.reshape main_v26 main_v34 (rfl : (.i32 : EltTy) = .i32) shapeCasts_S4x512x32_S4x16384,
    StableHlo.unary main_v34 main_v35 (broadcastInDim S4x16384x1 ![0, 1] bcast_S4x16384_S4x16384x1_0_1 : (⟨S4x16384, .i32⟩ : BufTy).Contents (Elt F) → (⟨S4x16384x1, .i32⟩ : BufTy).Contents (Elt F)) ]
theorem hostOps0_10_sub : (hostOps0_10 : List (HloOp τ sig (Elt F))).Forall fun op => op.bufs ⊆ StableHlo.tcRefs τ sig :=
  ⟨StableHlo.reshape_bufs_sub .., StableHlo.unary_bufs_sub .., StableHlo.unary_bufs_sub .., StableHlo.binary_bufs_sub .., StableHlo.reshape_bufs_sub .., StableHlo.unary_bufs_sub ..⟩

/-- the gather of the neighbours' features. -/
abbrev hostOps0_11 : List (HloOp τ sig (Elt F)) :=
  [ StableHlo.TRef.nullary (.of main_call8_c : StableHlo.TRef sig ⟨S_, .i32⟩) (constantI S_ 32 0#32),
    StableHlo.TRef.unary (.of main_call8_c : StableHlo.TRef sig ⟨S_, .i32⟩) (.of main_call8_v0 : StableHlo.TRef sig ⟨S4x16384x1, .i32⟩) (broadcastInDim S4x16384x1 ![] bcast_S_S4x16384x1),
    StableHlo.TRef.binary (.of main_v35 : StableHlo.TRef sig ⟨S4x16384x1, .i32⟩) (.of main_call8_v0 : StableHlo.TRef sig ⟨S4x16384x1, .i32⟩) (.of main_call8_v1 : StableHlo.TRef sig ⟨S4x16384x1, .i1⟩) (cmpi .slt),
    StableHlo.TRef.nullary (.of main_call8_c_0 : StableHlo.TRef sig ⟨S_, .i32⟩) (constantI S_ 32 4096#32),
    StableHlo.TRef.unary (.of main_call8_c_0 : StableHlo.TRef sig ⟨S_, .i32⟩) (.of main_call8_v2 : StableHlo.TRef sig ⟨S4x16384x1, .i32⟩) (broadcastInDim S4x16384x1 ![] bcast_S_S4x16384x1),
    StableHlo.TRef.binary (.of main_v35 : StableHlo.TRef sig ⟨S4x16384x1, .i32⟩) (.of main_call8_v2 : StableHlo.TRef sig ⟨S4x16384x1, .i32⟩) (.of main_call8_v3 : StableHlo.TRef sig ⟨S4x16384x1, .i32⟩) addi,
    StableHlo.TRef.ternary (.of main_call8_v1 : StableHlo.TRef sig ⟨S4x16384x1, .i1⟩) (.of main_call8_v3 : StableHlo.TRef sig ⟨S4x16384x1, .i32⟩) (.of main_v35 : StableHlo.TRef sig ⟨S4x16384x1, .i32⟩) (.of main_call8_v4 : StableHlo.TRef sig ⟨S4x16384x1, .i32⟩) select,
    StableHlo.TRef.nullary (.of main_call8_c_1 : StableHlo.TRef sig ⟨S1, .i32⟩) (constantI S1 32 4095#32),
    StableHlo.TRef.nullary (.of main_call8_c_2 : StableHlo.TRef sig ⟨S_, .i32⟩) (constantI S_ 32 0#32),
    StableHlo.TRef.unary (.of main_call8_c_2 : StableHlo.TRef sig ⟨S_, .i32⟩) (.of main_call8_v5 : StableHlo.TRef sig ⟨S4x16384x1, .i32⟩) (broadcastInDim S4x16384x1 ![] bcast_S_S4x16384x1),
    StableHlo.TRef.binary (.of main_call8_v4 : StableHlo.TRef sig ⟨S4x16384x1, .i32⟩) (.of main_call8_v5 : StableHlo.TRef sig ⟨S4x16384x1, .i32⟩) (.of main_call8_v6 : StableHlo.TRef sig ⟨S4x16384x1, .i1⟩) (cmpi .sge),
    StableHlo.TRef.unary (.of main_call8_c_1 : StableHlo.TRef sig ⟨S1, .i32⟩) (.of main_call8_v7 : StableHlo.TRef sig ⟨S1x1x1, .i32⟩) (broadcastInDim S1x1x1 ![2] bcast_S1_S1x1x1_2),
    StableHlo.TRef.unary (.of main_call8_v7 : StableHlo.TRef sig ⟨S1x1x1, .i32⟩) (.of main_call8_v8 : StableHlo.TRef sig ⟨S4x16384x1, .i32⟩) (broadcastInDim S4x16384x1 ![0, 1, 2] bcast_S1x1x1_S4x16384x1_0_1_2),
    StableHlo.TRef.binary (.of main_call8_v4 : StableHlo.TRef sig ⟨S4x16384x1, .i32⟩) (.of main_call8_v8 : StableHlo.TRef sig ⟨S4x16384x1, .i32⟩) (.of main_call8_v9 : StableHlo.TRef sig ⟨S4x16384x1, .i1⟩) (cmpi .sle),
    StableHlo.TRef.binary (.of main_call8_v6 : StableHlo.TRef sig ⟨S4x16384x1, .i1⟩) (.of main_call8_v9 : StableHlo.TRef sig ⟨S4x16384x1, .i1⟩) (.of main_call8_v10 : StableHlo.TRef sig ⟨S4x16384x1, .i1⟩) andi,
    StableHlo.TRef.nullary (.of main_call8_c_3 : StableHlo.TRef sig ⟨S_, .i1⟩) (constantI S_ 1 1#1),
    StableHlo.TRef.binary (.of main_call8_v10 : StableHlo.TRef sig ⟨S4x16384x1, .i1⟩) (.of main_call8_c_3 : StableHlo.TRef sig ⟨S_, .i1⟩) (.of main_call8_v11 : StableHlo.TRef sig ⟨S4x16384, .i1⟩) (fun x v => Host.reduce IntOp.andi x v reducesTo_S4x16384x1_S4x16384_d2 h_S_),
    StableHlo.TRef.binary (.of main_arg1 : StableHlo.TRef sig ⟨S4x4096x32, .f32⟩) (.of main_call8_v4 : StableHlo.TRef sig ⟨S4x16384x1, .i32⟩) (.of main_call8_v12 : StableHlo.TRef sig ⟨S4x16384x32, .f32⟩) (fun x i => Host.gather gather_S4x4096x32_S4x16384x1_S4x16384x32_2_1_0_0_1_2_1132 x i),
    StableHlo.TRef.unary (.of main_call8_v11 : StableHlo.TRef sig ⟨S4x16384, .i1⟩) (.of main_call8_v13 : StableHlo.TRef sig ⟨S4x16384x32, .i1⟩) (broadcastInDim S4x16384x32 ![0, 1] bcast_S4x16384_S4x16384x32_0_1),
    StableHlo.TRef.nullary (.of main_call8_cst : StableHlo.TRef sig ⟨S_, .f32⟩) (constant S_ .f32 0x7FC00000#32),
    StableHlo.TRef.unary (.of main_call8_cst : StableHlo.TRef sig ⟨S_, .f32⟩) (.of main_call8_v14 : StableHlo.TRef sig ⟨S4x16384x32, .f32⟩) (broadcastInDim S4x16384x32 ![] bcast_S_S4x16384x32),
    StableHlo.TRef.ternary (.of main_call8_v13 : StableHlo.TRef sig ⟨S4x16384x32, .i1⟩) (.of main_call8_v12 : StableHlo.TRef sig ⟨S4x16384x32, .f32⟩) (.of main_call8_v14 : StableHlo.TRef sig ⟨S4x16384x32, .f32⟩) (.of main_v36 : StableHlo.TRef sig ⟨S4x16384x32, .f32⟩) select ]
theorem hostOps0_11_sub : (hostOps0_11 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-- the linear map, the maximum over the neighbours and the mean. -/
abbrev hostOps0_12 : List (HloOp τ sig (Elt F)) :=
  [ StableHlo.reshape main_v36 main_v37 (rfl : (.f32 : EltTy) = .f32) shapeCasts_S4x16384x32_S4x512x32x32,
    StableHlo.binary main_v33 main_v37 main_v38 ((fun a b => concatenate S4x512x32x35 3 [⟨S4x512x32x3, a⟩, ⟨S4x512x32x32, b⟩] concatenates_S4x512x32x3_S4x512x32x32_S4x512x32x35_d3) : (⟨S4x512x32x3, .f32⟩ : BufTy).Contents (Elt F) → (⟨S4x512x32x32, .f32⟩ : BufTy).Contents (Elt F) → (⟨S4x512x32x35, .f32⟩ : BufTy).Contents (Elt F)),
    StableHlo.unary main_v38 main_v39 ((transpose S4x35x32x512 [0, 3, 2, 1] · transposes_S4x512x32x35_S4x35x32x512_0_3_2_1) : (⟨S4x512x32x35, .f32⟩ : BufTy).Contents (Elt F) → (⟨S4x35x32x512, .f32⟩ : BufTy).Contents (Elt F)),
    StableHlo.binary main_v39 main_arg2 main_v40 ((fun l r => Host.dotGeneral dot_S4x35x32x512_S64x35_S4x32x512x64_1_1_023_0_n_n none l r) : (⟨S4x35x32x512, .f32⟩ : BufTy).Contents (Elt F) → (⟨S64x35, .f32⟩ : BufTy).Contents (Elt F) → (⟨S4x32x512x64, .f32⟩ : BufTy).Contents (Elt F)),
    StableHlo.unary main_v40 main_v41 ((transpose S4x64x32x512 [0, 3, 1, 2] · transposes_S4x32x512x64_S4x64x32x512_0_3_1_2) : (⟨S4x32x512x64, .f32⟩ : BufTy).Contents (Elt F) → (⟨S4x64x32x512, .f32⟩ : BufTy).Contents (Elt F)),
    StableHlo.unary main_arg3 main_v42 (broadcastInDim S1x64x1x1 ![1] bcast_S64_S1x64x1x1_1 : (⟨S64, .f32⟩ : BufTy).Contents (Elt F) → (⟨S1x64x1x1, .f32⟩ : BufTy).Contents (Elt F)),
    StableHlo.unary main_v42 main_v43 (broadcastInDim S4x64x32x512 ![0, 1, 2, 3] bcast_S1x64x1x1_S4x64x32x512_0_1_2_3 : (⟨S1x64x1x1, .f32⟩ : BufTy).Contents (Elt F) → (⟨S4x64x32x512, .f32⟩ : BufTy).Contents (Elt F)),
    StableHlo.binary main_v41 main_v43 main_v44 (addf : (⟨S4x64x32x512, .f32⟩ : BufTy).Contents (Elt F) → (⟨S4x64x32x512, .f32⟩ : BufTy).Contents (Elt F) → (⟨S4x64x32x512, .f32⟩ : BufTy).Contents (Elt F)),
    StableHlo.nullary main_cst_6 (constant S_ .f32 0xFF800000#32),
    StableHlo.binary main_v44 main_cst_6 main_v45 ((fun x v => Host.reduce FloatOps.maximumf x v reducesTo_S4x64x32x512_S4x64x512_d2 h_S_) : (⟨S4x64x32x512, .f32⟩ : BufTy).Contents (Elt F) → (⟨S_, .f32⟩ : BufTy).Contents (Elt F) → (⟨S4x64x512, .f32⟩ : BufTy).Contents (Elt F)),
    StableHlo.unary main_v45 main_v46 ((transpose S4x512x64 [0, 2, 1] · transposes_S4x64x512_S4x512x64_0_2_1) : (⟨S4x64x512, .f32⟩ : BufTy).Contents (Elt F) → (⟨S4x512x64, .f32⟩ : BufTy).Contents (Elt F)),
    StableHlo.nullary main_cst_7 (constant S_ .f32 0x00000000#32),
    StableHlo.binary main_v46 main_cst_7 main_v47 ((fun x v => Host.reduceAdd x v reducesTo_S4x512x64_S4x512_d2 h_S_) : (⟨S4x512x64, .f32⟩ : BufTy).Contents (Elt F) → (⟨S_, .f32⟩ : BufTy).Contents (Elt F) → (⟨S4x512, .f32⟩ : BufTy).Contents (Elt F)),
    StableHlo.unary main_v47 main_v48 (broadcastInDim S4x512x1 ![0, 1] bcast_S4x512_S4x512x1_0_1 : (⟨S4x512, .f32⟩ : BufTy).Contents (Elt F) → (⟨S4x512x1, .f32⟩ : BufTy).Contents (Elt F)),
    StableHlo.nullary main_cst_8 (constant S_ .f32 0x42800000#32),
    StableHlo.unary main_cst_8 main_v49 (broadcastInDim S4x512x1 ![] bcast_S_S4x512x1 : (⟨S_, .f32⟩ : BufTy).Contents (Elt F) → (⟨S4x512x1, .f32⟩ : BufTy).Contents (Elt F)),
    StableHlo.binary main_v48 main_v49 main_v50 (Host.divf : (⟨S4x512x1, .f32⟩ : BufTy).Contents (Elt F) → (⟨S4x512x1, .f32⟩ : BufTy).Contents (Elt F) → (⟨S4x512x1, .f32⟩ : BufTy).Contents (Elt F)),
    StableHlo.nullary main_c_9 (constantI S_ 32 0#32) ]
theorem hostOps0_12_sub : (hostOps0_12 : List (HloOp τ sig (Elt F))).Forall fun op => op.bufs ⊆ StableHlo.tcRefs τ sig :=
  ⟨StableHlo.reshape_bufs_sub .., StableHlo.binary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩

/-- the variance. -/
abbrev hostOps0_13 : List (HloOp τ sig (Elt F)) :=
  [ StableHlo.TRef.nullary (.of main_call9_cst : StableHlo.TRef sig ⟨S_, .f32⟩) (constant S_ .f32 0x00000000#32),
    StableHlo.TRef.binary (.of main_v46 : StableHlo.TRef sig ⟨S4x512x64, .f32⟩) (.of main_call9_cst : StableHlo.TRef sig ⟨S_, .f32⟩) (.of main_call9_v0 : StableHlo.TRef sig ⟨S4x512, .f32⟩) (fun x v => Host.reduceAdd x v reducesTo_S4x512x64_S4x512_d2 h_S_),
    StableHlo.TRef.unary (.of main_call9_v0 : StableHlo.TRef sig ⟨S4x512, .f32⟩) (.of main_call9_v1 : StableHlo.TRef sig ⟨S4x512x1, .f32⟩) (broadcastInDim S4x512x1 ![0, 1] bcast_S4x512_S4x512x1_0_1),
    StableHlo.TRef.nullary (.of main_call9_cst_0 : StableHlo.TRef sig ⟨S_, .f32⟩) (constant S_ .f32 0x42800000#32),
    StableHlo.TRef.unary (.of main_call9_cst_0 : StableHlo.TRef sig ⟨S_, .f32⟩) (.of main_call9_v2 : StableHlo.TRef sig ⟨S4x512x1, .f32⟩) (broadcastInDim S4x512x1 ![] bcast_S_S4x512x1),
    StableHlo.TRef.binary (.of main_call9_v1 : StableHlo.TRef sig ⟨S4x512x1, .f32⟩) (.of main_call9_v2 : StableHlo.TRef sig ⟨S4x512x1, .f32⟩) (.of main_call9_v3 : StableHlo.TRef sig ⟨S4x512x1, .f32⟩) Host.divf,
    StableHlo.TRef.unary (.of main_call9_v3 : StableHlo.TRef sig ⟨S4x512x1, .f32⟩) (.of main_call9_v4 : StableHlo.TRef sig ⟨S4x512x64, .f32⟩) (broadcastInDim S4x512x64 ![0, 1, 2] bcast_S4x512x1_S4x512x64_0_1_2),
    StableHlo.TRef.binary (.of main_v46 : StableHlo.TRef sig ⟨S4x512x64, .f32⟩) (.of main_call9_v4 : StableHlo.TRef sig ⟨S4x512x64, .f32⟩) (.of main_call9_v5 : StableHlo.TRef sig ⟨S4x512x64, .f32⟩) subf,
    StableHlo.TRef.binary (.of main_call9_v5 : StableHlo.TRef sig ⟨S4x512x64, .f32⟩) (.of main_call9_v5 : StableHlo.TRef sig ⟨S4x512x64, .f32⟩) (.of main_call9_v6 : StableHlo.TRef sig ⟨S4x512x64, .f32⟩) mulf,
    StableHlo.TRef.unary (.of main_c_9 : StableHlo.TRef sig ⟨S_, .i32⟩) (.of main_call9_v7 : StableHlo.TRef sig ⟨S_, .f32⟩) (sitofp .f32),
    StableHlo.TRef.nullary (.of main_call9_cst_1 : StableHlo.TRef sig ⟨S_, .f32⟩) (constant S_ .f32 0x42800000#32),
    StableHlo.TRef.binary (.of main_call9_cst_1 : StableHlo.TRef sig ⟨S_, .f32⟩) (.of main_call9_v7 : StableHlo.TRef sig ⟨S_, .f32⟩) (.of main_call9_v8 : StableHlo.TRef sig ⟨S_, .f32⟩) subf,
    StableHlo.TRef.nullary (.of main_call9_cst_2 : StableHlo.TRef sig ⟨S_, .f32⟩) (constant S_ .f32 0x00000000#32),
    StableHlo.TRef.binary (.of main_call9_v6 : StableHlo.TRef sig ⟨S4x512x64, .f32⟩) (.of main_call9_cst_2 : StableHlo.TRef sig ⟨S_, .f32⟩) (.of main_call9_v9 : StableHlo.TRef sig ⟨S4x512, .f32⟩) (fun x v => Host.reduceAdd x v reducesTo_S4x512x64_S4x512_d2 h_S_),
    StableHlo.TRef.unary (.of main_call9_v9 : StableHlo.TRef sig ⟨S4x512, .f32⟩) (.of main_call9_v10 : StableHlo.TRef sig ⟨S4x512x1, .f32⟩) (broadcastInDim S4x512x1 ![0, 1] bcast_S4x512_S4x512x1_0_1),
    StableHlo.TRef.unary (.of main_call9_v8 : StableHlo.TRef sig ⟨S_, .f32⟩) (.of main_call9_v11 : StableHlo.TRef sig ⟨S4x512x1, .f32⟩) (broadcastInDim S4x512x1 ![] bcast_S_S4x512x1),
    StableHlo.TRef.binary (.of main_call9_v10 : StableHlo.TRef sig ⟨S4x512x1, .f32⟩) (.of main_call9_v11 : StableHlo.TRef sig ⟨S4x512x1, .f32⟩) (.of main_call9_v12 : StableHlo.TRef sig ⟨S4x512x1, .f32⟩) Host.divf,
    StableHlo.TRef.nullary (.of main_call9_cst_3 : StableHlo.TRef sig ⟨S_, .f32⟩) (constant S_ .f32 0x00000000#32),
    StableHlo.TRef.binary (.of main_call9_v8 : StableHlo.TRef sig ⟨S_, .f32⟩) (.of main_call9_cst_3 : StableHlo.TRef sig ⟨S_, .f32⟩) (.of main_call9_v13 : StableHlo.TRef sig ⟨S_, .i1⟩) (cmpf .ogt),
    StableHlo.TRef.nullary (.of main_call9_cst_4 : StableHlo.TRef sig ⟨S_, .f32⟩) (constant S_ .f32 0x7FC00000#32),
    StableHlo.TRef.unary (.of main_call9_cst_4 : StableHlo.TRef sig ⟨S_, .f32⟩) (.of main_call9_call0_v0 : StableHlo.TRef sig ⟨S_, .f32⟩) id,
    StableHlo.TRef.unary (.of main_call9_call0_v0 : StableHlo.TRef sig ⟨S_, .f32⟩) (.of main_call9_call0_v1 : StableHlo.TRef sig ⟨S4x512x1, .f32⟩) (broadcastInDim S4x512x1 ![] bcast_S_S4x512x1),
    StableHlo.TRef.ternary (.of main_call9_v13 : StableHlo.TRef sig ⟨S_, .i1⟩) (.of main_call9_v12 : StableHlo.TRef sig ⟨S4x512x1, .f32⟩) (.of main_call9_call0_v1 : StableHlo.TRef sig ⟨S4x512x1, .f32⟩) (.of main_v51 : StableHlo.TRef sig ⟨S4x512x1, .f32⟩) (fun p a b => select (broadcastInDim S4x512x1 ![] bcast_S_S4x512x1 p) a b) ]
theorem hostOps0_13_sub : (hostOps0_13 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

/-- the normalisation. -/
abbrev hostOps0_14 : List (HloOp τ sig (Elt F)) :=
  [ StableHlo.unary main_v50 main_v52 (broadcastInDim S4x512x64 ![0, 1, 2] bcast_S4x512x1_S4x512x64_0_1_2 : (⟨S4x512x1, .f32⟩ : BufTy).Contents (Elt F) → (⟨S4x512x64, .f32⟩ : BufTy).Contents (Elt F)),
    StableHlo.binary main_v46 main_v52 main_v53 (subf : (⟨S4x512x64, .f32⟩ : BufTy).Contents (Elt F) → (⟨S4x512x64, .f32⟩ : BufTy).Contents (Elt F) → (⟨S4x512x64, .f32⟩ : BufTy).Contents (Elt F)),
    StableHlo.nullary main_cst_10 (constant S_ .f32 0x3727C5AC#32),
    StableHlo.unary main_cst_10 main_v54 (broadcastInDim S4x512x1 ![] bcast_S_S4x512x1 : (⟨S_, .f32⟩ : BufTy).Contents (Elt F) → (⟨S4x512x1, .f32⟩ : BufTy).Contents (Elt F)),
    StableHlo.binary main_v51 main_v54 main_v55 (addf : (⟨S4x512x1, .f32⟩ : BufTy).Contents (Elt F) → (⟨S4x512x1, .f32⟩ : BufTy).Contents (Elt F) → (⟨S4x512x1, .f32⟩ : BufTy).Contents (Elt F)),
    StableHlo.unary main_v55 main_v56 (Host.sqrt : (⟨S4x512x1, .f32⟩ : BufTy).Contents (Elt F) → (⟨S4x512x1, .f32⟩ : BufTy).Contents (Elt F)),
    StableHlo.unary main_v56 main_v57 (broadcastInDim S4x512x64 ![0, 1, 2] bcast_S4x512x1_S4x512x64_0_1_2 : (⟨S4x512x1, .f32⟩ : BufTy).Contents (Elt F) → (⟨S4x512x64, .f32⟩ : BufTy).Contents (Elt F)),
    StableHlo.binary main_v53 main_v57 main_v58 (Host.divf : (⟨S4x512x64, .f32⟩ : BufTy).Contents (Elt F) → (⟨S4x512x64, .f32⟩ : BufTy).Contents (Elt F) → (⟨S4x512x64, .f32⟩ : BufTy).Contents (Elt F)),
    StableHlo.unary main_arg4 main_v59 (broadcastInDim S1x1x64 ![2] bcast_S64_S1x1x64_2 : (⟨S64, .f32⟩ : BufTy).Contents (Elt F) → (⟨S1x1x64, .f32⟩ : BufTy).Contents (Elt F)),
    StableHlo.unary main_v59 main_v60 (broadcastInDim S4x512x64 ![0, 1, 2] bcast_S1x1x64_S4x512x64_0_1_2 : (⟨S1x1x64, .f32⟩ : BufTy).Contents (Elt F) → (⟨S4x512x64, .f32⟩ : BufTy).Contents (Elt F)),
    StableHlo.binary main_v58 main_v60 main_v61 (mulf : (⟨S4x512x64, .f32⟩ : BufTy).Contents (Elt F) → (⟨S4x512x64, .f32⟩ : BufTy).Contents (Elt F) → (⟨S4x512x64, .f32⟩ : BufTy).Contents (Elt F)),
    StableHlo.unary main_arg5 main_v62 (broadcastInDim S1x1x64 ![2] bcast_S64_S1x1x64_2 : (⟨S64, .f32⟩ : BufTy).Contents (Elt F) → (⟨S1x1x64, .f32⟩ : BufTy).Contents (Elt F)),
    StableHlo.unary main_v62 main_v63 (broadcastInDim S4x512x64 ![0, 1, 2] bcast_S1x1x64_S4x512x64_0_1_2 : (⟨S1x1x64, .f32⟩ : BufTy).Contents (Elt F) → (⟨S4x512x64, .f32⟩ : BufTy).Contents (Elt F)),
    StableHlo.binary main_v61 main_v63 main_v64 (addf : (⟨S4x512x64, .f32⟩ : BufTy).Contents (Elt F) → (⟨S4x512x64, .f32⟩ : BufTy).Contents (Elt F) → (⟨S4x512x64, .f32⟩ : BufTy).Contents (Elt F)) ]
theorem hostOps0_14_sub : (hostOps0_14 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

/-- The two pieces of `hostOps0_12`. -/
abbrev main_part0_ops12 : List (HloOp τ sig (Elt F)) :=
  [ StableHlo.reshape main_v36 main_v37 (rfl : (.f32 : EltTy) = .f32) shapeCasts_S4x16384x32_S4x512x32x32,
    StableHlo.binary main_v33 main_v37 main_v38 ((fun a b => concatenate S4x512x32x35 3 [⟨S4x512x32x3, a⟩, ⟨S4x512x32x32, b⟩] concatenates_S4x512x32x3_S4x512x32x32_S4x512x32x35_d3) : (⟨S4x512x32x3, .f32⟩ : BufTy).Contents (Elt F) → (⟨S4x512x32x32, .f32⟩ : BufTy).Contents (Elt F) → (⟨S4x512x32x35, .f32⟩ : BufTy).Contents (Elt F)),
    StableHlo.unary main_v38 main_v39 ((transpose S4x35x32x512 [0, 3, 2, 1] · transposes_S4x512x32x35_S4x35x32x512_0_3_2_1) : (⟨S4x512x32x35, .f32⟩ : BufTy).Contents (Elt F) → (⟨S4x35x32x512, .f32⟩ : BufTy).Contents (Elt F)),
    StableHlo.binary main_v39 main_arg2 main_v40 ((fun l r => Host.dotGeneral dot_S4x35x32x512_S64x35_S4x32x512x64_1_1_023_0_n_n none l r) : (⟨S4x35x32x512, .f32⟩ : BufTy).Contents (Elt F) → (⟨S64x35, .f32⟩ : BufTy).Contents (Elt F) → (⟨S4x32x512x64, .f32⟩ : BufTy).Contents (Elt F)),
    StableHlo.unary main_v40 main_v41 ((transpose S4x64x32x512 [0, 3, 1, 2] · transposes_S4x32x512x64_S4x64x32x512_0_3_1_2) : (⟨S4x32x512x64, .f32⟩ : BufTy).Contents (Elt F) → (⟨S4x64x32x512, .f32⟩ : BufTy).Contents (Elt F)),
    StableHlo.unary main_arg3 main_v42 (broadcastInDim S1x64x1x1 ![1] bcast_S64_S1x64x1x1_1 : (⟨S64, .f32⟩ : BufTy).Contents (Elt F) → (⟨S1x64x1x1, .f32⟩ : BufTy).Contents (Elt F)),
    StableHlo.unary main_v42 main_v43 (broadcastInDim S4x64x32x512 ![0, 1, 2, 3] bcast_S1x64x1x1_S4x64x32x512_0_1_2_3 : (⟨S1x64x1x1, .f32⟩ : BufTy).Contents (Elt F) → (⟨S4x64x32x512, .f32⟩ : BufTy).Contents (Elt F)),
    StableHlo.binary main_v41 main_v43 main_v44 (addf : (⟨S4x64x32x512, .f32⟩ : BufTy).Contents (Elt F) → (⟨S4x64x32x512, .f32⟩ : BufTy).Contents (Elt F) → (⟨S4x64x32x512, .f32⟩ : BufTy).Contents (Elt F)),
    StableHlo.nullary main_cst_6 (constant S_ .f32 0xFF800000#32),
    StableHlo.binary main_v44 main_cst_6 main_v45 ((fun x v => Host.reduce FloatOps.maximumf x v reducesTo_S4x64x32x512_S4x64x512_d2 h_S_) : (⟨S4x64x32x512, .f32⟩ : BufTy).Contents (Elt F) → (⟨S_, .f32⟩ : BufTy).Contents (Elt F) → (⟨S4x64x512, .f32⟩ : BufTy).Contents (Elt F)) ]
abbrev main_part1_ops0 : List (HloOp τ sig (Elt F)) :=
  [ StableHlo.unary main_v45 main_v46 ((transpose S4x512x64 [0, 2, 1] · transposes_S4x64x512_S4x512x64_0_2_1) : (⟨S4x64x512, .f32⟩ : BufTy).Contents (Elt F) → (⟨S4x512x64, .f32⟩ : BufTy).Contents (Elt F)),
    StableHlo.nullary main_cst_7 (constant S_ .f32 0x00000000#32),
    StableHlo.binary main_v46 main_cst_7 main_v47 ((fun x v => Host.reduceAdd x v reducesTo_S4x512x64_S4x512_d2 h_S_) : (⟨S4x512x64, .f32⟩ : BufTy).Contents (Elt F) → (⟨S_, .f32⟩ : BufTy).Contents (Elt F) → (⟨S4x512, .f32⟩ : BufTy).Contents (Elt F)),
    StableHlo.unary main_v47 main_v48 (broadcastInDim S4x512x1 ![0, 1] bcast_S4x512_S4x512x1_0_1 : (⟨S4x512, .f32⟩ : BufTy).Contents (Elt F) → (⟨S4x512x1, .f32⟩ : BufTy).Contents (Elt F)),
    StableHlo.nullary main_cst_8 (constant S_ .f32 0x42800000#32),
    StableHlo.unary main_cst_8 main_v49 (broadcastInDim S4x512x1 ![] bcast_S_S4x512x1 : (⟨S_, .f32⟩ : BufTy).Contents (Elt F) → (⟨S4x512x1, .f32⟩ : BufTy).Contents (Elt F)),
    StableHlo.binary main_v48 main_v49 main_v50 (Host.divf : (⟨S4x512x1, .f32⟩ : BufTy).Contents (Elt F) → (⟨S4x512x1, .f32⟩ : BufTy).Contents (Elt F) → (⟨S4x512x1, .f32⟩ : BufTy).Contents (Elt F)),
    StableHlo.nullary main_c_9 (constantI S_ 32 0#32) ]
/-- @main as the chain of its lists, step by step. -/
theorem main_part0_chain (c : Dev nD) : main_part0 (F := F) c = (Pipeline.chainK
  [ StableHlo.seq hostOps0,
    HostLoop.enter 0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11 ]
  (StableHlo.seq main_part0_ops12) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, StableHlo.chainK_seq_cons, Pipeline.chainK_cons, Pipeline.chainK_cons, StableHlo.chainK_seq_cons, Pipeline.chainK_cons, StableHlo.chainK_seq_cons, Pipeline.chainK_cons, StableHlo.chainK_seq_cons, Pipeline.chainK_cons]
  chain_rfl

/-- @main as the chain of its lists, step by step. -/
theorem main_part1_chain (c : Dev nD) : main_part1 (F := F) c = (Pipeline.chain
  [ StableHlo.seq main_part1_ops0,
    StableHlo.seq hostOps0_13,
    StableHlo.seq hostOps0_14 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

/-- @main as the chain of its lists, step by step. -/
theorem main_chain_windows (c : Dev nD) : main (F := F) c = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11,
    StableHlo.seq main_part0_ops12,
    StableHlo.seq main_part1_ops0,
    StableHlo.seq hostOps0_13,
    StableHlo.seq hostOps0_14 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c) = _
  rewrite [main_part1_chain, main_part0_chain, Pipeline.chainK_bind_chain]
  chain_rfl

/-- The lists, each with its pieces. -/
abbrev main_groups (c : Dev nD) : List (StableHlo.Group nD τ sig (Elt F) (HostLoop.Sig (Pipeline.Sig Λ₀ (Fin 0) fun p => (pcfgs (F := F) p).Adm) 1)) :=
  [ .ops [hostOps0],
    .prog (HostLoop.enter 0),
    .ops [hostOps0_1],
    .ops [hostOps0_2],
    .ops [hostOps0_3],
    .ops [hostOps0_4],
    .ops [hostOps0_5],
    .ops [hostOps0_6],
    .ops [hostOps0_7],
    .ops [hostOps0_8],
    .ops [hostOps0_9],
    .ops [hostOps0_10],
    .ops [hostOps0_11],
    .ops [main_part0_ops12, main_part1_ops0],
    .ops [hostOps0_13],
    .ops [hostOps0_14] ]

/-- @main as the chain of its lists, step by step. -/
theorem main_chain_cut (c : Dev nD) : (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11,
    StableHlo.seq main_part0_ops12,
    StableHlo.seq main_part1_ops0,
    StableHlo.seq hostOps0_13,
    StableHlo.seq hostOps0_14 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- @main as the chain of its lists, step by step. -/
theorem main_chain_whole (c : Dev nD) : Pipeline.chain ((main_groups (F := F) c).map StableHlo.Group.whole) = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11,
    StableHlo.seq hostOps0_12,
    StableHlo.seq hostOps0_13,
    StableHlo.seq hostOps0_14 ] : Prog (TpuEff nD τ sig (Elt F) (HostLoop.Sig (Pipeline.Sig Λ₀ (Fin 0) fun p => (pcfgs (F := F) p).Adm) 1) .tc) PUnit) := by
  chain_rfl

/-- @main as the chain of its lists, step by step. -/
theorem main_chain (c : Dev nD) : main (F := F) c = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11,
    StableHlo.seq hostOps0_12,
    StableHlo.seq hostOps0_13,
    StableHlo.seq hostOps0_14 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

/-- One stretch of a trip. -/
abbrev while0Ops0 : List (HloOp τ sig (Elt F)) :=
  [ StableHlo.unary main_v3_3 main_while0b_v65 (broadcastInDim S4x1x1 ![0] bcast_S4_S4x1x1_0 : (⟨S4, .i32⟩ : BufTy).Contents (Elt F) → (⟨S4x1x1, .i32⟩ : BufTy).Contents (Elt F)) ]
theorem while0Ops0_sub : (while0Ops0 : List (HloOp τ sig (Elt F))).Forall fun op => op.bufs ⊆ StableHlo.tcRefs τ sig :=
  StableHlo.unary_bufs_sub ..
/-- One stretch of a trip. -/
abbrev while0Ops0_1 : List (HloOp τ sig (Elt F)) :=
  [ StableHlo.TRef.nullary (.of main_while0b_call0_c : StableHlo.TRef sig ⟨S_, .i32⟩) (constantI S_ 32 0#32),
    StableHlo.TRef.unary (.of main_while0b_call0_c : StableHlo.TRef sig ⟨S_, .i32⟩) (.of main_while0b_call0_v0 : StableHlo.TRef sig ⟨S4x1x1, .i32⟩) (broadcastInDim S4x1x1 ![] bcast_S_S4x1x1),
    StableHlo.TRef.binary (.of main_while0b_v65 : StableHlo.TRef sig ⟨S4x1x1, .i32⟩) (.of main_while0b_call0_v0 : StableHlo.TRef sig ⟨S4x1x1, .i32⟩) (.of main_while0b_call0_v1 : StableHlo.TRef sig ⟨S4x1x1, .i1⟩) (cmpi .slt),
    StableHlo.TRef.nullary (.of main_while0b_call0_c_0 : StableHlo.TRef sig ⟨S_, .i32⟩) (constantI S_ 32 4096#32),
    StableHlo.TRef.unary (.of main_while0b_call0_c_0 : StableHlo.TRef sig ⟨S_, .i32⟩) (.of main_while0b_call0_v2 : StableHlo.TRef sig ⟨S4x1x1, .i32⟩) (broadcastInDim S4x1x1 ![] bcast_S_S4x1x1),
    StableHlo.TRef.binary (.of main_while0b_v65 : StableHlo.TRef sig ⟨S4x1x1, .i32⟩) (.of main_while0b_call0_v2 : StableHlo.TRef sig ⟨S4x1x1, .i32⟩) (.of main_while0b_call0_v3 : StableHlo.TRef sig ⟨S4x1x1, .i32⟩) addi,
    StableHlo.TRef.ternary (.of main_while0b_call0_v1 : StableHlo.TRef sig ⟨S4x1x1, .i1⟩) (.of main_while0b_call0_v3 : StableHlo.TRef sig ⟨S4x1x1, .i32⟩) (.of main_while0b_v65 : StableHlo.TRef sig ⟨S4x1x1, .i32⟩) (.of main_while0b_call0_v4 : StableHlo.TRef sig ⟨S4x1x1, .i32⟩) select,
    StableHlo.TRef.nullary (.of main_while0b_call0_c_1 : StableHlo.TRef sig ⟨S1, .i32⟩) (constantI S1 32 4095#32),
    StableHlo.TRef.nullary (.of main_while0b_call0_c_2 : StableHlo.TRef sig ⟨S_, .i32⟩) (constantI S_ 32 0#32),
    StableHlo.TRef.unary (.of main_while0b_call0_c_2 : StableHlo.TRef sig ⟨S_, .i32⟩) (.of main_while0b_call0_v5 : StableHlo.TRef sig ⟨S4x1x1, .i32⟩) (broadcastInDim S4x1x1 ![] bcast_S_S4x1x1),
    StableHlo.TRef.binary (.of main_while0b_call0_v4 : StableHlo.TRef sig ⟨S4x1x1, .i32⟩) (.of main_while0b_call0_v5 : StableHlo.TRef sig ⟨S4x1x1, .i32⟩) (.of main_while0b_call0_v6 : StableHlo.TRef sig ⟨S4x1x1, .i1⟩) (cmpi .sge),
    StableHlo.TRef.unary (.of main_while0b_call0_c_1 : StableHlo.TRef sig ⟨S1, .i32⟩) (.of main_while0b_call0_v7 : StableHlo.TRef sig ⟨S1x1x1, .i32⟩) (broadcastInDim S1x1x1 ![2] bcast_S1_S1x1x1_2),
    StableHlo.TRef.unary (.of main_while0b_call0_v7 : StableHlo.TRef sig ⟨S1x1x1, .i32⟩) (.of main_while0b_call0_v8 : StableHlo.TRef sig ⟨S4x1x1, .i32⟩) (broadcastInDim S4x1x1 ![0, 1, 2] bcast_S1x1x1_S4x1x1_0_1_2),
    StableHlo.TRef.binary (.of main_while0b_call0_v4 : StableHlo.TRef sig ⟨S4x1x1, .i32⟩) (.of main_while0b_call0_v8 : StableHlo.TRef sig ⟨S4x1x1, .i32⟩) (.of main_while0b_call0_v9 : StableHlo.TRef sig ⟨S4x1x1, .i1⟩) (cmpi .sle),
    StableHlo.TRef.binary (.of main_while0b_call0_v6 : StableHlo.TRef sig ⟨S4x1x1, .i1⟩) (.of main_while0b_call0_v9 : StableHlo.TRef sig ⟨S4x1x1, .i1⟩) (.of main_while0b_call0_v10 : StableHlo.TRef sig ⟨S4x1x1, .i1⟩) andi,
    StableHlo.TRef.nullary (.of main_while0b_call0_c_3 : StableHlo.TRef sig ⟨S_, .i1⟩) (constantI S_ 1 1#1),
    StableHlo.TRef.binary (.of main_while0b_call0_v10 : StableHlo.TRef sig ⟨S4x1x1, .i1⟩) (.of main_while0b_call0_c_3 : StableHlo.TRef sig ⟨S_, .i1⟩) (.of main_while0b_call0_v11 : StableHlo.TRef sig ⟨S4x1, .i1⟩) (fun x v => Host.reduce IntOp.andi x v reducesTo_S4x1x1_S4x1_d2 h_S_),
    StableHlo.TRef.binary (.of main_v3_0 : StableHlo.TRef sig ⟨S4x4096x3, .f32⟩) (.of main_while0b_call0_v4 : StableHlo.TRef sig ⟨S4x1x1, .i32⟩) (.of main_while0b_call0_v12 : StableHlo.TRef sig ⟨S4x1x3, .f32⟩) (fun x i => Host.gather gather_S4x4096x3_S4x1x1_S4x1x3_2_1_0_0_1_2_113 x i),
    StableHlo.TRef.unary (.of main_while0b_call0_v11 : StableHlo.TRef sig ⟨S4x1, .i1⟩) (.of main_while0b_call0_v13 : StableHlo.TRef sig ⟨S4x1x3, .i1⟩) (broadcastInDim S4x1x3 ![0, 1] bcast_S4x1_S4x1x3_0_1),
    StableHlo.TRef.nullary (.of main_while0b_call0_cst : StableHlo.TRef sig ⟨S_, .f32⟩) (constant S_ .f32 0x7FC00000#32),
    StableHlo.TRef.unary (.of main_while0b_call0_cst : StableHlo.TRef sig ⟨S_, .f32⟩) (.of main_while0b_call0_v14 : StableHlo.TRef sig ⟨S4x1x3, .f32⟩) (broadcastInDim S4x1x3 ![] bcast_S_S4x1x3),
    StableHlo.TRef.ternary (.of main_while0b_call0_v13 : StableHlo.TRef sig ⟨S4x1x3, .i1⟩) (.of main_while0b_call0_v12 : StableHlo.TRef sig ⟨S4x1x3, .f32⟩) (.of main_while0b_call0_v14 : StableHlo.TRef sig ⟨S4x1x3, .f32⟩) (.of main_while0b_v66 : StableHlo.TRef sig ⟨S4x1x3, .f32⟩) select ]
theorem while0Ops0_1_sub : (while0Ops0_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- One stretch of a trip. -/
abbrev while0Ops0_2 : List (HloOp τ sig (Elt F)) :=
  [ StableHlo.unary main_while0b_v66 main_while0b_v67 (broadcastInDim S4x4096x3 ![0, 1, 2] bcast_S4x1x3_S4x4096x3_0_1_2 : (⟨S4x1x3, .f32⟩ : BufTy).Contents (Elt F) → (⟨S4x4096x3, .f32⟩ : BufTy).Contents (Elt F)),
    StableHlo.binary main_v3_0 main_while0b_v67 main_while0b_v68 (subf : (⟨S4x4096x3, .f32⟩ : BufTy).Contents (Elt F) → (⟨S4x4096x3, .f32⟩ : BufTy).Contents (Elt F) → (⟨S4x4096x3, .f32⟩ : BufTy).Contents (Elt F)),
    StableHlo.binary main_while0b_v68 main_while0b_v68 main_while0b_v69 (mulf : (⟨S4x4096x3, .f32⟩ : BufTy).Contents (Elt F) → (⟨S4x4096x3, .f32⟩ : BufTy).Contents (Elt F) → (⟨S4x4096x3, .f32⟩ : BufTy).Contents (Elt F)),
    StableHlo.nullary main_while0b_cst_15 (constant S_ .f32 0x00000000#32),
    StableHlo.binary main_while0b_v69 main_while0b_cst_15 main_while0b_v70 ((fun x v => Host.reduceAdd x v reducesTo_S4x4096x3_S4x4096_d2 h_S_) : (⟨S4x4096x3, .f32⟩ : BufTy).Contents (Elt F) → (⟨S_, .f32⟩ : BufTy).Contents (Elt F) → (⟨S4x4096, .f32⟩ : BufTy).Contents (Elt F)),
    StableHlo.binary main_v3_2 main_while0b_v70 main_while0b_v71 (minimumf : (⟨S4x4096, .f32⟩ : BufTy).Contents (Elt F) → (⟨S4x4096, .f32⟩ : BufTy).Contents (Elt F) → (⟨S4x4096, .f32⟩ : BufTy).Contents (Elt F)) ]
theorem while0Ops0_2_sub : (while0Ops0_2 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.binary_bufs_sub .., StableHlo.binary_bufs_sub ..⟩
/-- One stretch of a trip. -/
abbrev while0Ops0_3 : List (HloOp τ sig (Elt F)) :=
  [ StableHlo.TRef.nullary (.of main_while0b_call1_v0 : StableHlo.TRef sig ⟨S4x4096, .i32⟩) (iotaInDim S4x4096 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v71 : StableHlo.TRef sig ⟨S4x4096, .f32⟩) (.of main_while0b_call1_v0 : StableHlo.TRef sig ⟨S4x4096, .i32⟩) (.of main_while0b_call1_cst : StableHlo.TRef sig ⟨S_, .f32⟩) (.of main_while0b_call1_c : StableHlo.TRef sig ⟨S_, .i32⟩) (.of main_while0b_call1_v1_0 : StableHlo.TRef sig ⟨S4, .f32⟩) (fun x y u v j => (Host.argReduce reducer_argmax_f32_i32 x y u v reducesTo_S4x4096_S4_d1 h_S_ j).1),
    StableHlo.TRef.quaternary (.of main_while0b_v71 : StableHlo.TRef sig ⟨S4x4096, .f32⟩) (.of main_while0b_call1_v0 : StableHlo.TRef sig ⟨S4x4096, .i32⟩) (.of main_while0b_call1_cst : StableHlo.TRef sig ⟨S_, .f32⟩) (.of main_while0b_call1_c : StableHlo.TRef sig ⟨S_, .i32⟩) (.of main_while0b_v72 : StableHlo.TRef sig ⟨S4, .i32⟩) (fun x y u v j => (Host.argReduce reducer_argmax_f32_i32 x y u v reducesTo_S4x4096_S4_d1 h_S_ j).2) ]
theorem while0Ops0_3_sub : (while0Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- One stretch of a trip. -/
abbrev while0Ops0_4 : List (HloOp τ sig (Elt F)) :=
  [ StableHlo.TRef.unary (.of main_v3_3 : StableHlo.TRef sig ⟨S4, .i32⟩) (.of main_while0b_call2_v0 : StableHlo.TRef sig ⟨S1x4, .i32⟩) (broadcastInDim S1x4 ![1] bcast_S4_S1x4_1),
    StableHlo.TRef.nullary (.of main_while0b_call2_c : StableHlo.TRef sig ⟨S_, .i32⟩) (constantI S_ 32 0#32),
    StableHlo.TRef.binaryIndexed (.of main_v3_4 : StableHlo.TRef sig ⟨S512x4, .i32⟩) (.of main_while0b_call2_v0 : StableHlo.TRef sig ⟨S1x4, .i32⟩) ![(.of main_v3_1 : StableHlo.TRef sig ⟨S_, .i32⟩), (.of main_while0b_call2_c : StableHlo.TRef sig ⟨S_, .i32⟩)] (.of main_while0b_v73 : StableHlo.TRef sig ⟨S512x4, .i32⟩) (fun x u i => Host.dynamicUpdateSlice x u (fun k => (i k (Shape.Idx.first h_S_)).toInt) updateFits_S512x4_S1x4) ]
theorem while0Ops0_4_sub : (while0Ops0_4 : List (HloOp τ sig (Elt F))).Forall fun op => op.bufs ⊆ StableHlo.tcRefs τ sig :=
  ⟨StableHlo.unary_bufs_sub .., StableHlo.nullary_bufs_sub .., StableHlo.binaryIndexed_bufs_sub ..⟩
/-- One stretch of a trip. -/
abbrev while0Ops0_5 : List (HloOp τ sig (Elt F)) :=
  [ StableHlo.nullary main_while0b_c_16 (constantI S_ 32 1#32),
    StableHlo.binary main_v3_1 main_while0b_c_16 main_while0b_v74 (addi : (⟨S_, .i32⟩ : BufTy).Contents (Elt F) → (⟨S_, .i32⟩ : BufTy).Contents (Elt F) → (⟨S_, .i32⟩ : BufTy).Contents (Elt F)),
    StableHlo.unary main_while0b_v74 main_v3_1 id,
    StableHlo.unary main_while0b_v71 main_v3_2 id,
    StableHlo.unary main_while0b_v72 main_v3_3 id,
    StableHlo.unary main_while0b_v73 main_v3_4 id ]
theorem while0Ops0_5_sub : (while0Ops0_5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- One trip is the chain of its stretches. -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, Pipeline.chain_cons, StableHlo.chain_seq_cons]
  chain_rfl

end Cert.ReferenceIdeal.Ops

end
-- ==== Proof.RefLoop.lean ====
/- The reference program's run: every execution ends with each buffer at what the operation lists leave, folded over the
   512 trips, and with every semaphore at zero. -/
module

public import proofs.«01_k».proof.Proof.RefOps

@[expose] public section

set_option maxRecDepth 4096

noncomputable section

namespace Cert.ReferenceIdeal.Ops

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg)

variable {F : FTy → Type} [FloatOps F]

/-! ## What each list writes; none allocates -/

theorem hostOps0_fresh : (hostOps0 : List (HloOp τ sig (Elt F))).Forall fun op => op.fresh = ∅ :=
  StableHlo.forall_fresh_of_map rfl
abbrev hostOps0_W : List (Ref sig .tc) := [main_cst, main_v0, main_c, main_v1, main_c_0, main_v2, main_c_1, main_v3_0, main_v3_1, main_v3_2, main_v3_3, main_v3_4]
theorem hostOps0_writes : (hostOps0 : List (HloOp τ sig (Elt F))).Forall fun op => op.writes ⊆ (hostOps0_W.map (Proc.devRef (τ := τ) .tc)).toFinset :=
  StableHlo.forall_writes_sub_of_map rfl
theorem while0Ops0_fresh : (while0Ops0 : List (HloOp τ sig (Elt F))).Forall fun op => op.fresh = ∅ :=
  StableHlo.forall_fresh_of_map rfl
abbrev while0Ops0_W : List (Ref sig .tc) := [main_while0b_v65]
theorem while0Ops0_writes : (while0Ops0 : List (HloOp τ sig (Elt F))).Forall fun op => op.writes ⊆ (while0Ops0_W.map (Proc.devRef (τ := τ) .tc)).toFinset :=
  StableHlo.forall_writes_sub_of_map rfl
theorem while0Ops0_1_fresh : (while0Ops0_1 : List (HloOp τ sig (Elt F))).Forall fun op => op.fresh = ∅ :=
  StableHlo.forall_fresh_of_map rfl
abbrev while0Ops0_1_W : List (Ref sig .tc) := [main_while0b_call0_c, main_while0b_call0_v0, main_while0b_call0_v1, main_while0b_call0_c_0, main_while0b_call0_v2, main_while0b_call0_v3, main_while0b_call0_v4, main_while0b_call0_c_1, main_while0b_call0_c_2, main_while0b_call0_v5, main_while0b_call0_v6, main_while0b_call0_v7, main_while0b_call0_v8, main_while0b_call0_v9, main_while0b_call0_v10, main_while0b_call0_c_3, main_while0b_call0_v11, main_while0b_call0_v12, main_while0b_call0_v13, main_while0b_call0_cst, main_while0b_call0_v14, main_while0b_v66]
theorem while0Ops0_1_writes : (while0Ops0_1 : List (HloOp τ sig (Elt F))).Forall fun op => op.writes ⊆ (while0Ops0_1_W.map (Proc.devRef (τ := τ) .tc)).toFinset :=
  StableHlo.forall_writes_sub_of_map rfl
theorem while0Ops0_2_fresh : (while0Ops0_2 : List (HloOp τ sig (Elt F))).Forall fun op => op.fresh = ∅ :=
  StableHlo.forall_fresh_of_map rfl
abbrev while0Ops0_2_W : List (Ref sig .tc) := [main_while0b_v67, main_while0b_v68, main_while0b_v69, main_while0b_cst_15, main_while0b_v70, main_while0b_v71]
theorem while0Ops0_2_writes : (while0Ops0_2 : List (HloOp τ sig (Elt F))).Forall fun op => op.writes ⊆ (while0Ops0_2_W.map (Proc.devRef (τ := τ) .tc)).toFinset :=
  StableHlo.forall_writes_sub_of_map rfl
theorem while0Ops0_3_fresh : (while0Ops0_3 : List (HloOp τ sig (Elt F))).Forall fun op => op.fresh = ∅ :=
  StableHlo.forall_fresh_of_map rfl
abbrev while0Ops0_3_W : List (Ref sig .tc) := [main_while0b_call1_v0, main_while0b_call1_cst, main_while0b_call1_c, main_while0b_call1_v1_0, main_while0b_v72]
theorem while0Ops0_3_writes : (while0Ops0_3 : List (HloOp τ sig (Elt F))).Forall fun op => op.writes ⊆ (while0Ops0_3_W.map (Proc.devRef (τ := τ) .tc)).toFinset :=
  StableHlo.forall_writes_sub_of_map rfl
theorem while0Ops0_4_fresh : (while0Ops0_4 : List (HloOp τ sig (Elt F))).Forall fun op => op.fresh = ∅ :=
  StableHlo.forall_fresh_of_map rfl
abbrev while0Ops0_4_W : List (Ref sig .tc) := [main_while0b_call2_v0, main_while0b_call2_c, main_while0b_v73]
theorem while0Ops0_4_writes : (while0Ops0_4 : List (HloOp τ sig (Elt F))).Forall fun op => op.writes ⊆ (while0Ops0_4_W.map (Proc.devRef (τ := τ) .tc)).toFinset :=
  StableHlo.forall_writes_sub_of_map rfl
theorem while0Ops0_5_fresh : (while0Ops0_5 : List (HloOp τ sig (Elt F))).Forall fun op => op.fresh = ∅ :=
  StableHlo.forall_fresh_of_map rfl
abbrev while0Ops0_5_W : List (Ref sig .tc) := [main_while0b_c_16, main_while0b_v74, main_v3_1, main_v3_2, main_v3_3, main_v3_4]
theorem while0Ops0_5_writes : (while0Ops0_5 : List (HloOp τ sig (Elt F))).Forall fun op => op.writes ⊆ (while0Ops0_5_W.map (Proc.devRef (τ := τ) .tc)).toFinset :=
  StableHlo.forall_writes_sub_of_map rfl
theorem hostOps0_1_fresh : (hostOps0_1 : List (HloOp τ sig (Elt F))).Forall fun op => op.fresh = ∅ :=
  StableHlo.forall_fresh_of_map rfl
abbrev hostOps0_1_W : List (Ref sig .tc) := [main_v4, main_v5]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_2_fresh : (hostOps0_2 : List (HloOp τ sig (Elt F))).Forall fun op => op.fresh = ∅ :=
  StableHlo.forall_fresh_of_map rfl
abbrev hostOps0_2_W : List (Ref sig .tc) := [main_call3_c, main_call3_v0, main_call3_v1, main_call3_c_0, main_call3_v2, main_call3_v3, main_call3_v4, main_call3_c_1, main_call3_c_2, main_call3_v5, main_call3_v6, main_call3_v7, main_call3_v8, main_call3_v9, main_call3_v10, main_call3_c_3, main_call3_v11, main_call3_v12, main_call3_v13, main_call3_cst, main_call3_v14, main_v6]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_3_fresh : (hostOps0_3 : List (HloOp τ sig (Elt F))).Forall fun op => op.fresh = ∅ :=
  StableHlo.forall_fresh_of_map rfl
abbrev hostOps0_3_W : List (Ref sig .tc) := [main_v7, main_v8, main_v9, main_v10, main_v11, main_v12, main_v13, main_v14, main_v15, main_cst_2, main_v16, main_cst_3, main_v17, main_v18, main_c_4]
theorem hostOps0_3_writes : (hostOps0_3 : List (HloOp τ sig (Elt F))).Forall fun op => op.writes ⊆ (hostOps0_3_W.map (Proc.devRef (τ := τ) .tc)).toFinset :=
  StableHlo.forall_writes_sub_of_map rfl
theorem hostOps0_4_fresh : (hostOps0_4 : List (HloOp τ sig (Elt F))).Forall fun op => op.fresh = ∅ :=
  StableHlo.forall_fresh_of_map rfl
abbrev hostOps0_4_W : List (Ref sig .tc) := [main_call4_v0, main_call4_v1, main_v19]
theorem hostOps0_4_writes : (hostOps0_4 : List (HloOp τ sig (Elt F))).Forall fun op => op.writes ⊆ (hostOps0_4_W.map (Proc.devRef (τ := τ) .tc)).toFinset :=
  StableHlo.forall_writes_sub_of_map rfl
theorem hostOps0_5_fresh : (hostOps0_5 : List (HloOp τ sig (Elt F))).Forall fun op => op.fresh = ∅ :=
  StableHlo.forall_fresh_of_map rfl
abbrev hostOps0_5_W : List (Ref sig .tc) := [main_v20]
theorem hostOps0_5_writes : (hostOps0_5 : List (HloOp τ sig (Elt F))).Forall fun op => op.writes ⊆ (hostOps0_5_W.map (Proc.devRef (τ := τ) .tc)).toFinset :=
  StableHlo.forall_writes_sub_of_map rfl
theorem hostOps0_6_fresh : (hostOps0_6 : List (HloOp τ sig (Elt F))).Forall fun op => op.fresh = ∅ :=
  StableHlo.forall_fresh_of_map rfl
abbrev hostOps0_6_W : List (Ref sig .tc) := [main_v21, main_v22, main_v23, main_c_5, main_v24, main_v25]
theorem hostOps0_6_writes : (hostOps0_6 : List (HloOp τ sig (Elt F))).Forall fun op => op.writes ⊆ (hostOps0_6_W.map (Proc.devRef (τ := τ) .tc)).toFinset :=
  StableHlo.forall_writes_sub_of_map rfl
theorem hostOps0_7_fresh : (hostOps0_7 : List (HloOp τ sig (Elt F))).Forall fun op => op.fresh = ∅ :=
  StableHlo.forall_fresh_of_map rfl
abbrev hostOps0_7_W : List (Ref sig .tc) := [main_v26]
theorem hostOps0_7_writes : (hostOps0_7 : List (HloOp τ sig (Elt F))).Forall fun op => op.writes ⊆ (hostOps0_7_W.map (Proc.devRef (τ := τ) .tc)).toFinset :=
  StableHlo.forall_writes_sub_of_map rfl
theorem hostOps0_8_fresh : (hostOps0_8 : List (HloOp τ sig (Elt F))).Forall fun op => op.fresh = ∅ :=
  StableHlo.forall_fresh_of_map rfl
abbrev hostOps0_8_W : List (Ref sig .tc) := [main_v27, main_v28]
theorem hostOps0_8_writes : (hostOps0_8 : List (HloOp τ sig (Elt F))).Forall fun op => op.writes ⊆ (hostOps0_8_W.map (Proc.devRef (τ := τ) .tc)).toFinset :=
  StableHlo.forall_writes_sub_of_map rfl
theorem hostOps0_9_fresh : (hostOps0_9 : List (HloOp τ sig (Elt F))).Forall fun op => op.fresh = ∅ :=
  StableHlo.forall_fresh_of_map rfl
abbrev hostOps0_9_W : List (Ref sig .tc) := [main_call7_c, main_call7_v0, main_call7_v1, main_call7_c_0, main_call7_v2, main_call7_v3, main_call7_v4, main_call7_c_1, main_call7_c_2, main_call7_v5, main_call7_v6, main_call7_v7, main_call7_v8, main_call7_v9, main_call7_v10, main_call7_c_3, main_call7_v11, main_call7_v12, main_call7_v13, main_call7_cst, main_call7_v14, main_v29]
theorem hostOps0_9_writes : (hostOps0_9 : List (HloOp τ sig (Elt F))).Forall fun op => op.writes ⊆ (hostOps0_9_W.map (Proc.devRef (τ := τ) .tc)).toFinset :=
  StableHlo.forall_writes_sub_of_map rfl
theorem hostOps0_10_fresh : (hostOps0_10 : List (HloOp τ sig (Elt F))).Forall fun op => op.fresh = ∅ :=
  StableHlo.forall_fresh_of_map rfl
abbrev hostOps0_10_W : List (Ref sig .tc) := [main_v30, main_v31, main_v32, main_v33, main_v34, main_v35]
theorem hostOps0_10_writes : (hostOps0_10 : List (HloOp τ sig (Elt F))).Forall fun op => op.writes ⊆ (hostOps0_10_W.map (Proc.devRef (τ := τ) .tc)).toFinset :=
  StableHlo.forall_writes_sub_of_map rfl
theorem hostOps0_11_fresh : (hostOps0_11 : List (HloOp τ sig (Elt F))).Forall fun op => op.fresh = ∅ :=
  StableHlo.forall_fresh_of_map rfl
abbrev hostOps0_11_W : List (Ref sig .tc) := [main_call8_c, main_call8_v0, main_call8_v1, main_call8_c_0, main_call8_v2, main_call8_v3, main_call8_v4, main_call8_c_1, main_call8_c_2, main_call8_v5, main_call8_v6, main_call8_v7, main_call8_v8, main_call8_v9, main_call8_v10, main_call8_c_3, main_call8_v11, main_call8_v12, main_call8_v13, main_call8_cst, main_call8_v14, main_v36]
theorem hostOps0_11_writes : (hostOps0_11 : List (HloOp τ sig (Elt F))).Forall fun op => op.writes ⊆ (hostOps0_11_W.map (Proc.devRef (τ := τ) .tc)).toFinset :=
  StableHlo.forall_writes_sub_of_map rfl
theorem hostOps0_12_fresh : (hostOps0_12 : List (HloOp τ sig (Elt F))).Forall fun op => op.fresh = ∅ :=
  StableHlo.forall_fresh_of_map rfl
abbrev hostOps0_12_W : List (Ref sig .tc) := [main_v37, main_v38, main_v39, main_v40, main_v41, main_v42, main_v43, main_v44, main_cst_6, main_v45, main_v46, main_cst_7, main_v47, main_v48, main_cst_8, main_v49, main_v50, main_c_9]
theorem hostOps0_12_writes : (hostOps0_12 : List (HloOp τ sig (Elt F))).Forall fun op => op.writes ⊆ (hostOps0_12_W.map (Proc.devRef (τ := τ) .tc)).toFinset :=
  StableHlo.forall_writes_sub_of_map rfl
theorem hostOps0_13_fresh : (hostOps0_13 : List (HloOp τ sig (Elt F))).Forall fun op => op.fresh = ∅ :=
  StableHlo.forall_fresh_of_map rfl
abbrev hostOps0_13_W : List (Ref sig .tc) := [main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_v12, main_call9_cst_3, main_call9_v13, main_call9_cst_4, main_call9_call0_v0, main_call9_call0_v1, main_v51]
theorem hostOps0_13_writes : (hostOps0_13 : List (HloOp τ sig (Elt F))).Forall fun op => op.writes ⊆ (hostOps0_13_W.map (Proc.devRef (τ := τ) .tc)).toFinset :=
  StableHlo.forall_writes_sub_of_map rfl
theorem hostOps0_14_fresh : (hostOps0_14 : List (HloOp τ sig (Elt F))).Forall fun op => op.fresh = ∅ :=
  StableHlo.forall_fresh_of_map rfl
abbrev hostOps0_14_W : List (Ref sig .tc) := [main_v52, main_v53, main_cst_10, main_v54, main_v55, main_v56, main_v57, main_v58, main_v59, main_v60, main_v61, main_v62, main_v63, main_v64]
theorem hostOps0_14_writes : (hostOps0_14 : List (HloOp τ sig (Elt F))).Forall fun op => op.writes ⊆ (hostOps0_14_W.map (Proc.devRef (τ := τ) .tc)).toFinset :=
  StableHlo.forall_writes_sub_of_map rfl
/-- The condition: the bound, and the trip counter compared with it. -/
abbrev condOps : List (HloOp τ sig (Elt F)) :=
  [ StableHlo.nullary main_while0c_c_15 (constantI S_ 32 512#32),
    StableHlo.binary main_v3_1 main_while0c_c_15 main_while0c_v65 (cmpi .slt) ]
abbrev preI : List (List (HloOp τ sig (Elt F))) := [hostOps0]
abbrev bodyI : List (List (HloOp τ sig (Elt F))) := [while0Ops0, while0Ops0_1, while0Ops0_2, while0Ops0_3, while0Ops0_4, while0Ops0_5]
abbrev postI : List (List (HloOp τ sig (Elt F))) := [hostOps0_1, hostOps0_2, hostOps0_3, hostOps0_4, hostOps0_5, hostOps0_6, hostOps0_7, hostOps0_8, hostOps0_9, hostOps0_10, hostOps0_11, hostOps0_12, hostOps0_13, hostOps0_14]
theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.nil))))))
theorem hpost : Plain (postI (F := F)) := .cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.cons hostOps0_6_sub (hf := List.forall_iff_forall_mem.mp hostOps0_6_fresh) (.cons hostOps0_7_sub (hf := List.forall_iff_forall_mem.mp hostOps0_7_fresh) (.cons hostOps0_8_sub (hf := List.forall_iff_forall_mem.mp hostOps0_8_fresh) (.cons hostOps0_9_sub (hf := List.forall_iff_forall_mem.mp hostOps0_9_fresh) (.cons hostOps0_10_sub (hf := List.forall_iff_forall_mem.mp hostOps0_10_fresh) (.cons hostOps0_11_sub (hf := List.forall_iff_forall_mem.mp hostOps0_11_fresh) (.cons hostOps0_12_sub (hf := List.forall_iff_forall_mem.mp hostOps0_12_fresh) (.cons hostOps0_13_sub (hf := List.forall_iff_forall_mem.mp hostOps0_13_fresh) (.cons hostOps0_14_sub (hf := List.forall_iff_forall_mem.mp hostOps0_14_fresh) (.nil))))))))))))))
abbrev condOps_W : List (Ref sig .tc) := [main_while0c_c_15, main_while0c_v65]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c
theorem ctr_cond (V : Valuation τ sig (Elt F)) : after condOps V (Proc.devRef .tc main_v3_1) = V (Proc.devRef .tc main_v3_1) :=
  after_of_writes_sub condOps V condOps_writes (by decide +kernel)
theorem ctr_while0Ops0 (V : Valuation τ sig (Elt F)) : after while0Ops0 V (Proc.devRef .tc main_v3_1) = V (Proc.devRef .tc main_v3_1) :=
  after_of_writes_sub while0Ops0 V while0Ops0_writes (by decide +kernel)
theorem ctr_while0Ops0_1 (V : Valuation τ sig (Elt F)) : after while0Ops0_1 V (Proc.devRef .tc main_v3_1) = V (Proc.devRef .tc main_v3_1) :=
  after_of_writes_sub while0Ops0_1 V while0Ops0_1_writes (by decide +kernel)
theorem ctr_while0Ops0_2 (V : Valuation τ sig (Elt F)) : after while0Ops0_2 V (Proc.devRef .tc main_v3_1) = V (Proc.devRef .tc main_v3_1) :=
  after_of_writes_sub while0Ops0_2 V while0Ops0_2_writes (by decide +kernel)
theorem ctr_while0Ops0_3 (V : Valuation τ sig (Elt F)) : after while0Ops0_3 V (Proc.devRef .tc main_v3_1) = V (Proc.devRef .tc main_v3_1) :=
  after_of_writes_sub while0Ops0_3 V while0Ops0_3_writes (by decide +kernel)
theorem ctr_while0Ops0_4 (V : Valuation τ sig (Elt F)) : after while0Ops0_4 V (Proc.devRef .tc main_v3_1) = V (Proc.devRef .tc main_v3_1) :=
  after_of_writes_sub while0Ops0_4 V while0Ops0_4_writes (by decide +kernel)
set_option maxRecDepth 100000 in
/-- `while0Ops0_5` leaves the counter one step on. -/
theorem ctr_step (X : Valuation τ sig (Elt F)) :
    after while0Ops0_5 X (Proc.devRef .tc main_v3_1) = addi (X (Proc.devRef .tc main_v3_1)) (constantI S_ 32 1#32) := by
  after_results
  rfl
/-- The counter is zero at the loop's entry. -/
theorem ctr_entry (c : Dev nD) : entryContents preI m c (Proc.devRef .tc main_v3_1) = fun _ => (0#32 : BitVec 32) := by
  simp only [entryContents, afterL_cons, afterL_nil]
  after_reads_simp
  rfl
/-- Before the `k`-th condition the counter is `k`. -/
theorem atK_ctr (c : Dev nD) : ∀ k, atK m k c (Proc.devRef .tc main_v3_1) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_4, ctr_while0Ops0_3, ctr_while0Ops0_2, ctr_while0Ops0_1, ctr_while0Ops0, ctr_cond, atK_ctr c k, Scf.iv_succ]
    rfl
set_option backward.isDefEq.respectTransparency.types false in
/-- The condition's specification at the fold. -/
theorem cond_spec : CondSpec (pcfgs (F := F)) defs₀ loops (main_while0_cond (F := F)) condOps bodyI (entryContents preI m) 512 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v3_1 HostLoop.idx0)
        (HloOp.result _ (atK m k c) main_while0c_c_15 HostLoop.idx0) = 1#1) (k < 512)
    rw [nullary_result_ne _ _ _ _ (by decide), nullary_result, hctr]
    exact Scf.cmpi_slt_iv_ub_iff (lb := 0#32) (ub := 512#32) (st := 1#32) (by decide) (show k ≤ Scf.trips 0#32 512#32 1#32 from hk)
  isplitl [Hb]; · iexact Hb
  rw [after_cons, after_cons, after_nil]; iexact Hh

end Cert.ReferenceIdeal.Ops

end
-- ==== Proof.RefRun.lean ====
/- The reference program's run: every execution ends with each buffer at what the operation lists leave, folded over the
   512 trips, and with every semaphore at zero. -/
module

public import proofs.«01_k».proof.Proof.RefLoop
public import Idealize.ShloMosaic.Lib.Pipeline.RegionsLoop

@[expose] public section

set_option maxRecDepth 4096

noncomputable section

namespace Cert.ReferenceIdeal.Ops

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg)

variable {F : FTy → Type} [FloatOps F]

local notation "𝕄" => MT nD τ sig Unit (Elt F) ℕ (Option PUnit) ℕ

variable (m : (ℓ : Loc nD τ sig) → Buf (Elt F) ℓ) (ρ : Dev nD → PrngReg)

/-- There is no kernel region: nothing is admitted. -/
abbrev noAdm : (p : Fin 0) → (pcfgs (F := F) p).Adm := fun p => p.elim0
/-- No ticket is handed out. -/
abbrev noTicket : Fin 0 → Pipeline.Ticket (Ix := Unit) (Name := ℕ) (U := Option PUnit) (Lvl := ℕ) (nD := nD) (τ := τ) (pcfgs (F := F)) noAdm :=
  fun j => j.elim0
/-- No level is used. -/
abbrev noLevel : GSem nD τ sig → Finset Unit := fun _ => ∅
/-- Every level is zero. -/
abbrev level0 : GSem nD τ sig → Unit → ℕ := fun _ _ => 0

/-- Beside the buffers a core carries what it owes: nothing. -/
abbrev Owing (c : Dev nD) : sProp 𝕄 := iprop(∃ W, owes (c : Thread nD τ) (0 : CellTallies nD τ sig Unit) W)

/-- The condition with what the core owes carried through it. -/
theorem cond_owing : LoopCond (pcfgs (F := F)) defs₀ Variants.none loops (Owing (F := F)) (main_while0_cond (F := F)) condOps bodyI
    (entryContents preI m) 512 := by
  intro k hk c bd
  refine BIBase.Entails.trans ?_ (((sep_mono_left (Q := Owing (F := F) c) (cond_spec m k hk c bd)).trans (wp_frame_r _ _ _)).trans (wp_mono _ _ _ fun v => ?_))
  · iintro ⟨Hb, Hh, HR⟩
    isplitl [Hb Hh]
    · isplitl [Hb] <;> iassumption
    · iexact HR
  · iintro ⟨⟨%hv, Hb, Hh⟩, HR⟩
    isplitr
    · ipureintro; exact hv
    isplitl [Hb]
    · iexact Hb
    isplitl [Hh] <;> iassumption

/-- The segments of @main. -/
def segs : List (CSeg (pcfgs (F := F)) noAdm defs₀ Variants.none noLevel level0 loops noTicket) :=
  segsOf _ _ _ _ _ _ _ _ (Owing (F := F)) preI hpre (launchContents m)
    ++ loopSeg _ _ _ _ _ _ _ _ 0 main_while0_cond main_while0_body rfl condOps bodyI hbodyI (by rw [while0_body_chain]; rfl) 512
        (entryContents preI m) (Owing (F := F)) (cond_owing m)
      :: segsOf _ _ _ _ _ _ _ _ (Owing (F := F)) postI hpost (fun c => after condOps (atTrip condOps bodyI (entryContents preI m) 512 c))

/-- The segments' programs are @main's items. -/
theorem segs_prog : (segs m).map CSeg.prog
    = ((preI (F := F)).map fun ops => (seq ops : Prog _ PUnit)) ++ HostLoop.enter 0 :: postI.map fun ops => (seq ops : Prog _ PUnit) := by
  unfold segs
  rw [List.map_append, List.map_cons, segsOf_prog, segsOf_prog]
  rfl

/-- What the last segment leaves in every buffer. -/
abbrev lastContents (c : Dev nD) : Valuation τ sig (Elt F) := finalContents condOps preI bodyI postI 512 m c

/-- Each segment starts where the one before it ends. -/
theorem segs_chains : CSeg.Chains (fun c => iprop(held (c : Thread nD τ) (ucRefs τ sig) (launchContents m c) ∗ Owing (F := F) c)) (segs m)
    (fun c => iprop(iprop(held (c : Thread nD τ) (ucRefs τ sig) (lastContents m c)) ∗ ∃ W, owes (c : Thread nD τ) (0 : CellTallies nD τ sig Unit) W)) := by
  unfold segs
  exact CSeg.Chains.append (segsOf_chains _ _ _ _ _ _ _ _ (Owing (F := F)) preI hpre _)
    ⟨fun _ => .rfl, segsOf_chains _ _ _ _ _ _ _ _ (Owing (F := F)) postI hpost _⟩

/-- No region, so no staging cell. -/
theorem cells_inj : Function.Injective (Pipeline.cellOf (nD := nD) (τ := τ) (Pipeline.pin (pcfgs (F := F)) noAdm)) :=
  fun k => k.1.elim0

/-- The program has no semaphore outside a scope. -/
theorem no_sem (g : SemLoc sig) : g.isScoped .tc = true := by
  revert g; decide

set_option maxRecDepth 100000 in
set_option maxHeartbeats 1000000 in
/-- Every execution ends, every buffer holding what the operation lists leave, and every semaphore being zero. -/
theorem run_all : θ_run (defs (F := F)) (onTc (τ := τ) (main (F := F))) ⟨m, fun _ => 0, ρ⟩
    (fun r => (∀ (c : Dev nD), ∀ b ∈ ucRefs τ sig, r.2.mem ((c : Dev nD), b) = lastContents m c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) noAdm cells_inj defs₀ Variants.none noLevel level0 loops noTicket m ρ main (segs m)
    (fun c Q => by
      rw [main_chain c]
      show wp _ _ _ (Pipeline.chain ((segs m).map CSeg.prog)) Q ⊢ _
      rw [segs_prog]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Owing (F := F) c))
    (Tₙ := fun c => iprop(held (c : Thread nD τ) (ucRefs τ sig) (lastContents m c)))
    (hch := segs_chains m)
    (hinit := by
      refine Pipeline.initEach noLevel level0 fun c => ?_
      rw [show unscopedBufs c (fun b => m ((c : Thread nD τ).loc b)) = held (c : Thread nD τ) (ucRefs τ sig) (launchContents m c) from
        Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = lastContents m c b)
    (hfin := fun c s' => by
      unfold held
      iintro ⟨Hh, HSI⟩
      ihave Hr := (pointsTo_read_all (ucRefs τ sig) (fun b => ((c : Dev nD), b)) (fun b => lastContents m c b) s') $$ [Hh HSI]
      · isplitl [Hh] <;> iassumption
      icases Hr with ⟨%h, HSI⟩
      imodintro
      isplitr; · ipureintro; exact h
      iexact HSI)
    (hQ := fun _ h hz => ⟨h, funext fun g => hz g (.inr (no_sem g.2))⟩)

end Cert.ReferenceIdeal.Ops

end
-- ==== Proof.RefFrame.lean ====
/- What the reference program leaves in a buffer that none of its operations writes, and in its six arguments. -/
module

public import proofs.«01_k».proof.Proof.RefRun

@[expose] public section

set_option maxRecDepth 8192

noncomputable section

namespace Cert.ReferenceIdeal.Ops

open Cert.ReferenceIdeal Cert.ReferenceIdeal.Gen
open Idealize.ShloMosaic Idealize.ShloMosaic.TcCoe Idealize.SL.Sem
open Idealize.ShloMosaic.StableHlo
open Idealize.ShloMosaic.Pipeline (ucRefs)

variable {F : FTy → Type} [FloatOps F]
variable (m : (ℓ : Loc nD τ sig) → Buf (Elt F) ℓ) (ρ : Dev nD → PrngReg)

/-- The buffers the loop's condition and body write. -/
abbrev tripW : List (Ref sig .tc) :=
  condOps_W ++ while0Ops0_W ++ while0Ops0_1_W ++ while0Ops0_2_W ++ while0Ops0_3_W ++ while0Ops0_4_W ++ while0Ops0_5_W

/-- The buffers the operations after the loop write. -/
abbrev postW : List (Ref sig .tc) :=
  hostOps0_1_W ++ hostOps0_2_W ++ hostOps0_3_W ++ hostOps0_4_W ++ hostOps0_5_W ++ hostOps0_6_W ++ hostOps0_7_W ++ hostOps0_8_W
    ++ hostOps0_9_W ++ hostOps0_10_W ++ hostOps0_11_W ++ hostOps0_12_W ++ hostOps0_13_W ++ hostOps0_14_W

/-- One trip leaves what it does not write. -/
theorem trip_keeps (V : Valuation τ sig (Elt F)) {r : Ref sig .tc} (h : r ∉ tripW) :
    afterL bodyI (after condOps V) (Proc.devRef .tc r) = V (Proc.devRef .tc r) := by
  simp only [tripW, List.mem_append, not_or] at h
  obtain ⟨⟨⟨⟨⟨⟨h0, h1⟩, h2⟩, h3⟩, h4⟩, h5⟩, h6⟩ := h
  simp only [afterL_cons, afterL_nil]
  rw [after_of_writes_sub while0Ops0_5 _ while0Ops0_5_writes h6, after_of_writes_sub while0Ops0_4 _ while0Ops0_4_writes h5,
    after_of_writes_sub while0Ops0_3 _ while0Ops0_3_writes h4, after_of_writes_sub while0Ops0_2 _ while0Ops0_2_writes h3,
    after_of_writes_sub while0Ops0_1 _ while0Ops0_1_writes h2, after_of_writes_sub while0Ops0 _ while0Ops0_writes h1,
    after_of_writes_sub condOps _ condOps_writes h0]

/-- The loop leaves what it does not write. -/
theorem loop_keeps (c : Dev nD) {r : Ref sig .tc} (h0 : r ∉ hostOps0_W) (h : r ∉ tripW) :
    ∀ k, atK m k c (Proc.devRef .tc r) = m ((c : Thread nD τ).loc r)
  | 0 => after_of_writes_sub hostOps0 _ hostOps0_writes h0
  | k + 1 => (trip_keeps (atK m k c) h).trans (loop_keeps c h0 h k)

/-- The operations after the loop leave what they do not write. -/
theorem post_keeps (V : Valuation τ sig (Elt F)) {r : Ref sig .tc} (h : r ∉ postW) :
    afterL postI V (Proc.devRef .tc r) = V (Proc.devRef .tc r) := by
  simp only [postW, List.mem_append, not_or] at h
  obtain ⟨⟨⟨⟨⟨⟨⟨⟨⟨⟨⟨⟨⟨h1, h2⟩, h3⟩, h4⟩, h5⟩, h6⟩, h7⟩, h8⟩, h9⟩, h10⟩, h11⟩, h12⟩, h13⟩, h14⟩ := h
  simp only [afterL_cons, afterL_nil]
  rw [after_of_writes_sub hostOps0_14 _ hostOps0_14_writes h14, after_of_writes_sub hostOps0_13 _ hostOps0_13_writes h13,
    after_of_writes_sub hostOps0_12 _ hostOps0_12_writes h12, after_of_writes_sub hostOps0_11 _ hostOps0_11_writes h11,
    after_of_writes_sub hostOps0_10 _ hostOps0_10_writes h10, after_of_writes_sub hostOps0_9 _ hostOps0_9_writes h9,
    after_of_writes_sub hostOps0_8 _ hostOps0_8_writes h8, after_of_writes_sub hostOps0_7 _ hostOps0_7_writes h7,
    after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1]

/-- What the operations after the loop start from. -/
abbrev loopEnd (c : Dev nD) : Valuation τ sig (Elt F) := after condOps (atK m 512 c)

/-- The whole program leaves what it does not write. -/
theorem last_keeps (c : Dev nD) {r : Ref sig .tc} (h0 : r ∉ hostOps0_W) (h1 : r ∉ tripW) (h2 : r ∉ postW) (hc : r ∉ condOps_W) :
    lastContents m c (Proc.devRef .tc r) = m ((c : Thread nD τ).loc r) :=
  (post_keeps (loopEnd m c) h2).trans ((after_of_writes_sub condOps _ condOps_writes hc).trans (loop_keeps m c h0 h1 512))

/-- Every execution ends with the two results at what the lists leave there, the arguments unchanged, the semaphores zero. -/
theorem run_read : θ_run (defs (F := F)) (onTc (τ := τ) (main (F := F))) ⟨m, fun _ => 0, ρ⟩ (fun r => (∀ c : Dev nD,
      r.2.mem ((c : Thread nD τ).loc main_v64) = lastContents m c (Proc.devRef .tc main_v64)
      ∧ r.2.mem ((c : Thread nD τ).loc main_v6) = lastContents m c (Proc.devRef .tc main_v6)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run _ _ _).mono (fun r h => ⟨fun c =>
    have at' : ∀ b : Ref sig .tc, (Proc.devRef .tc b : DevRef τ sig).isScoped = false →
        r.2.mem ((c : Thread nD τ).loc b) = lastContents m c (Proc.devRef .tc b) := fun b hb => h.1 c _ (devRef_mem_ucRefs b hb)
    ⟨at' main_v64 rfl, at' main_v6 rfl,
      (at' main_arg0 rfl).trans (last_keeps m c (by decide) (by decide) (by decide) (by decide)),
      (at' main_arg1 rfl).trans (last_keeps m c (by decide) (by decide) (by decide) (by decide)),
      (at' main_arg2 rfl).trans (last_keeps m c (by decide) (by decide) (by decide) (by decide)),
      (at' main_arg3 rfl).trans (last_keeps m c (by decide) (by decide) (by decide) (by decide)),
      (at' main_arg4 rfl).trans (last_keeps m c (by decide) (by decide) (by decide) (by decide)),
      (at' main_arg5 rfl).trans (last_keeps m c (by decide) (by decide) (by decide) (by decide))⟩, h.2⟩) (run_all m ρ)

end Cert.ReferenceIdeal.Ops

end
-- ==== Proof.FirstMax.lean ====
module

public import Idealize.ShloMosaic.PureOps.Ideal.Laws
public import Idealize.ShloMosaic.Lib.Pointwise

/-! Farthest point sampling of one cloud of 4096 points, as mathematics: the first index of the largest value, and
the run of distances and chosen points. -/

@[expose] public section
noncomputable section

namespace Cert.Fps
open Idealize.ShloMosaic

/-- `i` is the first index at which `f` is largest. -/
def IsFirstMax (f : Fin 4096 → EReal) (i : Fin 4096) : Prop := ∀ j, f j ≤ f i ∧ (f j = f i → i ≤ j)

theorem IsFirstMax.unique {f : Fin 4096 → EReal} {i j : Fin 4096} (hi : IsFirstMax f i) (hj : IsFirstMax f j) : i = j :=
  have e : f i = f j := le_antisymm (hj i).1 (hi j).1
  le_antisymm ((hi j).2 e.symm) ((hj i).2 e)

theorem exists_firstMax (f : Fin 4096 → EReal) : ∃ i, IsFirstMax f i := by
  classical
  obtain ⟨i0, -, h0⟩ := Finset.exists_max_image (Finset.univ : Finset (Fin 4096)) f ⟨0, Finset.mem_univ _⟩
  have hne : (Finset.univ.filter fun j => f j = f i0).Nonempty := ⟨i0, by simp⟩
  have hm := Finset.min'_mem _ hne
  rw [Finset.mem_filter] at hm
  refine ⟨Finset.min' _ hne, fun j => ⟨by rw [hm.2]; exact h0 j (Finset.mem_univ j), fun e => ?_⟩⟩
  exact Finset.min'_le _ _ (by rw [Finset.mem_filter]; exact ⟨Finset.mem_univ _, e.trans hm.2⟩)

/-- The first index at which `f` is largest. -/
def firstMax (f : Fin 4096 → EReal) : Fin 4096 := (exists_firstMax f).choose
theorem firstMax_spec (f : Fin 4096 → EReal) : IsFirstMax f (firstMax f) := (exists_firstMax f).choose_spec
theorem firstMax_eq {f : Fin 4096 → EReal} {i : Fin 4096} (h : IsFirstMax f i) : firstMax f = i := (firstMax_spec f).unique h

/-- The squared distance of two points. -/
def sqd (p c : Fin 3 → EReal) : EReal := (p 0 - c 0) * (p 0 - c 0) + (p 1 - c 1) * (p 1 - c 1) + (p 2 - c 2) * (p 2 - c 2)

/-- One step: the distances lowered by the chosen point, and the next point, the first farthest. -/
def step (X : Fin 4096 → Fin 3 → EReal) (s : (Fin 4096 → EReal) × Fin 4096) : (Fin 4096 → EReal) × Fin 4096 :=
  (fun n => min (s.1 n) (sqd (X n) (X s.2)), firstMax fun n => min (s.1 n) (sqd (X n) (X s.2)))

/-- Distances and chosen point after `n` steps: from 10¹⁰ everywhere and point 0. -/
def state (X : Fin 4096 → Fin 3 → EReal) : ℕ → (Fin 4096 → EReal) × Fin 4096
  | 0 => (fun _ => Ideal.ofBits .f32 0x501502F9#32, 0)
  | n + 1 => step X (state X n)

/-- The point chosen at step `n`. -/
def far (X : Fin 4096 → Fin 3 → EReal) (n : ℕ) : Fin 4096 := (state X n).2

/-- A fold of an operation that picks one of its two operands: its value is below every one and is one of them. -/
theorem fold_picks {ι α : Type} (R : α → α → Prop) (hrefl : ∀ a, R a a) (htrans : ∀ a b c, R a b → R b c → R a c) (op : α → α → α)
    [Std.Commutative op] [Std.Associative op] (hpick : ∀ a b, op a b = a ∨ op a b = b) (hR : ∀ a b, R (op a b) a ∧ R (op a b) b)
    (s : Finset ι) (b : α) (f : ι → α) :
    R (s.fold op b f) b ∧ (∀ i ∈ s, R (s.fold op b f) (f i)) ∧ (s.fold op b f = b ∨ ∃ i ∈ s, s.fold op b f = f i) := by
  classical
  induction s using Finset.induction_on with
  | empty => exact ⟨hrefl b, by simp, Or.inl rfl⟩
  | insert a s h ih =>
    obtain ⟨h1, h2, h3⟩ := ih
    rw [Finset.fold_insert h]
    refine ⟨htrans _ _ _ (hR _ _).2 h1, fun i hi => ?_, ?_⟩
    · rcases Finset.mem_insert.mp hi with rfl | hi
      · exact (hR _ _).1
      · exact htrans _ _ _ (hR _ _).2 (h2 i hi)
    · rcases hpick (f a) (s.fold op b f) with e | e
      · exact Or.inr ⟨a, Finset.mem_insert_self _ _, e⟩
      · rcases h3 with e' | ⟨i, hi, e'⟩
        · exact Or.inl (e.trans e')
        · exact Or.inr ⟨i, Finset.mem_insert_of_mem hi, e.trans e'⟩

end Cert.Fps
-- ==== Proof.FpsStep.lean ====
module

public import proofs.«01_k».proof.Proof.FpsBody
public import proofs.«01_k».proof.Proof.Check
public import proofs.«01_k».proof.Proof.FirstMax

/-! One trip of the kernel's farthest-point loop, read at a cloud of the batch. -/

@[expose] public section
set_option maxRecDepth 16384
noncomputable section

namespace Cert.KernelIdeal.Body
open Cert.KernelIdeal Cert.KernelIdeal.Gen
open Idealize.ShloMosaic Idealize.ShloMosaic.TcCoe

/-- Where point `n` of cloud `b` lies in the block. -/
def cell (b : Fin 4) (n : Fin 4096) : S4x32x128.Idx := ix3 b ⟨n / 128, by omega⟩ ⟨n % 128, by omega⟩

/-- The number of the point at a place of its cloud's block. -/
def flat (x : Fin 32 × Fin 128) : Fin 4096 := ⟨128 * x.1 + x.2, by omega⟩

theorem cell_flat (b : Fin 4) (x : Fin 32 × Fin 128) : cell b (flat x) = ix3 b x.1 x.2 := by
  unfold cell flat
  congr 1 <;> ext <;> simp <;> omega

/-- The place of a point in its cloud's block. -/
def place (n : Fin 4096) : Fin 32 × Fin 128 := (⟨n / 128, by omega⟩, ⟨n % 128, by omega⟩)
theorem flat_place (n : Fin 4096) : flat (place n) = n := by
  ext; simp [flat, place]; omega

theorem word_flat (a b : ℕ) : IntOp.addi (IntOp.muli (BitVec.ofNat 32 a) 128#32) (BitVec.ofNat 32 b) = BitVec.ofNat 32 (128 * a + b) := by
  show BitVec.ofNat 32 a * 128#32 + BitVec.ofNat 32 b = _
  rw [show (128#32) = BitVec.ofNat 32 128 from rfl, ← BitVec.ofNat_mul, ← BitVec.ofNat_add, Nat.mul_comm]

theorem toInt_small (n : ℕ) (h : n ≤ 4096) : (BitVec.ofNat 32 n).toInt = n := by
  rw [BitVec.toInt_eq_toNat_cond, BitVec.toNat_ofNat, Nat.mod_eq_of_lt (by omega), if_pos (by omega)]

/-- The largest value, taken over the block. -/
theorem fold_max (f : Fin 4096 → EReal) :
    Finset.fold max (⊥ : EReal) (fun x : Fin 32 × Fin 128 => f (flat x)) Finset.univ = f (Fps.firstMax f) := by
  apply le_antisymm
  · rw [Finset.fold_max_le]
    exact ⟨bot_le, fun x _ => (Fps.firstMax_spec f _).1⟩
  · rw [Finset.le_fold_max]
    exact Or.inr ⟨place (Fps.firstMax f), Finset.mem_univ _, by rw [flat_place]⟩

/-- The smallest word among those that name a point at the largest value is the first such point's. -/
theorem fold_min (f : Fin 4096 → EReal) :
    Finset.fold IntOp.minsi 2147483647#32
      (fun x : Fin 32 × Fin 128 => if f (flat x) = f (Fps.firstMax f) then BitVec.ofNat 32 (flat x : ℕ) else 4096#32) Finset.univ
      = BitVec.ofNat 32 (Fps.firstMax f : ℕ) := by
  obtain ⟨h1, h2, h3⟩ := Fps.fold_picks (fun a b : BitVec 32 => a.toInt ≤ b.toInt) (fun _ => le_refl _) (fun _ _ _ => le_trans)
    IntOp.minsi (fun a b => by unfold IntOp.minsi; split <;> simp)
    (fun a b => by
      unfold IntOp.minsi
      split
      · rename_i h; rw [BitVec.slt_iff_toInt_lt] at h; omega
      · rename_i h; rw [BitVec.slt_iff_toInt_lt] at h; omega)
    (Finset.univ : Finset (Fin 32 × Fin 128)) 2147483647#32
    (fun x => if f (flat x) = f (Fps.firstMax f) then BitVec.ofNat 32 (flat x : ℕ) else 4096#32)
  have hle := h2 (place (Fps.firstMax f)) (Finset.mem_univ _)
  rw [flat_place, if_pos rfl, toInt_small _ (by omega)] at hle
  have hb := (Fps.firstMax f).isLt
  rcases h3 with e | ⟨x, -, e⟩
  · rw [e, show (2147483647#32).toInt = 2147483647 from rfl] at hle; omega
  · rw [e]
    rw [e] at hle
    by_cases hx : f (flat x) = f (Fps.firstMax f)
    · rw [if_pos hx] at hle ⊢
      rw [toInt_small _ (by omega)] at hle
      have := (Fps.firstMax_spec f (flat x)).2 hx
      rw [show (flat x) = Fps.firstMax f from le_antisymm (by rw [Fin.le_def]; omega) this]
    · rw [if_neg hx, show (4096#32).toInt = 4096 from rfl] at hle; omega

/-- The mark of the next centre: 1 at the first farthest point, 0 elsewhere. -/
theorem pay10_ix (v0 v2 v4 : Vec Ideal S1x4x32x128 .f32) (d : FVec Ideal S4x32x128 .f32) (x y z : FVec Ideal S4x1x1 .f32) (b : Fin 4)
    (p : Fin 32 × Fin 128) :
    k0_pay10 v0 v2 v4 d x y z (ix3 b p.1 p.2)
      = if flat p = Fps.firstMax (fun n => k0_pay9 v0 v2 v4 d x y z (cell b n)) then 1 else 0 := by
  unfold k0_pay10
  generalize k0_pay9 v0 v2 v4 d x y z = D
  pointwise
  simp only [← cell_flat, ofBits_bot, word_flat]
  rw [fold_max (fun n => D (cell b n))]
  erw [fold_min (fun n => D (cell b n))]
  have hn : 128 * (p.1 : ℕ) + p.2 = (flat p : ℕ) := rfl
  have hp := (flat p).isLt
  have hq := (Fps.firstMax fun n => D (cell b n)).isLt
  rw [hn, show IntOp.cmpi .eq (BitVec.ofNat 32 (flat p : ℕ)) (BitVec.ofNat 32 (Fps.firstMax fun n => D (cell b n) : ℕ))
      = BitVec.ofBool (decide (flat p = Fps.firstMax fun n => D (cell b n))) from ?_, sitofp_bool]
  · split <;> simp
  · show BitVec.ofBool (_ == _) = _
    congr 1
    rw [Bool.eq_iff_iff, beq_iff_eq, decide_eq_true_iff]
    constructor
    · intro h
      have := congrArg BitVec.toNat h
      rw [BitVec.toNat_ofNat, BitVec.toNat_ofNat, Nat.mod_eq_of_lt (by omega), Nat.mod_eq_of_lt (by omega)] at this
      exact Fin.ext this
    · intro h; rw [h]

/-- The coordinate sum against the mark is the coordinate of the next centre. -/
theorem sum_mark (g : Fin 32 × Fin 128 → EReal) (k : Fin 4096) :
    ∑ p : Fin 32 × Fin 128, g p * (if flat p = k then (1 : EReal) else 0) = g (place k) := by
  rw [Finset.sum_eq_single (place k)]
  · rw [flat_place, if_pos rfl, mul_one]
  · intro p _ hp
    rw [if_neg, mul_zero]
    rintro rfl
    exact hp (by ext <;> simp [place, flat] <;> omega)
  · simp

theorem sum_mark2 (g : Fin 32 → Fin 128 → EReal) (k : Fin 4096) :
    ∑ x : Fin 32, ∑ y : Fin 128, g x y * (if flat (x, y) = k then (1 : EReal) else 0) = g (place k).1 (place k).2 := by
  rw [← Fintype.sum_prod_type' (f := fun x y => g x y * (if flat (x, y) = k then (1 : EReal) else 0))]
  exact sum_mark (fun p => g p.1 p.2) k

section
variable (v0 v2 v4 : Vec Ideal S1x4x32x128 .f32) (d : FVec Ideal S4x32x128 .f32) (x y z : FVec Ideal S4x1x1 .f32) (b : Fin 4)

/-- The next chosen point of cloud `b`. -/
def nextFar : Fin 4096 := Fps.firstMax fun n => k0_pay9 v0 v2 v4 d x y z (cell b n)

theorem pay11_ix : k0_pay11 v0 v2 v4 d x y z (ix3 b 0 0)
    = v0 (ix4 0 b (place (nextFar v0 v2 v4 d x y z b)).1 (place (nextFar v0 v2 v4 d x y z b)).2) := by
  pointwise [k0_pay11, k0_pay1, k0_pay2, k0_pay3]
  have h := fun q r => pay10_ix v0 v2 v4 d x y z b (q, r)
  simp only at h
  simp only [h]
  exact sum_mark2 (fun q r => v0 (ix4 0 b q r)) _
theorem pay12_ix : k0_pay12 v0 v2 v4 d x y z (ix3 b 0 0)
    = v2 (ix4 0 b (place (nextFar v0 v2 v4 d x y z b)).1 (place (nextFar v0 v2 v4 d x y z b)).2) := by
  pointwise [k0_pay12, k0_pay1, k0_pay2, k0_pay3]
  have h := fun q r => pay10_ix v0 v2 v4 d x y z b (q, r)
  simp only at h
  simp only [h]
  exact sum_mark2 (fun q r => v2 (ix4 0 b q r)) _
theorem pay13_ix : k0_pay13 v0 v2 v4 d x y z (ix3 b 0 0)
    = v4 (ix4 0 b (place (nextFar v0 v2 v4 d x y z b)).1 (place (nextFar v0 v2 v4 d x y z b)).2) := by
  pointwise [k0_pay13, k0_pay1, k0_pay2, k0_pay3]
  have h := fun q r => pay10_ix v0 v2 v4 d x y z b (q, r)
  simp only at h
  simp only [h]
  exact sum_mark2 (fun q r => v4 (ix4 0 b q r)) _
end

/-- The cloud `b` of a block of coordinate planes. -/
def cloud (x : Vec Ideal S3x4x32x128 .f32) (b : Fin 4) (n : Fin 4096) (d : Fin 3) : EReal := x (ix4 d b (place n).1 (place n).2)

theorem place_zero : place 0 = (0, 0) := by decide

/-- What the loop carries after `k` trips: distances and the current centre of every cloud. -/
theorem fpsAcc_value (x : Vec Ideal S3x4x32x128 .f32) (b : Fin 4) (k : ℕ) :
    (∀ n, (fpsAcc (planeX x) (planeY x) (planeZ x) (fpsInit x) k).1 (cell b n) = (Fps.state (cloud x b) k).1 n)
    ∧ (fpsAcc (planeX x) (planeY x) (planeZ x) (fpsInit x) k).2.1 (ix3 b 0 0) = cloud x b (Fps.far (cloud x b) k) 0
    ∧ (fpsAcc (planeX x) (planeY x) (planeZ x) (fpsInit x) k).2.2.1 (ix3 b 0 0) = cloud x b (Fps.far (cloud x b) k) 1
    ∧ (fpsAcc (planeX x) (planeY x) (planeZ x) (fpsInit x) k).2.2.2 (ix3 b 0 0) = cloud x b (Fps.far (cloud x b) k) 2 := by
  induction k with
  | zero =>
    refine ⟨fun n => ?_, ?_, ?_, ?_⟩
    · show k0_pay7 (cell b n) = _
      unfold cell
      pointwise [k0_pay7]
      rfl
    · rw [fpsAcc.eq_1]; unfold fpsInit
      pointwise [k0_pay4]
      simp only [cloud, Fps.far, Fps.state, place_zero]
    · rw [fpsAcc.eq_1]; unfold fpsInit
      pointwise [k0_pay5]
      simp only [cloud, Fps.far, Fps.state, place_zero]
    · rw [fpsAcc.eq_1]; unfold fpsInit
      pointwise [k0_pay6]
      simp only [cloud, Fps.far, Fps.state, place_zero]
  | succ k ih =>
    obtain ⟨h1, h2, h3, h4⟩ := ih
    have hd : ∀ n, (fpsAcc (planeX x) (planeY x) (planeZ x) (fpsInit x) (k + 1)).1 (cell b n) = (Fps.state (cloud x b) (k + 1)).1 n := by
      intro n
      rw [fpsAcc.eq_2]
      generalize fpsAcc (planeX x) (planeY x) (planeZ x) (fpsInit x) k = a at *
      have e := h1 n
      show k0_pay9 _ _ _ a.1 a.2.1 a.2.2.1 a.2.2.2 (cell b n) = _
      unfold cell at e ⊢
      pointwise [k0_pay9, k0_pay1, k0_pay2, k0_pay3, planeX, planeY, planeZ]
      rw [h2, h3, h4, e]
      rfl
    have hf : nextFar (planeX x) (planeY x) (planeZ x) (fpsAcc (planeX x) (planeY x) (planeZ x) (fpsInit x) k).1
        (fpsAcc (planeX x) (planeY x) (planeZ x) (fpsInit x) k).2.1 (fpsAcc (planeX x) (planeY x) (planeZ x) (fpsInit x) k).2.2.1
        (fpsAcc (planeX x) (planeY x) (planeZ x) (fpsInit x) k).2.2.2 b = Fps.far (cloud x b) (k + 1) :=
      congrArg Fps.firstMax (funext hd)
    refine ⟨hd, ?_, ?_, ?_⟩
    · refine (pay11_ix _ _ _ _ _ _ _ b).trans ?_
      rw [hf]
      pointwise [planeX]
      rfl
    · refine (pay12_ix _ _ _ _ _ _ _ b).trans ?_
      rw [hf]
      pointwise [planeY]
      rfl
    · refine (pay13_ix _ _ _ _ _ _ _ b).trans ?_
      rw [hf]
      pointwise [planeZ]
      rfl

end Cert.KernelIdeal.Body
-- ==== Proof.GroupMask.lean ====
module

public import proofs.«01_k».proof.Proof.Check
public import proofs.«01_k».proof.Proof.GroupTrip
public import proofs.«01_k».proof.Proof.FpsStep

/-! The ball query of one chunk of 64 centres: the mask is 0 at the first 32 points of a centre's ball and minus infinity elsewhere. -/

@[expose] public section
set_option maxRecDepth 16384
noncomputable section

namespace Cert.Fps
open Classical

/-- The squared radius. -/
def rad : EReal := Idealize.ShloMosaic.Ideal.ofBits .f32 0x3D23D70A#32

/-- How many points up to `n` satisfy `I`. -/
def upto (I : Fin 4096 → Prop) (n : Fin 4096) : ℕ := ∑ m : Fin 4096, if I m ∧ m ≤ n then 1 else 0

/-- Among the first 32 points that satisfy `I`. -/
def Kept (I : Fin 4096 → Prop) (n : Fin 4096) : Prop := I n ∧ upto I n ≤ 32

end Cert.Fps

namespace Cert.KernelIdeal.Body
open Cert.KernelIdeal Cert.KernelIdeal.Gen
open Idealize.ShloMosaic Idealize.ShloMosaic.TcCoe
open Classical

/-- Point `j` of block `k`. -/
def pnt (k : Fin 32) (j : Fin 128) : Fin 4096 := ⟨128 * k + j, by omega⟩

variable (v19 v21 v23 : FVec Ideal S1x4096 .f32) (v38 : Vec Ideal S1x64x3 .f32)

/-- Centre `r`'s ball. -/
def inBall (r : Fin 64) (n : Fin 4096) : Prop :=
  Fps.sqd (fun d => v38 (ix3 (0 : Fin 1) r d)) (![v19 (ix2 (0 : Fin 1) n), v21 (ix2 (0 : Fin 1) n), v23 (ix2 (0 : Fin 1) n)] : Fin 3 → EReal) ≤ Fps.rad

/-- A 0/1 number. -/
def ind (p : Prop) : ℕ := if p then 1 else 0

/-- A 0/1 word as a real. -/
theorem sitofp_ind (p : Prop) [Decidable p] :
    FloatOps.sitofp (F := Ideal) .f32 (BitVec.setWidth 32 (BitVec.ofBool (decide p))) = ((ind p : ℝ) : EReal) := by
  rw [sitofp_bool]
  unfold ind
  congr

/-- Nothing. -/
theorem ind_false : ind False = 0 := if_neg id

/-- The mask's named constant. -/
theorem mask_bot : (Named.named κ "mask" 0xF149F2CA#32 : Ideal .f32) = (⊥ : EReal) := by simp [Named.named, κ]

/-- The words of two small numbers compare as the numbers. -/
theorem slt_words {a b : ℕ} (ha : a ≤ 4096) (hb : b ≤ 4096) :
    IntOp.cmpi .slt (BitVec.ofNat 32 a) (BitVec.ofNat 32 b) = BitVec.ofBool (decide (a < b)) := by
  unfold IntOp.cmpi
  simp only [BitVec.slt, toInt_small _ ha, toInt_small _ hb, Nat.cast_lt]

theorem sle_words {a b : ℕ} (ha : a ≤ 4096) (hb : b ≤ 4096) :
    IntOp.cmpi .sle (BitVec.ofNat 32 a) (BitVec.ofNat 32 b) = BitVec.ofBool (decide (a ≤ b)) := by
  unfold IntOp.cmpi
  simp only [BitVec.sle, toInt_small _ ha, toInt_small _ hb, Nat.cast_le]

theorem k1_pay5_ix (r : Fin 64) (n : Fin 4096) : k1_pay5 v19 v21 v23 v38 (ix2 r n) = ((ind (inBall v19 v21 v23 v38 r n) : ℝ) : EReal) := by
  pointwise [k1_pay5, k1_pay4]
  exact sitofp_ind _

/-- The matrix that counts up to a point of a block. -/
theorem tri_ix (i j : Fin 128) : (k1_pay20 : FVec Ideal S128x128 .f32) (ix2 i j) = ((ind (i ≤ j) : ℝ) : EReal) := by
  pointwise [k1_pay20]
  rw [sle_words (by omega) (by omega)]
  exact sitofp_ind _

/-- A product of 0/1 numbers. -/
theorem ind_mul (p q : Prop) : ((ind p : ℝ) : EReal) * ((ind q : ℝ) : EReal) = ((ind (p ∧ q) : ℝ) : EReal) := by
  unfold ind
  by_cases hp : p <;> by_cases hq : q <;> simp [hp, hq]

/-- The points of the ball in block `k` up to its point `j`. -/
theorem k1_pay6_ix (r : Fin 64) (k : Fin 32) (j : Fin 128) :
    k1_pay6 v19 v21 v23 k1_pay20 v38 (ix3 r k j) = (((∑ i : Fin 128, ind (inBall v19 v21 v23 v38 r (pnt k i) ∧ i ≤ j) : ℕ) : ℝ) : EReal) := by
  pointwise [k1_pay6]
  rw [← sum_natCast]
  refine Finset.sum_congr rfl fun i _ => ?_
  rw [tri_ix, show (⟨((r : ℕ) * 32 + k) % 32 * 128 + i, by omega⟩ : Fin 4096) = pnt k i from Fin.ext (by show ((r : ℕ) * 32 + k) % 32 * 128 + i = 128 * (k : ℕ) + i; omega), k1_pay5_ix, ind_mul]

/-- The points of the ball in the blocks before block `k`. -/
theorem k1_pay7_ix (r : Fin 64) (k : Fin 32) : k1_pay7 v19 v21 v23 k1_pay20 v38 (ix2 r k)
    = (((∑ l : Fin 32, ∑ i : Fin 128, ind (inBall v19 v21 v23 v38 r (pnt l i) ∧ l < k) : ℕ) : ℝ) : EReal) := by
  pointwise [k1_pay7]
  rw [← sum_natCast]
  refine Finset.sum_congr rfl fun l _ => ?_
  rw [slt_words (by omega) (by omega), sitofp_ind, k1_pay6_ix, ← EReal.coe_mul, ← Nat.cast_mul, Finset.sum_mul]
  refine congrArg (fun n : ℕ => ((n : ℝ) : EReal)) (Finset.sum_congr rfl fun i _ => ?_)
  have hi : i ≤ (127 : Fin 128) := by show (i : ℕ) ≤ 127; omega
  unfold ind
  by_cases h : inBall v19 v21 v23 v38 r (pnt l i) <;> by_cases h' : (l : ℕ) < k <;> simp [h, h', hi, Fin.lt_def]

/-- The points up to point `j` of block `k`: those of the blocks before and those of the block. -/
theorem upto_split (I : Fin 4096 → Prop) (k : Fin 32) (j : Fin 128) :
    (∑ i : Fin 128, ind (I (pnt k i) ∧ i ≤ j)) + (∑ l : Fin 32, ∑ i : Fin 128, ind (I (pnt l i) ∧ l < k)) = Fps.upto I (pnt k j) := by
  have e : Fps.upto I (pnt k j) = ∑ l : Fin 32, ∑ i : Fin 128, ind (I (pnt l i) ∧ pnt l i ≤ pnt k j) := by
    unfold Fps.upto
    rw [← Fintype.sum_prod_type' (f := fun (l : Fin 32) (i : Fin 128) => ind (I (pnt l i) ∧ pnt l i ≤ pnt k j))]
    refine (Fintype.sum_equiv (finProdFinEquiv (m := 32) (n := 128)) _ _ fun p => ?_).symm
    have : (finProdFinEquiv p : Fin 4096) = pnt p.1 p.2 := Fin.ext (by show (p.2 : ℕ) + 128 * p.1 = 128 * p.1 + p.2; omega)
    rw [this]
    unfold ind
    congr
  have s : ∀ l : Fin 32, (∑ i : Fin 128, ind (I (pnt l i) ∧ pnt l i ≤ pnt k j))
      = (if l = k then ∑ i : Fin 128, ind (I (pnt k i) ∧ i ≤ j) else 0) + ∑ i : Fin 128, ind (I (pnt l i) ∧ l < k) := fun l => by
    have hle : ∀ i : Fin 128, pnt l i ≤ pnt k j ↔ (l < k ∨ (l = k ∧ i ≤ j)) := fun i => by
      rw [Fin.lt_def, Fin.ext_iff, Fin.le_def, Fin.le_def]
      show 128 * (l : ℕ) + i ≤ 128 * k + j ↔ _
      omega
    by_cases h : l = k
    · subst h
      simp only [hle, lt_irrefl, and_false, false_or, true_and, ind_false, Finset.sum_const_zero, if_true, add_zero]
    · simp only [hle, h, false_and, or_false, if_false, zero_add]
  rw [e, Finset.sum_congr rfl fun l _ => s l, Finset.sum_add_distrib, Finset.sum_ite_eq' Finset.univ k, if_pos (Finset.mem_univ _)]

/-- The offsets of the blocks count the points before them. -/
theorem k1_pay8_ix (r : Fin 64) (n : Fin 4096) : k1_pay8 v19 v21 v23 k1_pay20 v38 (ix2 r n) = if Fps.Kept (inBall v19 v21 v23 v38 r) n then 0 else ⊥ := by
  pointwise [k1_pay8]
  rw [ofBits_32, k1_pay5_ix, k1_pay6_ix, k1_pay7_ix, ← EReal.coe_add, ← Nat.cast_add, upto_split,
    show pnt ⟨(n : ℕ) / 128, by omega⟩ ⟨(n : ℕ) % 128, by omega⟩ = n from Fin.ext (by show 128 * ((n : ℕ) / 128) + (n : ℕ) % 128 = n; omega)]
  have h1 : (0 : EReal) < ((ind (inBall v19 v21 v23 v38 r n) : ℝ) : EReal) ↔ inBall v19 v21 v23 v38 r n := by
    unfold ind
    by_cases h : inBall v19 v21 v23 v38 r n <;> simp [h]
  have h2 : ∀ u : ℕ, ((u : ℝ) : EReal) ≤ ((32 : ℝ) : EReal) ↔ u ≤ 32 := fun u => by
    rw [EReal.coe_le_coe_iff]
    exact_mod_cast Iff.rfl
  simp only [h1, h2, Fps.Kept]
  by_cases h : inBall v19 v21 v23 v38 r n <;> by_cases h' : Fps.upto (inBall v19 v21 v23 v38 r) n ≤ 32 <;>
    simp [h, h', Scalar.select, IntOp.andi, mask_bot]
end Cert.KernelIdeal.Body
-- ==== Proof.GroupMax.lean ====
module

public import proofs.«01_k».proof.Proof.GroupMask

/-! The pooled maximum of one chunk of 64 centres: the inner loop's blocks hold every point the mask keeps. -/

@[expose] public section
set_option maxRecDepth 16384
noncomputable section

namespace Cert.Fps
open Classical

/-- The largest of `g` over the first 32 points that satisfy `I`. -/
def best (I : Fin 4096 → Prop) (g : Fin 4096 → EReal) : EReal := Finset.univ.sup fun n => if Kept I n then g n else ⊥

theorem best_le (I : Fin 4096 → Prop) (g : Fin 4096 → EReal) (z : EReal) : best I g ≤ z ↔ ∀ n, Kept I n → g n ≤ z := by
  unfold best
  rw [Finset.sup_le_iff]
  refine ⟨fun h n hn => ?_, fun h n _ => ?_⟩
  · have := h n (Finset.mem_univ _)
    rwa [if_pos hn] at this
  · split
    · exact h n ‹_›
    · exact bot_le

end Cert.Fps

namespace Cert.KernelIdeal.Body
open Cert.KernelIdeal Cert.KernelIdeal.Gen
open Idealize.ShloMosaic Idealize.ShloMosaic.TcCoe
open Classical

/-- The inner loop makes one trip per block. -/
theorem blocks_trips : ∀ q : Fin 33, (k1_t2_loop (BitVec.ofNat 32 q)).trips = q := by decide +kernel
/-- Where block `n`'s rows start. -/
theorem blocks_off2 : ∀ q : Fin 33, ∀ n : Fin (k1_t2_loop (BitVec.ofNat 32 q)).trips, k1_off2 (BitVec.ofNat 32 q) n = ![128 * (n : ℕ), 0] := by decide +kernel
/-- Where block `n`'s columns start. -/
theorem blocks_off3 : ∀ q : Fin 33, ∀ n : Fin (k1_t2_loop (BitVec.ofNat 32 q)).trips, k1_off3 (BitVec.ofNat 32 q) n = ![0, 128 * (n : ℕ)] := by decide +kernel

/-- One block's maximum. -/
theorem k1_pay12_ix (acc : FVec Ideal S64x64 .f32) (P : Vec Ideal S128x64 .f32) (M : Vec Ideal S64x128 .f32) (r c : Fin 64) :
    k1_pay12 acc P M (ix2 r c) = max (acc (ix2 r c)) (Finset.univ.fold max ⊥ fun j : Fin 128 => M (ix2 r j) + P (ix2 j c)) := by
  pointwise [k1_pay12]
  rw [ofBits_bot]

/-- The loop starts from minus infinity. -/
theorem k1_pay11_ix (r c : Fin 64) : (k1_pay11 : FVec Ideal S64x64 .f32) (ix2 r c) = ⊥ := mask_bot

/-- The maximum over the first `n` blocks. -/
theorem maxSt_le (q : Fin 33) (hw : k1_chk1 (BitVec.ofNat 32 q)) (P : Vec Ideal S4096x64 .f32) (M : Vec Ideal S64x4096 .f32) (r c : Fin 64) (z : EReal) :
    ∀ n : ℕ, n ≤ q → (maxSt (F := Ideal) (BitVec.ofNat 32 q) hw P M n (ix2 r c) ≤ z ↔ ∀ m : Fin 4096, (m : ℕ) / 128 < n → M (ix2 r m) + P (ix2 m c) ≤ z)
  | 0, _ => by
    unfold maxSt
    rw [k1_pay11_ix]
    simp
  | n + 1, hn => by
    have hq := blocks_trips q
    unfold maxSt
    rw [dif_pos (by omega), k1_pay12_ix, max_le_iff, maxSt_le q hw P M r c z n (by omega), Finset.fold_max_le]
    have hP : ∀ j : Fin 128, View.ld P (Rect.unit (s := S4096x64) (k1_off2 (BitVec.ofNat 32 q) ⟨n, by omega⟩) S128x64.size (k1_off2_inb _ hw ⟨n, by omega⟩)) (ix2 j c)
        = P (ix2 ⟨128 * n + j, by omega⟩ c) := fun j => by
      pointwise [blocks_off2]
    have hM : ∀ j : Fin 128, View.ld M (Rect.unit (s := S64x4096) (k1_off3 (BitVec.ofNat 32 q) ⟨n, by omega⟩) S64x128.size (k1_off3_inb _ hw ⟨n, by omega⟩)) (ix2 r j)
        = M (ix2 r ⟨128 * n + j, by omega⟩) := fun j => by
      pointwise [blocks_off3]
    simp only [hP, hM]
    constructor
    · rintro ⟨h1, -, h2⟩ m hm
      by_cases h : (m : ℕ) / 128 < n
      · exact h1 m h
      · have := h2 ⟨(m : ℕ) % 128, by omega⟩ (Finset.mem_univ _)
        rwa [show (⟨128 * n + (m : ℕ) % 128, by omega⟩ : Fin 4096) = m from Fin.ext (by show 128 * n + (m : ℕ) % 128 = m; omega)] at this
    · exact fun h => ⟨fun m hm => h m (by omega), bot_le, fun j _ => h _ (by show (128 * n + (j : ℕ)) / 128 < n + 1; omega)⟩

variable (v19 v21 v23 : FVec Ideal S1x4096 .f32) (v38 : Vec Ideal S1x64x3 .f32)

/-- How many points of the ball lie before block `k`. -/
def before (I : Fin 4096 → Prop) (k : Fin 32) : ℕ := ∑ l : Fin 32, ∑ i : Fin 128, ind (I (pnt l i) ∧ l < k)

theorem before_mono (I : Fin 4096 → Prop) {k l : Fin 32} (h : k ≤ l) : before I k ≤ before I l := by
  refine Finset.sum_le_sum fun a _ => Finset.sum_le_sum fun i _ => ?_
  unfold ind
  by_cases h1 : I (pnt a i) <;> by_cases h2 : a < k
  · simp [h1, h2, h2.trans_le h]
  all_goals simp [h1, h2]

/-- A kept point's block is open. -/
theorem before_lt (I : Fin 4096 → Prop) (k : Fin 32) (j : Fin 128) (h : Fps.Kept I (pnt k j)) : before I k < 32 := by
  have h2 := h.2
  rw [← upto_split] at h2
  have : 1 ≤ ∑ i : Fin 128, ind (I (pnt k i) ∧ i ≤ j) := by
    refine le_trans ?_ (Finset.single_le_sum (fun _ _ => Nat.zero_le _) (Finset.mem_univ j))
    unfold ind
    rw [if_pos ⟨h.1, le_refl _⟩]
  unfold before
  omega

/-- Open blocks come first, so every one of them is visited. -/
theorem open_lt (r : Fin 64) (k : Fin 32) (h : before (inBall v19 v21 v23 v38 r) k < 32) : (k : ℕ) < openMax (k1_pay7 v19 v21 v23 k1_pay20 v38) := by
  refine lt_of_lt_of_le ?_ (Finset.le_sup (f := openBlocks _) (Finset.mem_univ r))
  have : ∑ l : Fin 32, (if l ≤ k then 1 else 0) ≤ openBlocks (k1_pay7 v19 v21 v23 k1_pay20 v38) r := by
    refine Finset.sum_le_sum fun l _ => ?_
    by_cases hl : l ≤ k
    · have e : k1_pay7 v19 v21 v23 k1_pay20 v38 (ix2 r l) < ((32 : ℝ) : EReal) := by
        rw [k1_pay7_ix, EReal.coe_lt_coe_iff]
        have := lt_of_le_of_lt (before_mono (inBall v19 v21 v23 v38 r) hl) h
        exact_mod_cast this
      rw [if_pos hl, if_pos e]
    · rw [if_neg hl]
      exact Nat.zero_le _
  refine lt_of_lt_of_le ?_ this
  rw [← Finset.card_filter]
  have : (Finset.univ.filter fun l : Fin 32 => l ≤ k) = Finset.Iic k := by ext; simp
  rw [this, Fin.card_Iic]
  omega

/-- The pooled maximum of a centre: the largest projected value over the first 32 points of its ball. -/
theorem maxSt_value (hw : k1_chk1 (Scalar.fptosi 32 (k1_pay10 (k1_pay7 v19 v21 v23 k1_pay20 v38)))) (P : Vec Ideal S4096x64 .f32) (r c : Fin 64) :
    maxSt _ hw P (k1_pay9 (k1_pay8 v19 v21 v23 k1_pay20 v38)) (k1_t2_loop (Scalar.fptosi 32 (k1_pay10 (k1_pay7 v19 v21 v23 k1_pay20 v38)))).trips (ix2 r c)
      = Fps.best (inBall v19 v21 v23 v38 r) fun n => P (ix2 n c) := by
  have e9 : k1_pay9 (k1_pay8 v19 v21 v23 k1_pay20 v38) = k1_pay8 v19 v21 v23 k1_pay20 v38 := by
    funext j
    idx_vars j
    pointwise [k1_pay9]
  rw [e9]
  revert hw
  rw [fptosi_pay10]
  intro hw
  obtain ⟨q, hq⟩ : ∃ q : Fin 33, (q : ℕ) = openMax (k1_pay7 v19 v21 v23 k1_pay20 v38) := ⟨⟨_, Nat.lt_succ_of_le (openMax_le _)⟩, rfl⟩
  have hopen := open_lt v19 v21 v23 v38 r
  revert hw
  rw [← hq] at hopen ⊢
  intro hw
  rw [blocks_trips q]
  refine eq_of_forall_ge_iff fun z => ?_
  rw [maxSt_le q hw _ _ r c z q le_rfl, Fps.best_le]
  refine forall_congr' fun m => ?_
  rw [k1_pay8_ix]
  by_cases h : Fps.Kept (inBall v19 v21 v23 v38 r) m
  · have hm : pnt ⟨(m : ℕ) / 128, by omega⟩ ⟨(m : ℕ) % 128, by omega⟩ = m := Fin.ext (by show 128 * ((m : ℕ) / 128) + (m : ℕ) % 128 = m; omega)
    have := hopen ⟨(m : ℕ) / 128, by omega⟩ (before_lt _ _ ⟨(m : ℕ) % 128, by omega⟩ (by rw [hm]; exact h))
    simp only [h, if_true, zero_add, forall_const]
    exact ⟨fun h => h this, fun h _ => h⟩
  · simp [h]

end Cert.KernelIdeal.Body
-- ==== Proof.FpsValue.lean ====
module

public import proofs.«01_k».proof.Proof.FpsStep
public import proofs.«01_k».proof.Proof.Readout

/-! The kernel's second result: row `s` of cloud `b` is the point chosen at step `s`. -/

@[expose] public section
set_option maxRecDepth 16384
noncomputable section

namespace Cert.KernelIdeal.Body
open Cert.KernelIdeal Cert.KernelIdeal.Gen
open Idealize.ShloMosaic Idealize.ShloMosaic.TcCoe
open Idealize.ShloMosaic.Pipeline (Dat Cfg Window)

/-- The row a trip stores. -/
theorem pay8_ix (x y z : FVec Ideal S4x1x1 .f32) (b : Fin 4) (d : Fin 3) (X : Fin 3 → EReal) (hx : x (ix3 b 0 0) = X 0)
    (hy : y (ix3 b 0 0) = X 1) (hz : z (ix3 b 0 0) = X 2) : k0_pay8 x y z (ix3 b 0 d) = X d := by
  pointwise [k0_pay8]
  fin_cases d
  · simpa using hx
  · simpa using hy
  · simpa using hz

/-- The block of centres as mathematics. -/
def centres (x : Vec Ideal S3x4x32x128 .f32) : Vec Ideal S4x512x3 .f32 := fun y => cloud x (y 0) (Fps.far (cloud x (y 0)) (y 1 : ℕ)) (y 2)

theorem piece_value (x : Vec Ideal S3x4x32x128 .f32) (k : Fin k0_t1_loop.trips)
    (j : (fpsPiece (fpsAcc (planeX x) (planeY x) (planeZ x) (fpsInit x) k) k).1.shape.Idx) :
    (fpsPiece (fpsAcc (planeX x) (planeY x) (planeZ x) (fpsInit x) k) k).2 j
      = centres x ((fpsPiece (fpsAcc (planeX x) (planeY x) (planeZ x) (fpsInit x) k) k).1.emb j) := by
  obtain ⟨-, h2, h3, h4⟩ := fpsAcc_value x ((j 0 : Fin 4)) k
  have e := pay8_ix _ _ _ (j 0 : Fin 4) (j 2 : Fin 3) (cloud x (j 0 : Fin 4) (Fps.far (cloud x (j 0 : Fin 4)) k)) h2 h3 h4
  have hj : j = ix3 (j 0 : Fin 4) (0 : Fin 1) (j 2 : Fin 3) := by
    refine (eq_ix3 j).trans ?_
    congr 1
    exact Subsingleton.elim (α := Fin 1) _ _
  have hk : (k : ℕ) < 512 := lt_of_lt_of_eq k.isLt k0_trips
  have he : (fpsPiece (fpsAcc (planeX x) (planeY x) (planeZ x) (fpsInit x) k) k).1.emb j = ix3 (j 0 : Fin 4) (⟨k, hk⟩ : Fin 512) (j 2 : Fin 3) := by
    have h1 : ((j 1 : Fin 1) : ℕ) = 0 := Nat.lt_one_iff.mp (j 1 : Fin 1).isLt
    funext a
    refine Fin.ext ?_
    have h : ∀ a, (((fpsPiece (fpsAcc (planeX x) (planeY x) (planeZ x) (fpsInit x) k) k).1.emb j) a : ℕ) = k0_off1 k a + 1 * j a := fun _ => rfl
    rw [h, k0_off1_eq]
    fin_cases a
    · show 0 + 1 * (j 0 : ℕ) = (j 0 : ℕ); omega
    · show (k : ℕ) + 1 * ((j 1 : Fin 1) : ℕ) = k; omega
    · show 0 + 1 * (j 2 : ℕ) = (j 2 : ℕ); omega
  rw [he]
  exact (congrArg _ hj).trans e

theorem fpsPieces_value (x : Vec Ideal S3x4x32x128 .f32) (n : ℕ) :
    ∀ p ∈ fpsPieces (planeX x) (planeY x) (planeZ x) (fpsInit x) n, ∀ j : p.1.shape.Idx, p.2 j = centres x (p.1.emb j) := by
  induction n with
  | zero => intro p hp; simp [fpsPieces] at hp
  | succ n ih =>
    intro p hp
    rw [fpsPieces.eq_2] at hp
    split at hp
    · rcases List.mem_cons.mp hp with rfl | hp
      · exact piece_value x ⟨n, by assumption⟩
      · exact ih p hp
    · exact ih p hp

theorem fpsOut_value (x : Vec Ideal S3x4x32x128 .f32) (y : S4x512x3.Idx) : fpsOut x y = centres x y := by
  unfold fpsOut
  exact View.canon_apply_of_pieces (centres x) (fpsOutPieces x) (fpsPieces_value x k0_t1_loop.trips) y (fps_cover x y)
variable (m : (ℓ : Loc nD τ sig) → Buf (Elt Ideal) ℓ)

theorem read0 (X : Vec Ideal S3x4x32x128 .f32) (t : Fin cfg0.N) : (win0_0.blk t).view.read (Elt Ideal) X = X := by
  rcases fin_N0 t with rfl
  funext j
  refine congrArg X (funext fun a => Fin.ext ?_)
  fin_cases a <;> (refine (Nat.zero_add _).trans ?_; exact Nat.one_mul _)

theorem read1 (X : Vec Ideal S4x512x3 .f32) (t : Fin cfg0.N) : (win0_1.blk t).view.read (Elt Ideal) X = X := by
  rcases fin_N0 t with rfl
  funext j
  refine congrArg X (funext fun a => Fin.ext ?_)
  fin_cases a <;> (refine (Nat.zero_add _).trans ?_; exact Nat.one_mul _)

theorem flushed0 (c : Dev nD) (t : Fin cfg0.N) :
    (dat0 m c).flushed 1 t = (win0_1.blk t).view.read (Elt Ideal) (fpsOut (U1 m c main_v1)) := by
  refine Eq.trans ?_ (read1 _ t).symm
  show (cfg0.win 1).cut (grid0.coords t) (fpsOut ((win0_0.blk t).view.read (Elt Ideal) (U1 m c main_v1))) = _
  rw [read0]
  generalize fpsOut (U1 m c main_v1) = Y
  rfl

theorem cover0 (y : S4x512x3.Idx) : ∃ t : Fin cfg0.N, (cfg0.win 1).flush t = true ∧ y ∈ ((cfg0.win 1).blk t).view.set := by
  have hN : cfg0.N = 1 := N_0
  have ht : 0 < cfg0.N := by omega
  refine ⟨⟨0, ht⟩, flush0_1 _, ?_⟩
  show y ∈ ((View.whole main_v2).slice (win0_1.rect ⟨0, ht⟩)).set
  rw [View.set_slice_whole, Rect.mem_set_unit]
  intro a
  have e : win0_1.index ⟨0, ht⟩ 0 * win0_1.size 0 = 0 ∧ win0_1.xsize (grid0.coords ⟨0, ht⟩) 0 = 4
      ∧ win0_1.index ⟨0, ht⟩ 1 * win0_1.size 1 = 0 ∧ win0_1.xsize (grid0.coords ⟨0, ht⟩) 1 = 512
      ∧ win0_1.index ⟨0, ht⟩ 2 * win0_1.size 2 = 0 ∧ win0_1.xsize (grid0.coords ⟨0, ht⟩) 2 = 3 := by
    rcases fin_N0 (⟨0, ht⟩ : Fin cfg0.N) with h
    rw [h]; decide +kernel
  have h0 : (y 0 : ℕ) < 4 := (y 0).isLt
  have h1 : (y 1 : ℕ) < 512 := (y 1).isLt
  have h2 : (y 2 : ℕ) < 3 := (y 2).isLt
  match a with
  | ⟨0, _⟩ => show win0_1.index ⟨0, ht⟩ 0 * win0_1.size 0 ≤ (y 0 : ℕ) ∧ (y 0 : ℕ) < win0_1.index ⟨0, ht⟩ 0 * win0_1.size 0 + win0_1.xsize (grid0.coords ⟨0, ht⟩) 0
              rw [e.1, e.2.1]; omega
  | ⟨1, _⟩ => show win0_1.index ⟨0, ht⟩ 1 * win0_1.size 1 ≤ (y 1 : ℕ) ∧ (y 1 : ℕ) < win0_1.index ⟨0, ht⟩ 1 * win0_1.size 1 + win0_1.xsize (grid0.coords ⟨0, ht⟩) 1
              rw [e.2.2.1, e.2.2.2.1]; omega
  | ⟨2, _⟩ => show win0_1.index ⟨0, ht⟩ 2 * win0_1.size 2 ≤ (y 2 : ℕ) ∧ (y 2 : ℕ) < win0_1.index ⟨0, ht⟩ 2 * win0_1.size 2 + win0_1.xsize (grid0.coords ⟨0, ht⟩) 2
              rw [e.2.2.2.2.1, e.2.2.2.2.2]; omega

theorem U2_v2 (c : Dev nD) : U2 m c main_v2 = fpsOut (U1 m c main_v1) :=
  (Pipeline.afterRegion_arr (dat0 m c) _ inj0 1).trans ((dat0 m c).arrAt_eq_of_cover 1 (fpsOut (U1 m c main_v1)) (fun t _ => flushed0 m c t) cover0)

/-- The host's split of the argument into coordinate planes. -/
theorem U1_v1 (c : Dev nD) (d : Fin 3) (b : Fin 4) (i : Fin 32) (j : Fin 128) :
    U1 m c main_v1 (ix4 d b i j) = m ((c.tc : Thread nD τ).loc main_arg0) (ix3 b (flat (i, j)) d) := by
  have h : U1 m c main_v1 = shapeCast S3x4x32x128 (transpose S3x4x4096 [2, 0, 1] (m ((c.tc : Thread nD τ).loc main_arg0) : Vec Ideal S4x4096x3 .f32) transposes_S4x4096x3_S3x4x4096_2_0_1) shapeCasts_S3x4x4096_S3x4x32x128 := by
    unfold U1 hostOps0
    after_results
    rfl
  rw [h]
  pointwise
  refine congrArg (fun n => m ((c.tc : Thread nD τ).loc main_arg0) (ix3 b n d)) (Fin.ext ?_)
  show (i : ℕ) * 128 + j = 128 * i + j
  omega

/-- The second result of the kernel at its index. -/
def pts (x : Vec Ideal S4x4096x3 .f32) (b : Fin 4) (n : Fin 4096) (d : Fin 3) : EReal := x (ix3 b n d)

theorem cloud_v1 (c : Dev nD) (b : Fin 4) : cloud (U1 m c main_v1) b = pts (m ((c.tc : Thread nD τ).loc main_arg0)) b := by
  funext n d
  unfold cloud pts
  rw [U1_v1]
  rw [show flat ((place n).1, (place n).2) = n from flat_place n]

theorem U3_v2 (c : Dev nD) (b : Fin 4) (s : Fin 512) (d : Fin 3) :
    U3 m c main_v2 (ix3 b s d) = pts (m ((c.tc : Thread nD τ).loc main_arg0)) b (Fps.far (pts (m ((c.tc : Thread nD τ).loc main_arg0)) b) s) d := by
  rw [U3_of m c main_v2 (by decide), U2_v2, fpsOut_value]
  show cloud _ b (Fps.far (cloud _ b) s) d = _
  rw [cloud_v1]

/-- The kernel's second result. -/
theorem U4_v2 (hchk : Chk Ideal) (c : Dev nD) (b : Fin 4) (s : Fin 512) (d : Fin 3) :
    U4 hchk m c main_v2 (ix3 b s d) = pts (m ((c.tc : Thread nD τ).loc main_arg0)) b (Fps.far (pts (m ((c.tc : Thread nD τ).loc main_arg0)) b) s) d := by
  rw [U4_of hchk m c main_v2 (by decide)]
  exact U3_v2 m c b s d
end Cert.KernelIdeal.Body
-- ==== Proof.GroupNorm.lean ====
module

public import proofs.«01_k».proof.Proof.Check

/-! The arithmetic of the grouping call at an index: the projection of a point, and the normalization of a pooled row. -/

@[expose] public section
set_option maxRecDepth 16384
noncomputable section

namespace Cert.Fps
open Idealize.ShloMosaic

/-- The number of channels. -/
def chans : EReal := Ideal.ofBits .f32 0x42800000#32
/-- The number added to the variance. -/
def eps : EReal := Ideal.ofBits .f32 0x3727C5AC#32

/-- The mean over the channels. -/
def mean (x : Fin 64 → EReal) : EReal := Ideal.div (∑ c, x c) chans

/-- The variance over the channels. -/
def var (x : Fin 64 → EReal) : EReal := Ideal.div (∑ c, (x c - mean x) * (x c - mean x)) chans

/-- Layer normalization by the reciprocal root. -/
def norm (x g h : Fin 64 → EReal) (c : Fin 64) : EReal := (x c - mean x) * Ideal.rsqrt (var x + eps) * g c + h c

end Cert.Fps

namespace Cert.KernelIdeal.Body
open Cert.KernelIdeal Cert.KernelIdeal.Gen
open Idealize.ShloMosaic Idealize.ShloMosaic.TcCoe

/-- The normalization of a chunk. -/
theorem k1_pay14_ix (v30 : FVec Ideal S1x64 .f32) (v34 : FVec Ideal S3x64 .f32) (v39 : FVec Ideal S64x3 .f32) (v105 : FVec Ideal S64x64 .f32) (r c : Fin 64)
    (h : Fin 64 → EReal) (x : Fin 64 → EReal) (hx : ∀ c, v105 (ix2 r c) - ∑ d : Fin 3, v39 (ix2 r d) * v34 (ix2 d c) = x c) :
    k1_pay14 v30 v34 v39 v105 (ix2 r c) + h c = Fps.norm x (fun c => v30 (ix2 (0 : Fin 1) c)) h c := by
  pointwise [k1_pay14]
  simp only [hx]
  rfl

/-- The shift, and the block's layout. -/
theorem k1_pay3_ix (A : FVec Ideal S64x64 .f32) (v31 : Vec Ideal S1x64 .f32) (r c : Fin 64) :
    k1_pay3 A (k1_pay15 (k1_pay1 v31)) (ix3 (0 : Fin 1) r c) = A (ix2 r c) + v31 (ix2 (0 : Fin 1) c) := by
  pointwise [k1_pay3, k1_pay15, k1_pay1]

/-- Neither cast changes an entry. -/
theorem k1_pay2_ix (v33 : Vec Ideal S3x64 .f32) (d : Fin 3) (c : Fin 64) : k1_pay2 v33 (ix2 d c) = v33 (ix2 d c) := by pointwise [k1_pay2]
theorem k1_pay4_ix (v38 : Vec Ideal S1x64x3 .f32) (r : Fin 64) (d : Fin 3) : k1_pay4 v38 (ix2 r d) = v38 (ix3 (0 : Fin 1) r d) := by pointwise [k1_pay4]

/-- A point's projected value. -/
theorem k1_pay16_ix (v0 : Vec Ideal S1x4096x32 .f32) (v2 : Vec Ideal S32x64 .f32) (v5 : Vec Ideal S1x4096x3 .f32) (v7 : Vec Ideal S3x64 .f32) (v11 : Vec Ideal S1x64 .f32)
    (n : Fin 4096) (c : Fin 64) : k1_pay16 v0 v2 v5 v7 v11 (ix2 n c)
      = (∑ k : Fin 32, v0 (ix3 (0 : Fin 1) n k) * v2 (ix2 k c)) + (∑ d : Fin 3, v5 (ix3 (0 : Fin 1) n d) * v7 (ix2 d c)) + v11 (ix2 (0 : Fin 1) c) := by
  pointwise [k1_pay16]

end Cert.KernelIdeal.Body
-- ==== Proof.GroupValue.lean ====
module

public import proofs.«01_k».proof.Proof.GroupMax
public import proofs.«01_k».proof.Proof.FpsValue
public import proofs.«01_k».proof.Proof.GroupNorm

/-! What the grouping call leaves at one grid point, at its index. -/

@[expose] public section
set_option maxRecDepth 16384
noncomputable section

namespace Cert.KernelIdeal.Body
open Cert.KernelIdeal Cert.KernelIdeal.Gen
open Idealize.ShloMosaic Idealize.ShloMosaic.TcCoe

theorem chunkPay_ix (hchk : Chk Ideal) (v19 v21 v23 : FVec Ideal S1x4096 .f32) (v30 : FVec Ideal S1x64 .f32)
    (v31 : Vec Ideal S1x64 .f32) (v33 : Vec Ideal S3x64 .f32) (P : Vec Ideal S4096x64 .f32) (v38 : Vec Ideal S1x64x3 .f32) (r c : Fin 64) :
    chunkPay hchk v19 v21 v23 k1_pay20 v30 v31 v33 P v38 (ix3 (0 : Fin 1) r c)
      = Fps.norm (fun c => Fps.best (inBall v19 v21 v23 v38 r) (fun n => P (ix2 n c)) - ∑ d : Fin 3, v38 (ix3 (0 : Fin 1) r d) * v33 (ix2 d c))
        (fun c => v30 (ix2 (0 : Fin 1) c)) (fun c => v31 (ix2 (0 : Fin 1) c)) c := by
  unfold chunkPay
  have hm := fun c => maxSt_value v19 v21 v23 v38 (hchk _) P r c
  generalize maxSt _ _ P _ _ = acc at hm ⊢
  rw [k1_pay3_ix]
  refine k1_pay14_ix v30 (k1_pay2 v33) (k1_pay4 v38) acc r c (fun c => v31 (ix2 (0 : Fin 1) c)) _ (fun c => ?_)
  rw [hm]
  simp only [k1_pay2_ix, k1_pay4_ix]

/-- The ball of centre `s` of a cloud given by its coordinate rows `x1` and its centres `x4`. -/
def ballOf (x1 : Vec Ideal S1x3x4096 .f32) (x4 : Vec Ideal S1x512x3 .f32) (s : Fin 512) (n : Fin 4096) : Prop :=
  Fps.sqd (fun d => x4 (ix3 (0 : Fin 1) s d)) (fun d => x1 (ix3 (0 : Fin 1) d n)) ≤ Fps.rad

/-- The projection of point `n` on channel `c`. -/
def projOf (x2 : Vec Ideal S1x4096x3 .f32) (x3 : Vec Ideal S1x4096x32 .f32) (x5 : Vec Ideal S3x64 .f32) (x6 : Vec Ideal S32x64 .f32) (x7 : Vec Ideal S1x64 .f32)
    (c : Fin 64) (n : Fin 4096) : EReal :=
  (∑ k : Fin 32, x3 (ix3 (0 : Fin 1) n k) * x6 (ix2 k c)) + (∑ d : Fin 3, x2 (ix3 (0 : Fin 1) n d) * x5 (ix2 d c)) + x7 (ix2 (0 : Fin 1) c)

section
variable (x1 : Vec Ideal S1x3x4096 .f32) (x2 : Vec Ideal S1x4096x3 .f32) (x3 : Vec Ideal S1x4096x32 .f32)
    (x4 : Vec Ideal S1x512x3 .f32) (x5 : Vec Ideal S3x64 .f32) (x6 : Vec Ideal S32x64 .f32) (x7 x8 x9 : Vec Ideal S1x64 .f32)

/-- The pooled row of centre `s`. -/
def rowOf (s : Fin 512) (c : Fin 64) : EReal :=
  Fps.best (ballOf x1 x4 s) (projOf x2 x3 x5 x6 x7 c) - ∑ d : Fin 3, x4 (ix3 (0 : Fin 1) s d) * x5 (ix2 d c)

/-- The block of features as mathematics. -/
def groupSpec : Vec Ideal S1x512x64 .f32 := fun y =>
  Fps.norm (rowOf x1 x2 x3 x4 x5 x6 x7 (y 1)) (fun c => x8 (ix2 (0 : Fin 1) c)) (fun c => x9 (ix2 (0 : Fin 1) c)) (y 2)

/-- Chunk `k`'s rows of the centres. -/
theorem centres_row (k : Fin k1_t1_loop.trips) (r : Fin 64) (d : Fin 3) (s : Fin 512) (hs : (s : ℕ) = 64 * k + r) :
    View.ld x4 (Rect.unit (s := S1x512x3) (k1_off1 k) S1x64x3.size (k1_off1_inb k)) (ix3 (0 : Fin 1) r d) = x4 (ix3 (0 : Fin 1) s d) := by
  pointwise [k1_off1_eq]
  exact congrArg (fun s => x4 (ix3 (0 : Fin 1) s d)) (Fin.ext hs.symm)

theorem chunk_value (hchk : Chk Ideal) (k : Fin k1_t1_loop.trips) (r c : Fin 64) (s : Fin 512) (hs : (s : ℕ) = 64 * k + r) :
    chunkPay hchk
      (k1_pay17 (View.ld x1 (Rect.unit (s := S1x3x4096) ![0, 0, 0] S1x1x4096.size inb_S1x3x4096_S1x1x4096_0_0_0)))
      (k1_pay18 (View.ld x1 (Rect.unit (s := S1x3x4096) ![0, 1, 0] S1x1x4096.size inb_S1x3x4096_S1x1x4096_0_1_0)))
      (k1_pay19 (View.ld x1 (Rect.unit (s := S1x3x4096) ![0, 2, 0] S1x1x4096.size inb_S1x3x4096_S1x1x4096_0_2_0)))
      k1_pay20 (k1_pay21 x8) x9 x5 (k1_pay16 x3 x6 x2 x5 x7) (View.ld x4 (Rect.unit (s := S1x512x3) (k1_off1 k) S1x64x3.size (k1_off1_inb k))) (ix3 (0 : Fin 1) r c)
      = Fps.norm (rowOf x1 x2 x3 x4 x5 x6 x7 s) (fun c => x8 (ix2 (0 : Fin 1) c)) (fun c => x9 (ix2 (0 : Fin 1) c)) c := by
  rw [chunkPay_ix]
  have e0 : ∀ n, k1_pay17 (View.ld x1 (Rect.unit (s := S1x3x4096) ![0, 0, 0] S1x1x4096.size inb_S1x3x4096_S1x1x4096_0_0_0)) (ix2 (0 : Fin 1) n) = x1 (ix3 (0 : Fin 1) (0 : Fin 3) n) := fun n => by
    pointwise [k1_pay17]
  have e1 : ∀ n, k1_pay18 (View.ld x1 (Rect.unit (s := S1x3x4096) ![0, 1, 0] S1x1x4096.size inb_S1x3x4096_S1x1x4096_0_1_0)) (ix2 (0 : Fin 1) n) = x1 (ix3 (0 : Fin 1) (1 : Fin 3) n) := fun n => by
    pointwise [k1_pay18]
  have e2 : ∀ n, k1_pay19 (View.ld x1 (Rect.unit (s := S1x3x4096) ![0, 2, 0] S1x1x4096.size inb_S1x3x4096_S1x1x4096_0_2_0)) (ix2 (0 : Fin 1) n) = x1 (ix3 (0 : Fin 1) (2 : Fin 3) n) := fun n => by
    pointwise [k1_pay19]
  have e8 : ∀ c, k1_pay21 x8 (ix2 (0 : Fin 1) c) = x8 (ix2 (0 : Fin 1) c) := fun c => by pointwise [k1_pay21]
  have e4 := fun d => centres_row x4 k r d s hs
  simp only [e8, k1_pay16_ix]
  unfold rowOf
  congr 1
  funext c
  simp only [e4]
  congr 2
  funext n
  unfold inBall ballOf
  simp only [e4]
  unfold Fps.sqd
  simp [e0, e1, e2]

theorem piece1_value (hchk : Chk Ideal) (k : Fin k1_t1_loop.trips) (j) :
    (chunkPiece hchk
      (k1_pay17 (View.ld x1 (Rect.unit (s := S1x3x4096) ![0, 0, 0] S1x1x4096.size inb_S1x3x4096_S1x1x4096_0_0_0)))
      (k1_pay18 (View.ld x1 (Rect.unit (s := S1x3x4096) ![0, 1, 0] S1x1x4096.size inb_S1x3x4096_S1x1x4096_0_1_0)))
      (k1_pay19 (View.ld x1 (Rect.unit (s := S1x3x4096) ![0, 2, 0] S1x1x4096.size inb_S1x3x4096_S1x1x4096_0_2_0)))
      k1_pay20 (k1_pay21 x8) x9 x5 (k1_pay16 x3 x6 x2 x5 x7) x4 k).2 j
    = groupSpec x1 x2 x3 x4 x5 x6 x7 x8 x9 ((Rect.unit (s := S1x512x64) (k1_off6 k) S1x64x64.size (k1_off6_inb k)).emb j) := by
  have hk : (k : ℕ) < 8 := lt_of_lt_of_eq k.isLt k1_trips
  have hj : j = ix3 (0 : Fin 1) (j 1 : Fin 64) (j 2 : Fin 64) := by
    refine (eq_ix3 j).trans ?_
    congr 1
    exact Subsingleton.elim (α := Fin 1) _ _
  have he : ∀ a, (((Rect.unit (s := S1x512x64) (k1_off6 k) S1x64x64.size (k1_off6_inb k)).emb j) a : ℕ) = k1_off6 k a + 1 * j a := fun _ => rfl
  have h1 := (he 1).trans (congrArg (fun o : Fin 3 → ℕ => o 1 + 1 * (j 1 : ℕ)) (k1_off6_eq k))
  have h2 := (he 2).trans (congrArg (fun o : Fin 3 → ℕ => o 2 + 1 * (j 2 : ℕ)) (k1_off6_eq k))
  have h2' : ((Rect.unit (s := S1x512x64) (k1_off6 k) S1x64x64.size (k1_off6_inb k)).emb j) 2 = (j 2 : Fin 64) := Fin.ext (h2.trans (by show 0 + 1 * (j 2 : ℕ) = (j 2 : ℕ); omega))
  unfold groupSpec
  rw [h2']
  refine (congrArg _ hj).trans (chunk_value x1 x2 x3 x4 x5 x6 x7 x8 x9 hchk k _ _ _ (h1.trans (by show 64 * (k : ℕ) + 1 * (j 1 : ℕ) = 64 * (k : ℕ) + (j 1 : ℕ); omega)))

theorem pieces1_value (hchk : Chk Ideal) (n : ℕ) : ∀ p ∈ groupPieces hchk x1 x2 x3 x4 x5 x6 x7 x8 x9 n, ∀ j : p.1.shape.Idx, p.2 j = groupSpec x1 x2 x3 x4 x5 x6 x7 x8 x9 (p.1.emb j) := by
  induction n with
  | zero => intro p hp; simp [groupPieces, chunkPieces] at hp
  | succ n ih =>
    intro p hp
    unfold groupPieces at hp
    rw [chunkPieces.eq_2] at hp
    split at hp
    · rcases List.mem_cons.mp hp with rfl | hp
      · exact piece1_value x1 x2 x3 x4 x5 x6 x7 x8 x9 hchk ⟨n, by assumption⟩
      · exact ih p hp
    · exact ih p hp

/-- What the grouping call leaves at one grid point. -/
theorem groupOut_value (hchk : Chk Ideal) (y : S1x512x64.Idx) : groupOut hchk x1 x2 x3 x4 x5 x6 x7 x8 x9 y = groupSpec x1 x2 x3 x4 x5 x6 x7 x8 x9 y := by
  unfold groupOut
  exact View.canon_apply_of_pieces (groupSpec x1 x2 x3 x4 x5 x6 x7 x8 x9) _ (pieces1_value x1 x2 x3 x4 x5 x6 x7 x8 x9 hchk _) y (group_cover hchk x1 x2 x3 x4 x5 x6 x7 x8 x9 y)
end

end Cert.KernelIdeal.Body
-- ==== Proof.GroupArray.lean ====
module

public import proofs.«01_k».proof.Proof.GroupValue

/-! The kernel's first result at its index. -/

@[expose] public section
set_option maxRecDepth 16384
noncomputable section

namespace Cert.KernelIdeal.Body
open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ)

/-! ## What the second call reads -/

theorem U3_v9 (c : Dev nD) (b : Fin 4) (d : Fin 3) (n : Fin 4096) :
    U3 m c main_v9 (ix3 b d n) = pts (m ((c.tc : Thread nD τ).loc main_arg0)) b n d := by
  have h : U3 m c main_v9 = transpose S4x3x4096 [0, 2, 1] (U2 m c main_arg0 : Vec Ideal S4x4096x3 .f32) transposes_S4x4096x3_S4x3x4096_0_2_1 := by
    unfold U3 hostOps1
    after_results
  rw [h, U2_of m c main_arg0 (by decide), U1_of m c main_arg0 (by decide)]
  pointwise
  rfl

/-- The weights' coordinate rows. -/
theorem U3_v4 (c : Dev nD) (d : Fin 3) (k : Fin 64) :
    U3 m c main_v4 (ix2 d k) = (m ((c.tc : Thread nD τ).loc main_arg2) : Vec Ideal S64x35 .f32) (ix2 k (⟨d, by omega⟩ : Fin 35)) := by
  have h : U3 m c main_v4 = extractStridedSlice S3x64 ![0, 0] (transpose S35x64 [1, 0] (U2 m c main_arg2 : Vec Ideal S64x35 .f32) transposes_S64x35_S35x64_1_0) slices_S35x64_S3x64_0_0 := by
    unfold U3 hostOps1
    after_results
  rw [h, U2_of m c main_arg2 (by decide), U1_of m c main_arg2 (by decide)]
  pointwise

/-- The weights' other rows. -/
theorem U3_v5 (c : Dev nD) (d : Fin 32) (k : Fin 64) :
    U3 m c main_v5 (ix2 d k) = (m ((c.tc : Thread nD τ).loc main_arg2) : Vec Ideal S64x35 .f32) (ix2 k (⟨3 + d, by omega⟩ : Fin 35)) := by
  have h : U3 m c main_v5 = extractStridedSlice S32x64 ![3, 0] (transpose S35x64 [1, 0] (U2 m c main_arg2 : Vec Ideal S64x35 .f32) transposes_S64x35_S35x64_1_0) slices_S35x64_S32x64_3_0 := by
    unfold U3 hostOps1
    after_results
  rw [h, U2_of m c main_arg2 (by decide), U1_of m c main_arg2 (by decide)]
  pointwise

theorem U3_v6 (c : Dev nD) (k : Fin 64) : U3 m c main_v6 (ix2 (0 : Fin 1) k) = (m ((c.tc : Thread nD τ).loc main_arg3) : Vec Ideal S64 .f32) (ix1 k) := by
  have h : U3 m c main_v6 = shapeCast S1x64 (U2 m c main_arg3 : Vec Ideal S64 .f32) shapeCasts_S64_S1x64 := by
    unfold U3 hostOps1
    after_results
    rfl
  rw [h, U2_of m c main_arg3 (by decide), U1_of m c main_arg3 (by decide)]
  pointwise

theorem U3_v7 (c : Dev nD) (k : Fin 64) : U3 m c main_v7 (ix2 (0 : Fin 1) k) = (m ((c.tc : Thread nD τ).loc main_arg4) : Vec Ideal S64 .f32) (ix1 k) := by
  have h : U3 m c main_v7 = shapeCast S1x64 (U2 m c main_arg4 : Vec Ideal S64 .f32) shapeCasts_S64_S1x64 := by
    unfold U3 hostOps1
    after_results
    rfl
  rw [h, U2_of m c main_arg4 (by decide), U1_of m c main_arg4 (by decide)]
  pointwise

theorem U3_v8 (c : Dev nD) (k : Fin 64) : U3 m c main_v8 (ix2 (0 : Fin 1) k) = (m ((c.tc : Thread nD τ).loc main_arg5) : Vec Ideal S64 .f32) (ix1 k) := by
  have h : U3 m c main_v8 = shapeCast S1x64 (U2 m c main_arg5 : Vec Ideal S64 .f32) shapeCasts_S64_S1x64 := by
    unfold U3 hostOps1
    after_results
    rfl
  rw [h, U2_of m c main_arg5 (by decide), U1_of m c main_arg5 (by decide)]
  pointwise

theorem U3_arg0 (c : Dev nD) : U3 m c main_arg0 = m ((c.tc : Thread nD τ).loc main_arg0) := by
  rw [U3_of m c main_arg0 (by decide), U2_of m c main_arg0 (by decide), U1_of m c main_arg0 (by decide)]
theorem U3_arg1 (c : Dev nD) : U3 m c main_arg1 = m ((c.tc : Thread nD τ).loc main_arg1) := by
  rw [U3_of m c main_arg1 (by decide), U2_of m c main_arg1 (by decide), U1_of m c main_arg1 (by decide)]

/-! ## Its blocks -/

/-- A grid point as a cloud. -/
def cl (t : Fin cfg1.N) : Fin 4 := ⟨t, lt_of_lt_of_eq t.isLt N_1⟩

section
variable (c : Dev nD) (t : Fin cfg1.N)

theorem blk0_ix (d : Fin 3) (n : Fin 4096) : (blk1 m c 0 t : Vec Ideal S1x3x4096 .f32) (ix3 (0 : Fin 1) d n) = U3 m c main_v9 (ix3 (cl t) d n) := by
  refine congrArg (U3 m c main_v9) (funext fun a => Fin.ext ?_)
  rcases fin_N1 t with rfl | rfl | rfl | rfl <;> fin_cases a <;> first | exact (Nat.zero_add _).trans (Nat.one_mul _) | rfl

theorem blk1_ix (n : Fin 4096) (d : Fin 3) : (blk1 m c 1 t : Vec Ideal S1x4096x3 .f32) (ix3 (0 : Fin 1) n d) = U3 m c main_arg0 (ix3 (cl t) n d) := by
  refine congrArg (U3 m c main_arg0) (funext fun a => Fin.ext ?_)
  rcases fin_N1 t with rfl | rfl | rfl | rfl <;> fin_cases a <;> first | exact (Nat.zero_add _).trans (Nat.one_mul _) | rfl

theorem blk2_ix (n : Fin 4096) (d : Fin 32) : (blk1 m c 2 t : Vec Ideal S1x4096x32 .f32) (ix3 (0 : Fin 1) n d) = U3 m c main_arg1 (ix3 (cl t) n d) := by
  refine congrArg (U3 m c main_arg1) (funext fun a => Fin.ext ?_)
  rcases fin_N1 t with rfl | rfl | rfl | rfl <;> fin_cases a <;> first | exact (Nat.zero_add _).trans (Nat.one_mul _) | rfl

theorem blk3_ix (n : Fin 512) (d : Fin 3) : (blk1 m c 3 t : Vec Ideal S1x512x3 .f32) (ix3 (0 : Fin 1) n d) = U3 m c main_v2 (ix3 (cl t) n d) := by
  refine congrArg (U3 m c main_v2) (funext fun a => Fin.ext ?_)
  rcases fin_N1 t with rfl | rfl | rfl | rfl <;> fin_cases a <;> first | exact (Nat.zero_add _).trans (Nat.one_mul _) | rfl

theorem blk4_ix (d : Fin 3) (k : Fin 64) : (blk1 m c 4 t : Vec Ideal S3x64 .f32) (ix2 d k) = U3 m c main_v4 (ix2 d k) := by
  refine congrArg (U3 m c main_v4) (funext fun a => Fin.ext ?_)
  rcases fin_N1 t with rfl | rfl | rfl | rfl <;> fin_cases a <;> first | exact (Nat.zero_add _).trans (Nat.one_mul _) | rfl

theorem blk5_ix (d : Fin 32) (k : Fin 64) : (blk1 m c 5 t : Vec Ideal S32x64 .f32) (ix2 d k) = U3 m c main_v5 (ix2 d k) := by
  refine congrArg (U3 m c main_v5) (funext fun a => Fin.ext ?_)
  rcases fin_N1 t with rfl | rfl | rfl | rfl <;> fin_cases a <;> first | exact (Nat.zero_add _).trans (Nat.one_mul _) | rfl

theorem blk6_ix (k : Fin 64) : (blk1 m c 6 t : Vec Ideal S1x64 .f32) (ix2 (0 : Fin 1) k) = U3 m c main_v6 (ix2 (0 : Fin 1) k) := by
  refine congrArg (U3 m c main_v6) (funext fun a => Fin.ext ?_)
  rcases fin_N1 t with rfl | rfl | rfl | rfl <;> fin_cases a <;> first | exact (Nat.zero_add _).trans (Nat.one_mul _) | rfl

theorem blk7_ix (k : Fin 64) : (blk1 m c 7 t : Vec Ideal S1x64 .f32) (ix2 (0 : Fin 1) k) = U3 m c main_v7 (ix2 (0 : Fin 1) k) := by
  refine congrArg (U3 m c main_v7) (funext fun a => Fin.ext ?_)
  rcases fin_N1 t with rfl | rfl | rfl | rfl <;> fin_cases a <;> first | exact (Nat.zero_add _).trans (Nat.one_mul _) | rfl

theorem blk8_ix (k : Fin 64) : (blk1 m c 8 t : Vec Ideal S1x64 .f32) (ix2 (0 : Fin 1) k) = U3 m c main_v8 (ix2 (0 : Fin 1) k) := by
  refine congrArg (U3 m c main_v8) (funext fun a => Fin.ext ?_)
  rcases fin_N1 t with rfl | rfl | rfl | rfl <;> fin_cases a <;> first | exact (Nat.zero_add _).trans (Nat.one_mul _) | rfl

/-- An output block's place in the result. -/
theorem emb9 (n : Fin 512) (k : Fin 64) : ((cfg1.win 9).blk t).view.emb (ix3 (0 : Fin 1) n k : S1x512x64.Idx) = (ix3 (cl t) n k : S4x512x64.Idx) := by
  refine funext fun a => Fin.ext ?_
  rcases fin_N1 t with rfl | rfl | rfl | rfl <;> fin_cases a <;> first | exact (Nat.zero_add _).trans (Nat.one_mul _) | rfl

end
/-! ## The first result -/

/-- Channel `k` of the projection of point `n` of cloud `b`. -/
def proj (x : Vec Ideal S4x4096x3 .f32) (v : Vec Ideal S4x4096x32 .f32) (w : Vec Ideal S64x35 .f32) (bias : Vec Ideal S64 .f32) (b : Fin 4) (k : Fin 64) (n : Fin 4096) : EReal :=
  (∑ d : Fin 32, v (ix3 b n d) * w (ix2 k (⟨3 + d, by omega⟩ : Fin 35))) + (∑ d : Fin 3, pts x b n d * w (ix2 k (⟨d, by omega⟩ : Fin 35))) + bias (ix1 k)

/-- Centre `s` of cloud `b`. -/
def centre (x : Vec Ideal S4x4096x3 .f32) (b : Fin 4) (s : Fin 512) : Fin 3 → EReal := pts x b (Fps.far (pts x b) s)

/-- The ball of centre `s` of cloud `b`. -/
def ball (x : Vec Ideal S4x4096x3 .f32) (b : Fin 4) (s : Fin 512) (n : Fin 4096) : Prop := Fps.sqd (centre x b s) (pts x b n) ≤ Fps.rad

/-- The pooled row of centre `s` of cloud `b`. -/
def pooled (x : Vec Ideal S4x4096x3 .f32) (v : Vec Ideal S4x4096x32 .f32) (w : Vec Ideal S64x35 .f32) (bias : Vec Ideal S64 .f32) (b : Fin 4) (s : Fin 512) (k : Fin 64) : EReal :=
  Fps.best (ball x b s) (proj x v w bias b k) - ∑ d : Fin 3, centre x b s d * w (ix2 k (⟨d, by omega⟩ : Fin 35))

/-- The first result as mathematics. -/
def features (c : Dev nD) : Vec Ideal S4x512x64 .f32 := fun y =>
  Fps.norm (pooled (m ((c.tc : Thread nD τ).loc main_arg0)) (m ((c.tc : Thread nD τ).loc main_arg1)) (m ((c.tc : Thread nD τ).loc main_arg2)) (m ((c.tc : Thread nD τ).loc main_arg3)) (y 0) (y 1))
    (fun k => (m ((c.tc : Thread nD τ).loc main_arg4) : Vec Ideal S64 .f32) (ix1 k)) (fun k => (m ((c.tc : Thread nD τ).loc main_arg5) : Vec Ideal S64 .f32) (ix1 k)) (y 2)

theorem norm_congr {x x' g g' h h' : Fin 64 → EReal} (hx : x = x') (hg : g = g') (hh : h = h') (k : Fin 64) :
    Fps.norm x g h k = Fps.norm x' g' h' k := by
  rw [hx, hg, hh]

theorem group_at (c : Dev nD) (t : Fin cfg1.N) (s : Fin 512) (k : Fin 64) :
    groupSpec (blk1 m c 0 t) (blk1 m c 1 t) (blk1 m c 2 t) (blk1 m c 3 t) (blk1 m c 4 t) (blk1 m c 5 t) (blk1 m c 6 t) (blk1 m c 7 t) (blk1 m c 8 t) (ix3 (0 : Fin 1) s k)
      = features m c (ix3 (cl t) s k) := by
  have e0 := fun d n => (blk0_ix m c t d n).trans (U3_v9 m c (cl t) d n)
  have e1 := fun n d => (blk1_ix m c t n d).trans (congrFun (U3_arg0 m c) _)
  have e2 := fun n d => (blk2_ix m c t n d).trans (congrFun (U3_arg1 m c) _)
  have e3 := fun s d => (blk3_ix m c t s d).trans (U3_v2 m c (cl t) s d)
  have e4 := fun d k => (blk4_ix m c t d k).trans (U3_v4 m c d k)
  have e5 := fun d k => (blk5_ix m c t d k).trans (U3_v5 m c d k)
  have e6 := fun k => (blk6_ix m c t k).trans (U3_v6 m c k)
  have e7 := fun k => (blk7_ix m c t k).trans (U3_v7 m c k)
  have e8 := fun k => (blk8_ix m c t k).trans (U3_v8 m c k)
  generalize blk1 m c 0 t = x0 at e0 ⊢
  generalize blk1 m c 1 t = x1 at e1 ⊢
  generalize blk1 m c 2 t = x2 at e2 ⊢
  generalize blk1 m c 3 t = x3 at e3 ⊢
  generalize blk1 m c 4 t = x4 at e4 ⊢
  generalize blk1 m c 5 t = x5 at e5 ⊢
  generalize blk1 m c 6 t = x6 at e6 ⊢
  generalize blk1 m c 7 t = x7 at e7 ⊢
  generalize blk1 m c 8 t = x8 at e8 ⊢
  have hb : ballOf x0 x3 s = ball (m ((c.tc : Thread nD τ).loc main_arg0)) (cl t) s := by
    funext n
    exact congrArg₂ (fun p q => Fps.sqd p q ≤ Fps.rad) (funext fun d => e3 s d) (funext fun d => e0 d n)
  have hp : ∀ k, projOf x1 x2 x4 x5 x6 k
      = proj (m ((c.tc : Thread nD τ).loc main_arg0)) (m ((c.tc : Thread nD τ).loc main_arg1)) (m ((c.tc : Thread nD τ).loc main_arg2)) (m ((c.tc : Thread nD τ).loc main_arg3)) (cl t) k := fun k => by
    funext n
    refine congrArg₂ (· + ·) (congrArg₂ (· + ·) (Finset.sum_congr rfl fun d _ => congrArg₂ (· * ·) (e2 n d) (e5 d k)) (Finset.sum_congr rfl fun d _ => congrArg₂ (· * ·) (e1 n d) (e4 d k))) (e6 k)
  refine norm_congr (funext fun k => ?_) (funext e7) (funext e8) k
  show Fps.best (ballOf x0 x3 s) (projOf x1 x2 x4 x5 x6 k) - _ = Fps.best _ _ - _
  rw [hb, hp]
  exact congrArg₂ (· - ·) rfl (Finset.sum_congr rfl fun d _ => congrArg₂ (· * ·) (e3 s d) (e4 d k))

variable (hchk : Chk Ideal)

theorem flushed1 (c : Dev nD) (t : Fin cfg1.N) :
    (dat1 hchk m c).flushed 9 t = ((cfg1.win 9).blk t).view.read (Elt Ideal) (features m c) := by
  funext j
  have hj : j = (ix3 (0 : Fin 1) (j 1 : Fin 512) (j 2 : Fin 64) : S1x512x64.Idx) := by
    refine (eq_ix3 j).trans ?_
    congr 1
    exact Subsingleton.elim (α := Fin 1) _ _
  have he : ((cfg1.win 9).blk t).view.emb j = (ix3 (cl t) (j 1 : Fin 512) (j 2 : Fin 64) : S4x512x64.Idx) :=
    (congrArg (((cfg1.win 9).blk t).view.emb) hj).trans (emb9 t (j 1) (j 2))
  show groupOut hchk (blk1 m c 0 t) (blk1 m c 1 t) (blk1 m c 2 t) (blk1 m c 3 t) (blk1 m c 4 t) (blk1 m c 5 t) (blk1 m c 6 t) (blk1 m c 7 t) (blk1 m c 8 t) j
    = features m c (((cfg1.win 9).blk t).view.emb j)
  exact (groupOut_value _ _ _ _ _ _ _ _ _ hchk j).trans ((congrArg (groupSpec _ _ _ _ _ _ _ _ _) hj).trans ((group_at m c t (j 1) (j 2)).trans (congrArg (features m c) he).symm))

theorem cover1 (y : S4x512x64.Idx) : ∃ t : Fin cfg1.N, (cfg1.win 9).flush t = true ∧ y ∈ ((cfg1.win 9).blk t).view.set := by
  have ht : (y 0 : ℕ) < cfg1.N := lt_of_lt_of_eq (y 0).isLt N_1.symm
  refine ⟨⟨y 0, ht⟩, flush1_9 _, ?_⟩
  have h : ((cfg1.win 9).blk ⟨y 0, ht⟩).view.emb (ix3 (0 : Fin 1) (y 1 : Fin 512) (y 2 : Fin 64) : S1x512x64.Idx) = y :=
    (emb9 ⟨y 0, ht⟩ (y 1) (y 2)).trans (eq_ix3 y).symm
  have hm := ((cfg1.win 9).blk ⟨y 0, ht⟩).view.emb_mem_set (ix3 (0 : Fin 1) (y 1 : Fin 512) (y 2 : Fin 64) : S1x512x64.Idx)
  exact Eq.mp (congrArg (· ∈ ((cfg1.win 9).blk ⟨y 0, ht⟩).view.set) h) hm

/-- The kernel's first result. -/
theorem U4_v10 (c : Dev nD) : U4 hchk m c main_v10 = features m c :=
  (Pipeline.afterRegion_arr (dat1 hchk m c) _ inj1 9).trans ((dat1 hchk m c).arrAt_eq_of_cover 9 (features m c) (fun t _ => flushed1 m hchk c t) cover1)

end Cert.KernelIdeal.Body
-- ==== Proof.Take.lean ====
module

public import Idealize.ShloMosaic.PureOps.Ideal.Laws
public import Idealize.ShloMosaic.Lib.Pointwise
public import Idealize.ShloMosaic.Lib.ReduceAll
public import proofs.«01_k».proof.Proof.FirstMax

/-! Host operations of the reference read at an index: taking rows of a batch by number, and the first largest element. -/

@[expose] public section
set_option maxRecDepth 16384
noncomputable section

namespace Cert.Fps
open Idealize.ShloMosaic

section Take
variable {α : Type}

/-- Rows of a batch picked by number: `[B, N, C]` at `[B, R, 1]` gives `[B, R, C]`. -/
abbrev alongDims (B N C R : Nat)
    (wf : GatherDims.WF ⟨3, ![B, N, C]⟩ ⟨3, ![B, R, 1]⟩ ⟨3, ![B, R, C]⟩ [2] [1] [0] [1] [0] 2 ![1, 1, C]) :
    GatherDims ⟨3, ![B, N, C]⟩ ⟨3, ![B, R, 1]⟩ ⟨3, ![B, R, C]⟩ where
  offsetDims := [2]
  collapsedSliceDims := [1]
  operandBatchingDims := [0]
  startIndicesBatchingDims := [0]
  startIndexMap := [1]
  indexVectorDim := 2
  sliceSizes := ![1, 1, C]
  wf := wf

/-- Entry `(b, r, k)` is the operand's at the row named, read signed and held to the rows there are. -/
theorem gather_along {B N C R w : Nat} (hN : 0 < N)
    (wf : GatherDims.WF ⟨3, ![B, N, C]⟩ ⟨3, ![B, R, 1]⟩ ⟨3, ![B, R, C]⟩ [2] [1] [0] [1] [0] 2 ![1, 1, C])
    (x : (⟨3, ![B, N, C]⟩ : Shape).Idx → α) (idx : IVec ⟨3, ![B, R, 1]⟩ w) (b : Fin B) (r : Fin R) (k : Fin C) :
    Host.gather (alongDims B N C R wf) x idx (ix3 b r k)
      = x (ix3 b ⟨min (idx (ix3 b r (0 : Fin 1))).toInt.toNat (N - 1), by omega⟩ k) := by
  unfold Host.gather
  congr 1
  funext a
  refine Fin.ext ?_
  show (alongDims B N C R wf).start (ix3 b r k) idx a + (alongDims B N C R wf).batchCoord (ix3 b r k) a
      + (alongDims B N C R wf).offCoord (ix3 b r k) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).2 (List.mem_singleton.mpr rfl))]
    unfold GatherDims.start
    rw [dif_neg (show (0 : Fin 3) ∉ (alongDims B N C R wf).startIndexMap from by show (0 : Fin 3) ∉ [1]; simp)]
    simp only [Nat.add_zero, Nat.zero_add]
    rfl
  · rw [GatherDims.batchCoord_eq_zero _ _ _ (show (1 : Fin 3) ∉ [0] by decide),
      GatherDims.offCoord_eq_zero _ _ _ (fun h => ((GatherDims.mem_sKept _ _).mp h).1 (List.mem_singleton.mpr rfl))]
    unfold GatherDims.start
    rw [dif_pos (show (1 : Fin 3) ∈ (alongDims B N C R wf).startIndexMap from List.mem_singleton.mpr rfl)]
    simp only [Nat.add_zero]
    have hsi : (alongDims B N C R wf).siIdx (ix3 b r k) ⟨List.idxOf (1 : Fin 3) (alongDims B N C R wf).startIndexMap,
        List.idxOf_lt_length_iff.2 (List.mem_singleton.mpr rfl)⟩ = ix3 b r (0 : Fin 1) := by
      funext c; refine Fin.ext ?_
      match c with
      | ⟨0, _⟩ => rfl
      | ⟨1, _⟩ => rfl
      | ⟨2, _⟩ => rfl
    rw [hsi]
    rfl
  · rw [GatherDims.batchCoord_eq_zero _ _ _ (show (2 : Fin 3) ∉ [0] by decide)]
    unfold GatherDims.start
    rw [dif_neg (show (2 : Fin 3) ∉ (alongDims B N C R wf).startIndexMap from by show (2 : Fin 3) ∉ [1]; simp)]
    simp only [Nat.zero_add]
    rfl
end Take

/-- A left fold of an operation that picks one of its two operands. -/
theorem foldl_picks {α : Type} (R : α → α → Prop) (hrefl : ∀ a, R a a) (htrans : ∀ a b c, R a b → R b c → R a c) (op : α → α → α)
    (hpick : ∀ a b, op a b = a ∨ op a b = b) (hR : ∀ a b, R (op a b) a ∧ R (op a b) b) :
    ∀ (l : List α) (b : α), R (l.foldl op b) b ∧ (∀ i ∈ l, R (l.foldl op b) i) ∧ (l.foldl op b = b ∨ l.foldl op b ∈ l)
  | [], b => ⟨hrefl b, by simp, Or.inl rfl⟩
  | a :: l, b => by
    obtain ⟨h1, h2, h3⟩ := foldl_picks R hrefl htrans op hpick hR l (op b a)
    rw [List.foldl_cons]
    refine ⟨htrans _ _ _ h1 (hR b a).1, fun i hi => ?_, ?_⟩
    · rcases List.mem_cons.mp hi with rfl | hi
      · exact htrans _ _ _ h1 (hR b i).2
      · exact h2 i hi
    · rcases h3 with e | e
      · rcases hpick b a with e' | e'
        · exact Or.inl (e.trans e')
        · exact Or.inr (by rw [e, e']; exact List.mem_cons_self ..)
      · exact Or.inr (List.mem_cons_of_mem _ e)

/-- The words of small numbers. -/
theorem toInt_ofNat (n : ℕ) (h : n ≤ 4096) : (BitVec.ofNat 32 n).toInt = n := by
  rw [BitVec.toInt_eq_toNat_cond, BitVec.toNat_ofNat, Nat.mod_eq_of_lt (by omega), if_pos (by omega)]

/-- The one of two (value, number) pairs with the greater value, of equal values the lesser number. -/
def better (a b : EReal × BitVec 32) : EReal × BitVec 32 := if b.1 < a.1 ∨ (a.1 = b.1 ∧ a.2.toInt < b.2.toInt) then a else b

/-- `a` is no worse than `b`. -/
def NoWorse (a b : EReal × BitVec 32) : Prop := b.1 < a.1 ∨ (a.1 = b.1 ∧ a.2.toInt ≤ b.2.toInt)

theorem better_noWorse (a b : EReal × BitVec 32) : NoWorse (better a b) a ∧ NoWorse (better a b) b := by
  unfold better NoWorse
  split
  · rename_i h
    refine ⟨Or.inr ⟨rfl, le_refl _⟩, ?_⟩
    rcases h with h | h
    · exact Or.inl h
    · exact Or.inr ⟨h.1, h.2.le⟩
  · rename_i h
    push Not at h
    refine ⟨?_, Or.inr ⟨rfl, le_refl _⟩⟩
    rcases lt_or_eq_of_le h.1 with h' | h'
    · exact Or.inl h'
    · exact Or.inr ⟨h'.symm, h.2 h'⟩

theorem noWorse_trans (a b c : EReal × BitVec 32) : NoWorse a b → NoWorse b c → NoWorse a c := by
  rintro (h | ⟨h, h'⟩) (k | ⟨k, k'⟩)
  · exact Or.inl (k.trans h)
  · exact Or.inl (k ▸ h)
  · exact Or.inl (h ▸ k)
  · exact Or.inr ⟨h.trans k, h'.trans k'⟩

/-- The best of the pairs (value, number) of 4096 values is the first largest. -/
theorem foldl_better (f : Fin 4096 → EReal) (l : List (EReal × BitVec 32)) (hl : ∀ p, p ∈ l ↔ ∃ n : Fin 4096, p = (f n, BitVec.ofNat 32 n)) :
    (l.foldl better (⊥, 0#32)).2 = BitVec.ofNat 32 (firstMax f : ℕ) := by
  obtain ⟨-, h2, h3⟩ := foldl_picks NoWorse (fun _ => Or.inr ⟨rfl, le_refl _⟩) noWorse_trans better
    (fun a b => by unfold better; split <;> simp) better_noWorse l (⊥, 0#32)
  have hall : ∀ n : Fin 4096, NoWorse (l.foldl better (⊥, 0#32)) (f n, BitVec.ofNat 32 n) := fun n => h2 _ ((hl _).2 ⟨n, rfl⟩)
  rcases h3 with e | e
  · rw [e] at hall ⊢
    have hb : ∀ n, f n = ⊥ := fun n => by
      rcases hall n with h | h
      · exact absurd h not_lt_bot
      · exact h.1.symm
    rw [firstMax_eq (i := 0) (fun j => ⟨by rw [hb, hb], fun _ => Fin.zero_le _⟩)]
    rfl
  · obtain ⟨n, hn⟩ := (hl _).1 e
    rw [hn] at hall ⊢
    rw [firstMax_eq (i := n) (fun j => ?_)]
    have hj := j.isLt
    have hn' := n.isLt
    rcases hall j with h | h
    · exact ⟨le_of_lt h, fun e => absurd h (by rw [e]; exact lt_irrefl _)⟩
    · refine ⟨le_of_eq h.1.symm, fun _ => ?_⟩
      have := h.2
      simp only at this
      rw [toInt_ofNat _ (by omega), toInt_ofNat _ (by omega)] at this
      rw [Fin.le_def]; omega

section TakeRows
variable {R C : ℕ}

/-- The scalar shape, and shapes of row numbers, batches and results. -/
abbrev U0 : Shape := ⟨0, ![]⟩
abbrev Num (R : ℕ) : Shape := ⟨3, ![4, R, 1]⟩
abbrev Rows (R C : ℕ) : Shape := ⟨3, ![4, R, C]⟩

/-- Row numbers below zero count from the end. -/
def wrapped (hn : U0.BroadcastsInDim (Num R) ![]) (i : IVec (Num R) 32) : IVec (Num R) 32 :=
  select (cmpi .slt i (broadcastInDim (Num R) ![] hn (constantI U0 32 0#32)))
    (addi i (broadcastInDim (Num R) ![] hn (constantI U0 32 4096#32))) i

/-- Rows of a batch taken by number: numbers below zero count from the end, a number out of range gives the fill value. -/
def takeRows (wf : GatherDims.WF ⟨3, ![4, 4096, C]⟩ (Num R) (Rows R C) [2] [1] [0] [1] [0] 2 ![1, 1, C])
    (hn : U0.BroadcastsInDim (Num R) ![]) (h1 : Shape.BroadcastsInDim ⟨1, ![1]⟩ ⟨3, ![1, 1, 1]⟩ ![2])
    (h2 : Shape.BroadcastsInDim ⟨3, ![1, 1, 1]⟩ (Num R) ![0, 1, 2]) (hr : (Num R).ReducesTo [2] ⟨2, ![4, R]⟩) (hu : 0 < U0.numel)
    (h3 : Shape.BroadcastsInDim ⟨2, ![4, R]⟩ (Rows R C) ![0, 1]) (h4 : U0.BroadcastsInDim (Rows R C) ![])
    (x : FVec Ideal ⟨3, ![4, 4096, C]⟩ .f32) (i : IVec (Num R) 32) : FVec Ideal (Rows R C) .f32 :=
  select (broadcastInDim (Rows R C) ![0, 1] h3 (Host.reduce IntOp.andi
      (andi (cmpi .sge (wrapped hn i) (broadcastInDim (Num R) ![] hn (constantI U0 32 0#32)))
        (cmpi .sle (wrapped hn i) (broadcastInDim (Num R) ![0, 1, 2] h2 (broadcastInDim ⟨3, ![1, 1, 1]⟩ ![2] h1 (constantI ⟨1, ![1]⟩ 32 4095#32)))))
      (constantI U0 1 1#1) hr hu))
    (Host.gather (alongDims 4 4096 C R wf) x (wrapped hn i)) (broadcastInDim (Rows R C) ![] h4 (constant U0 .f32 0x7FC00000#32))

/-- The word of a row number. -/
theorem word_facts (n : ℕ) (h : n < 4096) : Scalar.select (IntOp.cmpi .slt (BitVec.ofNat 32 n) 0#32) (IntOp.addi (BitVec.ofNat 32 n) 4096#32) (BitVec.ofNat 32 n)
      = BitVec.ofNat 32 n
    ∧ IntOp.andi (IntOp.cmpi .sge (BitVec.ofNat 32 n) 0#32) (IntOp.cmpi .sle (BitVec.ofNat 32 n) 4095#32) = 1#1 := by
  have e := toInt_ofNat n (by omega)
  have a1 : (BitVec.ofNat 32 n).slt 0#32 = false := by
    rw [Bool.eq_false_iff, ne_eq, BitVec.slt_iff_toInt_lt, e]; simp
  have a2 : (0#32).sle (BitVec.ofNat 32 n) = true := by
    rw [BitVec.sle_iff_toInt_le, e]; simp
  have a3 : (BitVec.ofNat 32 n).sle 4095#32 = true := by
    rw [BitVec.sle_iff_toInt_le, e, show (4095#32).toInt = 4095 from rfl]; omega
  constructor
  · show Scalar.select (BitVec.ofBool ((BitVec.ofNat 32 n).slt 0#32)) _ _ = _
    rw [a1]; rfl
  · show IntOp.andi (BitVec.ofBool ((0#32).sle (BitVec.ofNat 32 n))) (BitVec.ofBool ((BitVec.ofNat 32 n).sle 4095#32)) = _
    rw [a2, a3]; rfl

/-- At numbers in range it takes the rows named. -/
theorem takeRows_apply (wf hn h1 h2 hr hu h3 h4) (x : FVec Ideal ⟨3, ![4, 4096, C]⟩ .f32) (i : IVec (Num R) 32) (n : Fin 4 → Fin R → Fin 4096)
    (hi : ∀ b r, i (ix3 b r (0 : Fin 1)) = BitVec.ofNat 32 (n b r : ℕ)) (b : Fin 4) (r : Fin R) (k : Fin C) :
    takeRows wf hn h1 h2 hr hu h3 h4 x i (ix3 b r k) = x (ix3 b (n b r) k) := by
  have hall : ∀ z : (Num R).Idx, ∃ b r, z = ix3 b r (0 : Fin 1) := fun z =>
    ⟨z 0, z 1, (eq_ix3 z).trans (congrArg (ix3 (z 0 : Fin 4) (z 1 : Fin R)) (Subsingleton.elim (α := Fin 1) _ _))⟩
  have hw : wrapped hn i = i := by
    funext z
    obtain ⟨b, r, rfl⟩ := hall z
    show Scalar.select (IntOp.cmpi .slt (i (ix3 b r (0 : Fin 1))) 0#32) (IntOp.addi (i (ix3 b r (0 : Fin 1))) 4096#32) (i (ix3 b r (0 : Fin 1))) = _
    rw [hi]
    exact (word_facts _ (n b r).isLt).1
  unfold takeRows
  rw [hw]
  show Scalar.select (Host.reduce IntOp.andi _ _ hr hu _) _ _ = _
  rw [Host.reduce_andi_one _ _ hr hu _ rfl]
  · show Host.gather (alongDims 4 4096 C R wf) x i (ix3 b r k) = _
    rw [gather_along (by decide)]
    refine congrArg (fun q => x (ix3 b q k)) (Fin.ext ?_)
    show min (i (ix3 b r (0 : Fin 1))).toInt.toNat 4095 = (n b r : ℕ)
    have := (n b r).isLt
    rw [hi, toInt_ofNat _ (by omega)]
    simp only [Int.toNat_natCast]
    omega
  · intro z
    obtain ⟨b, r, rfl⟩ := hall z
    show IntOp.andi (IntOp.cmpi .sge (i (ix3 b r (0 : Fin 1))) 0#32) (IntOp.cmpi .sle (i (ix3 b r (0 : Fin 1))) 4095#32) = 1#1
    rw [hi]
    exact (word_facts _ (n b r).isLt).2
end TakeRows

end Cert.Fps
-- ==== Proof.RefTrip.lean ====
module

public import proofs.«01_k».proof.Proof.RefFrame
public import proofs.«01_k».proof.Proof.Take

/-! One trip of the reference's farthest-point loop. -/

@[expose] public section
set_option maxRecDepth 16384
noncomputable section

namespace Cert.ReferenceIdeal.Ops
open Cert.ReferenceIdeal Cert.ReferenceIdeal.Gen
open Idealize.ShloMosaic Idealize.ShloMosaic.TcCoe
open Idealize.ShloMosaic.StableHlo
open Cert.Fps (takeRows)

variable (V : Valuation τ sig (Elt Ideal))

/-- The cloud `b` of the batch. -/
def pts (x : FVec Ideal S4x4096x3 .f32) (b : Fin 4) (n : Fin 4096) (d : Fin 3) : EReal := x (ix3 b n d)

theorem trip_v65 : after while0Ops0 V (Proc.devRef .tc main_while0b_v65) = broadcastInDim S4x1x1 ![0] bcast_S4_S4x1x1_0 (V (Proc.devRef .tc main_v3_3)) := by
  after_results

set_option maxRecDepth 100000 in
theorem trip_v66 : after while0Ops0_1 V (Proc.devRef .tc main_while0b_v66)
    = takeRows gather_S4x4096x3_S4x1x1_S4x1x3_2_1_0_0_1_2_113_wf bcast_S_S4x1x1 bcast_S1_S1x1x1_2 bcast_S1x1x1_S4x1x1_0_1_2
      reducesTo_S4x1x1_S4x1_d2 h_S_ bcast_S4x1_S4x1x3_0_1 bcast_S_S4x1x3 (V (Proc.devRef .tc main_v3_0)) (V (Proc.devRef .tc main_while0b_v65)) := by
  after_results
  rfl

/-- The distances lowered by the centres `ce`. -/
def lowered (x : FVec Ideal S4x4096x3 .f32) (d : FVec Ideal S4x4096 .f32) (ce : FVec Ideal S4x1x3 .f32) : FVec Ideal S4x4096 .f32 :=
  minimumf d (Host.reduceAdd (mulf (subf x (broadcastInDim S4x4096x3 ![0, 1, 2] bcast_S4x1x3_S4x4096x3_0_1_2 ce))
    (subf x (broadcastInDim S4x4096x3 ![0, 1, 2] bcast_S4x1x3_S4x4096x3_0_1_2 ce))) (constant S_ .f32 0x00000000#32) reducesTo_S4x4096x3_S4x4096_d2 h_S_)

set_option maxRecDepth 100000 in
theorem trip_v71 : after while0Ops0_2 V (Proc.devRef .tc main_while0b_v71)
    = lowered (V (Proc.devRef .tc main_v3_0)) (V (Proc.devRef .tc main_v3_2)) (V (Proc.devRef .tc main_while0b_v66)) := by
  after_results
  rfl

/-- The first farthest point of each cloud. -/
def farthest (d : FVec Ideal S4x4096 .f32) : IVec S4 32 := fun j =>
  (Host.argReduce reducer_argmax_f32_i32 d (iotaInDim S4x4096 32 1) (constant S_ .f32 0xFF800000#32) (constantI S_ 32 0#32) reducesTo_S4x4096_S4_d1 h_S_ j).2

set_option maxRecDepth 100000 in
theorem trip_v72 : after while0Ops0_3 V (Proc.devRef .tc main_while0b_v72) = farthest (V (Proc.devRef .tc main_while0b_v71)) := by
  after_results
  rfl

/-- The row of chosen points written into the list of them. -/
def noted (x : IVec S512x4 32) (f : IVec S4 32) (ctr : IVec S_ 32) : IVec S512x4 32 :=
  Host.dynamicUpdateSlice x (broadcastInDim S1x4 ![1] bcast_S4_S1x4_1 f)
    (fun k => (((![ctr, constantI S_ 32 0#32] : Fin 2 → IVec S_ 32)) k (Shape.Idx.first h_S_)).toInt) updateFits_S512x4_S1x4

set_option maxRecDepth 100000 in
theorem trip_v73 : after while0Ops0_4 V (Proc.devRef .tc main_while0b_v73)
    = noted (V (Proc.devRef .tc main_v3_4)) (V (Proc.devRef .tc main_v3_3)) (V (Proc.devRef .tc main_v3_1)) := by
  after_results
  unfold noted
  refine congrArg (fun i : Fin 2 → ℤ => Host.dynamicUpdateSlice (V (Proc.devRef .tc main_v3_4) : IVec S512x4 32) (broadcastInDim S1x4 ![1] bcast_S4_S1x4_1 (V (Proc.devRef .tc main_v3_3) : IVec S4 32)) i updateFits_S512x4_S1x4) (funext fun k => ?_)
  fin_cases k
  · after_results
    rfl
  · after_results
    rfl

theorem trip_out_v3_2 : after while0Ops0_5 V (Proc.devRef .tc main_v3_2) = V (Proc.devRef .tc main_while0b_v71) := by
  after_results
  rfl
theorem trip_out_v3_3 : after while0Ops0_5 V (Proc.devRef .tc main_v3_3) = V (Proc.devRef .tc main_while0b_v72) := by
  after_results
  rfl
theorem trip_out_v3_4 : after while0Ops0_5 V (Proc.devRef .tc main_v3_4) = V (Proc.devRef .tc main_while0b_v73) := by
  after_results
  rfl

/-- A point's distance after one more centre. -/
theorem lowered_ix (x : FVec Ideal S4x4096x3 .f32) (d : FVec Ideal S4x4096 .f32) (ce : FVec Ideal S4x1x3 .f32) (b : Fin 4) (n : Fin 4096) (c : Fin 3 → EReal)
    (hc : ∀ k, ce (ix3 b (0 : Fin 1) k) = c k) :
    lowered x d ce (ix2 b n) = min (d (ix2 b n)) (Fps.sqd (pts x b n) c) := by
  pointwise [lowered]
  rw [Fin.sum_univ_three]
  simp only [hc]
  rfl

/-- A set bit stays set. -/
theorem one_or (q : Bool) : 1#1 ||| BitVec.ofBool q = 1#1 := by cases q <;> rfl

/-- The argmax's reducer keeps the larger value, of equals the one of the smaller index. -/
theorem reducer_better : reducer_argmax_f32_i32 (F := Ideal) = Fps.better := by
  funext a b
  obtain ⟨a1, a2⟩ := a
  obtain ⟨b1, b2⟩ := b
  unfold reducer_argmax_f32_i32 Fps.better
  change EReal at a1 b1
  by_cases h1 : b1 < a1
  · simp [h1, FloatOps.cmpf, Ideal.cmp, Scalar.select, IntOp.ori, IntOp.andi, IntOp.cmpi, one_or]
  · by_cases h2 : a1 = b1
    · subst h2
      by_cases h3 : a2.toInt < b2.toInt
      · simp [h1, h3, FloatOps.cmpf, Ideal.cmp, Scalar.select, IntOp.ori, IntOp.andi, IntOp.cmpi, BitVec.slt]
      · simp [h1, h3, FloatOps.cmpf, Ideal.cmp, Scalar.select, IntOp.ori, IntOp.andi, IntOp.cmpi, BitVec.slt]
    · simp [h1, h2, FloatOps.cmpf, Ideal.cmp, Scalar.select, IntOp.ori, IntOp.andi, IntOp.cmpi]

/-- The points that drop to cloud `b`. -/
theorem drop_row (b b' : Fin 4) (n : Fin 4096) :
    (reducesTo_S4x4096_S4_d1 : S4x4096.ReducesTo [1] S4).drop (ix2 b' n) = ix1 b ↔ b' = b := by
  rw [funext_iff]
  have h0 := Shape.ReducesTo.drop_apply_val_of_eq (reducesTo_S4x4096_S4_d1 : S4x4096.ReducesTo [1] S4) (ix2 b' n) 0 0 (by decide) (by decide)
  constructor
  · intro h
    exact Fin.ext (h0.symm.trans (congrArg Fin.val (h 0)))
  · rintro rfl a
    obtain rfl : a = 0 := Subsingleton.elim _ _
    exact Fin.ext h0

/-- What an argmax over the points of a cloud sees. -/
theorem mem_fiber {α β : Type} (x : S4x4096.Idx → α) (y : S4x4096.Idx → β) (b : Fin 4) (p : α × β) :
    p ∈ Host.argReduceFiber x y (reducesTo_S4x4096_S4_d1 : S4x4096.ReducesTo [1] S4) (ix1 b) ↔ ∃ n : Fin 4096, p = (x (ix2 b n), y (ix2 b n)) := by
  unfold Host.argReduceFiber
  simp only [List.mem_map, List.mem_filter, decide_eq_true_eq]
  constructor
  · rintro ⟨a, ⟨-, ha⟩, rfl⟩
    obtain ⟨b', n, e⟩ : ∃ (b' : Fin 4) (n : Fin 4096), S4x4096.rowMajor.symm a = ix2 b' n := ⟨_, _, eq_ix2 _⟩
    rw [e] at ha ⊢
    obtain rfl := (drop_row b b' n).1 ha
    exact ⟨n, rfl⟩
  · rintro ⟨n, rfl⟩
    refine ⟨S4x4096.rowMajor (ix2 b n), ⟨List.mem_finRange _, ?_⟩, ?_⟩
    · rw [Equiv.symm_apply_apply]
      exact (drop_row b b n).2 rfl
    · rw [Equiv.symm_apply_apply]

/-- The word of minus infinity. -/
theorem bot_word : Ideal.ofBits .f32 0xFF800000#32 = (⊥ : EReal) := by simp [Ideal.ofBits, Ideal.ieee]

/-- The reference's argmax is the first farthest point. -/
theorem farthest_ix (d : FVec Ideal S4x4096 .f32) (b : Fin 4) :
    farthest d (ix1 b) = BitVec.ofNat 32 (Fps.firstMax fun n => d (ix2 b n) : ℕ) := by
  unfold farthest
  rw [Ideal.argReduce_eq_reduce2, Host.reduce2_eq_foldl_fiber, reducer_better]
  have hm := mem_fiber d (iotaInDim S4x4096 32 1) b
  generalize Host.argReduceFiber d (iotaInDim S4x4096 32 1) (reducesTo_S4x4096_S4_d1 : S4x4096.ReducesTo [1] S4) (ix1 b) = l at hm ⊢
  have e : ((constant S_ .f32 0xFF800000#32 (F := Ideal)) (Shape.Idx.first h_S_), constantI S_ 32 0#32 (Shape.Idx.first h_S_)) = ((⊥ : EReal), 0#32) :=
    Prod.ext bot_word rfl
  rw [e]
  exact Fps.foldl_better (fun n => d (ix2 b n)) l hm

/-- The list of chosen points after one more of them. -/
theorem noted_ix (x : IVec S512x4 32) (f : IVec S4 32) (ctr : IVec S_ 32) (k : ℕ) (hk : k < 512) (hc : ∀ i, ctr i = BitVec.ofNat 32 k) (s : Fin 512) (b : Fin 4) :
    noted x f ctr (ix2 s b) = if (s : ℕ) = k then f (ix1 b) else x (ix2 s b) := by
  have e0 : Host.clampedStart S512x4 S1x4 rfl (fun k => (![ctr, constantI S_ 32 0#32] k (Shape.Idx.first h_S_)).toInt) 0 = k :=
    Host.clampedStart_of_le _ _ _ _ (by
      show (ctr (Shape.Idx.first h_S_)).toInt = k
      rw [hc, Fps.toInt_ofNat k (by omega)]) (by show k + 1 ≤ 512; omega)
  have e1 : Host.clampedStart S512x4 S1x4 rfl (fun k => (![ctr, constantI S_ 32 0#32] k (Shape.Idx.first h_S_)).toInt) 1 = 0 :=
    Host.clampedStart_of_le _ _ _ _ (by rfl) (by show 0 + 4 ≤ 4; omega)
  pointwise [noted]
  simp only [e0, e1, Nat.sub_zero, Nat.zero_le, and_true]
  have hs : (k ≤ (s : ℕ) ∧ (s : ℕ) < k + 1) ↔ (s : ℕ) = k := by omega
  simp only [hs]
  rfl
end Cert.ReferenceIdeal.Ops
-- ==== Proof.RefFps.lean ====
module

public import proofs.«01_k».proof.Proof.RefTrip

/-! The reference's farthest-point loop: after `k` trips it holds the distances and the chosen point of `k` steps of farthest
point sampling and the first `k` points chosen; the centres it takes after the loop are those points. -/

@[expose] public section
set_option maxRecDepth 16384
noncomputable section

namespace Cert.ReferenceIdeal.Ops
open Cert.ReferenceIdeal Cert.ReferenceIdeal.Gen
open Idealize.ShloMosaic Idealize.ShloMosaic.TcCoe
open Idealize.ShloMosaic.StableHlo
open Cert.Fps (takeRows)

/-- What the loop holds after `k` trips, over the points `x`. -/
structure Sampled (V : Valuation τ sig (Elt Ideal)) (x : FVec Ideal S4x4096x3 .f32) (k : ℕ) : Prop where
  cloud : V (Proc.devRef .tc main_v3_0) = x
  counter : V (Proc.devRef .tc main_v3_1) = fun _ => BitVec.ofNat 32 k
  dist : ∀ b n, (V (Proc.devRef .tc main_v3_2) : FVec Ideal S4x4096 .f32) (ix2 b n) = (Fps.state (pts x b) k).1 n
  point : ∀ b, (V (Proc.devRef .tc main_v3_3) : IVec S4 32) (ix1 b) = BitVec.ofNat 32 (Fps.far (pts x b) k : ℕ)
  chosen : ∀ (s : Fin 512) b, (s : ℕ) < k → (V (Proc.devRef .tc main_v3_4) : IVec S512x4 32) (ix2 s b) = BitVec.ofNat 32 (Fps.far (pts x b) s : ℕ)

/-- A list's own frame, for a buffer of the loop. -/
theorem keep {ops : List (HloOp τ sig (Elt Ideal))} {W : List (Ref sig .tc)} (hW : ops.Forall fun op => op.writes ⊆ (W.map (Proc.devRef (τ := τ) .tc)).toFinset)
    (V : Valuation τ sig (Elt Ideal)) (r : Ref sig .tc) (h : r ∉ W) : after ops V (Proc.devRef .tc r) = V (Proc.devRef .tc r) :=
  after_of_writes_sub ops V hW h

variable (V : Valuation τ sig (Elt Ideal))

/-- The trip's valuation after each of its lists. -/
abbrev W0 := after condOps V
abbrev W1 := after while0Ops0 (W0 V)
abbrev W2 := after while0Ops0_1 (W1 V)
abbrev W3 := after while0Ops0_2 (W2 V)
abbrev W4 := after while0Ops0_3 (W3 V)
abbrev W5 := after while0Ops0_4 (W4 V)

/-- The loop's own variables stay as they are until the trip's last list. -/
theorem keeps5 (r : Ref sig .tc) (h0 : r ∉ condOps_W) (h1 : r ∉ while0Ops0_W) (h2 : r ∉ while0Ops0_1_W) (h3 : r ∉ while0Ops0_2_W) (h4 : r ∉ while0Ops0_3_W)
    (h5 : r ∉ while0Ops0_4_W) : W1 V (Proc.devRef .tc r) = V (Proc.devRef .tc r) ∧ W2 V (Proc.devRef .tc r) = V (Proc.devRef .tc r)
      ∧ W4 V (Proc.devRef .tc r) = V (Proc.devRef .tc r) := by
  have e0 := keep condOps_writes V r h0
  have e1 := (keep while0Ops0_writes (W0 V) r h1).trans e0
  have e2 := (keep while0Ops0_1_writes (W1 V) r h2).trans e1
  have e3 := (keep while0Ops0_2_writes (W2 V) r h3).trans e2
  have e4 := (keep while0Ops0_3_writes (W3 V) r h4).trans e3
  exact ⟨e1, e2, e4⟩

/-- The centre a trip takes. -/
theorem centre_ix (x : FVec Ideal S4x4096x3 .f32) (k : ℕ) (h : Sampled V x k) (b : Fin 4) (d : Fin 3) :
    (W2 V (Proc.devRef .tc main_while0b_v66) : FVec Ideal S4x1x3 .f32) (ix3 b (0 : Fin 1) d) = pts x b (Fps.far (pts x b) k) d := by
  unfold W2
  rw [trip_v66, (keeps5 V main_v3_0 (by decide +kernel) (by decide +kernel) (by decide +kernel) (by decide +kernel) (by decide +kernel) (by decide +kernel)).1,
    h.cloud]
  unfold W1
  rw [trip_v65]
  refine (Fps.takeRows_apply (R := 1) (C := 3) _ _ _ _ _ _ _ _ x _ (fun b _ => Fps.far (pts x b) k) (fun b r => ?_) b 0 d)
  rw [← h.point b, ← keep condOps_writes V main_v3_3 (by decide +kernel)]
  pointwise

/-- A trip takes the next step. -/
theorem sampled_step (x : FVec Ideal S4x4096x3 .f32) (k : ℕ) (hk : k < 512) (h : Sampled V x k)
    (hcnt : afterL bodyI (after condOps V) (Proc.devRef .tc main_v3_1) = fun _ => BitVec.ofNat 32 (k + 1)) :
    Sampled (afterL bodyI (after condOps V)) x (k + 1) := by
  have k0 := keeps5 V main_v3_0 (by decide +kernel) (by decide +kernel) (by decide +kernel) (by decide +kernel) (by decide +kernel) (by decide +kernel)
  have k1 := keeps5 V main_v3_1 (by decide +kernel) (by decide +kernel) (by decide +kernel) (by decide +kernel) (by decide +kernel) (by decide +kernel)
  have k2 := keeps5 V main_v3_2 (by decide +kernel) (by decide +kernel) (by decide +kernel) (by decide +kernel) (by decide +kernel) (by decide +kernel)
  have k3 := keeps5 V main_v3_3 (by decide +kernel) (by decide +kernel) (by decide +kernel) (by decide +kernel) (by decide +kernel) (by decide +kernel)
  have k4 := keeps5 V main_v3_4 (by decide +kernel) (by decide +kernel) (by decide +kernel) (by decide +kernel) (by decide +kernel) (by decide +kernel)
  have h71 : ∀ b n, (W3 V (Proc.devRef .tc main_while0b_v71) : FVec Ideal S4x4096 .f32) (ix2 b n) = (Fps.state (pts x b) (k + 1)).1 n := fun b n => by
    unfold W3
    rw [trip_v71, k0.2.1, k2.2.1, h.cloud, lowered_ix _ _ _ b n _ (centre_ix V x k h b), h.dist]
    rfl
  have h72 : ∀ b, (W4 V (Proc.devRef .tc main_while0b_v72) : IVec S4 32) (ix1 b) = BitVec.ofNat 32 (Fps.far (pts x b) (k + 1) : ℕ) := fun b => by
    unfold W4
    rw [trip_v72, farthest_ix]
    simp only [h71]
    rfl
  refine ⟨(trip_keeps V (by decide +kernel)).trans h.cloud, hcnt, fun b n => ?_, fun b => ?_, fun s b hs => ?_⟩
  · simp only [afterL_cons, afterL_nil]
    rw [trip_out_v3_2, keep while0Ops0_4_writes _ main_while0b_v71 (by decide +kernel), keep while0Ops0_3_writes _ main_while0b_v71 (by decide +kernel)]
    exact h71 b n
  · simp only [afterL_cons, afterL_nil]
    rw [trip_out_v3_3, keep while0Ops0_4_writes _ main_while0b_v72 (by decide +kernel)]
    exact h72 b
  · simp only [afterL_cons, afterL_nil]
    rw [trip_out_v3_4, trip_v73]
    show noted (W4 V (Proc.devRef .tc main_v3_4)) (W4 V (Proc.devRef .tc main_v3_3)) (W4 V (Proc.devRef .tc main_v3_1)) (ix2 s b) = _
    rw [k4.2.2, k3.2.2, k1.2.2, h.counter]
    refine (noted_ix _ _ _ k hk (fun _ => rfl) s b).trans ?_
    split
    · rename_i e
      rw [h.point, e]
    · exact h.chosen s b (by omega)

variable (m : (ℓ : Loc nD τ sig) → Buf (Elt Ideal) ℓ)

/-- The counter after `k` trips. -/
theorem counter_word (k : ℕ) : Scf.iv 0#32 1#32 k = BitVec.ofNat 32 k := by
  unfold Scf.iv
  simp [Nat.mul_one]

/-- The loop starts from step 0. -/
theorem sampled_entry (c : Dev nD) : Sampled (atK m 0 c) (m ((c : Thread nD τ).loc main_arg0)) 0 := by
  refine ⟨?_, (atK_ctr m c 0).trans (funext fun _ => counter_word 0), fun b n => ?_, fun b => ?_, fun s b h => absurd h (Nat.not_lt_zero _)⟩
  · show afterL preI _ _ = _
    simp only [afterL_cons, afterL_nil]
    after_results
    rfl
  · refine congrFun (?_ : (atK m 0 c (Proc.devRef .tc main_v3_2) : FVec Ideal S4x4096 .f32) = fun _ => Ideal.ofBits .f32 0x501502F9#32) (ix2 b n)
    show afterL preI _ _ = _
    simp only [afterL_cons, afterL_nil]
    after_results
    rfl
  · refine congrFun (?_ : (atK m 0 c (Proc.devRef .tc main_v3_3) : IVec S4 32) = fun _ => 0#32) (ix1 b)
    show afterL preI _ _ = _
    simp only [afterL_cons, afterL_nil]
    after_results
    rfl

/-- The loop samples. -/
theorem sampled (c : Dev nD) : ∀ k, k ≤ 512 → Sampled (atK m k c) (m ((c : Thread nD τ).loc main_arg0)) k
  | 0, _ => sampled_entry m c
  | k + 1, hk => sampled_step (atK m k c) _ k hk (sampled c k (by omega)) ((atK_ctr m c (k + 1)).trans (funext fun _ => counter_word (k + 1)))

/-- The numbers of the chosen points, a column per cloud. -/
theorem post_v5 (V : Valuation τ sig (Elt Ideal)) (b : Fin 4) (s : Fin 512) :
    (after hostOps0_1 V (Proc.devRef .tc main_v5) : IVec S4x512x1 32) (ix3 b s (0 : Fin 1)) = (V (Proc.devRef .tc main_v3_4) : IVec S512x4 32) (ix2 s b) := by
  after_results
  pointwise

set_option maxRecDepth 100000 in
theorem post_v6 (V : Valuation τ sig (Elt Ideal)) : after hostOps0_2 V (Proc.devRef .tc main_v6)
    = takeRows gather_S4x4096x3_S4x512x1_S4x512x3_2_1_0_0_1_2_113_wf bcast_S_S4x512x1 bcast_S1_S1x1x1_2 bcast_S1x1x1_S4x512x1_0_1_2
      reducesTo_S4x512x1_S4x512_d2 h_S_ bcast_S4x512_S4x512x3_0_1 bcast_S_S4x512x3 (V (Proc.devRef .tc main_arg0)) (V (Proc.devRef .tc main_v5)) := by
  after_results
  rfl

/-- After the lists of the centres. -/
abbrev P2 (c : Dev nD) := after hostOps0_2 (after hostOps0_1 (loopEnd m c))

/-- The centres are the points chosen. -/
theorem P2_v6 (c : Dev nD) (b : Fin 4) (s : Fin 512) (d : Fin 3) :
    (P2 m c (Proc.devRef .tc main_v6) : FVec Ideal S4x512x3 .f32) (ix3 b s d)
      = pts (m ((c : Thread nD τ).loc main_arg0)) b (Fps.far (pts (m ((c : Thread nD τ).loc main_arg0)) b) s) d := by
  unfold P2
  have e : loopEnd m c (Proc.devRef .tc main_arg0) = m ((c : Thread nD τ).loc main_arg0) :=
    (keep condOps_writes _ main_arg0 (by decide +kernel)).trans (loop_keeps m c (by decide +kernel) (by decide +kernel) 512)
  rw [post_v6, keep hostOps0_1_writes _ main_arg0 (by decide +kernel), e]
  refine Fps.takeRows_apply (R := 512) (C := 3) _ _ _ _ _ _ _ _ _ _ (fun b s => Fps.far (pts (m ((c : Thread nD τ).loc main_arg0)) b) s) (fun b s => ?_) b s d
  rw [post_v5]
  unfold loopEnd
  rw [keep condOps_writes _ main_v3_4 (by decide +kernel)]
  exact (sampled m c 512 le_rfl).chosen s b s.isLt

/-- The reference's second result. -/
theorem last_v6 (c : Dev nD) (b : Fin 4) (s : Fin 512) (d : Fin 3) :
    (lastContents m c (Proc.devRef .tc main_v6) : FVec Ideal S4x512x3 .f32) (ix3 b s d)
      = pts (m ((c : Thread nD τ).loc main_arg0)) b (Fps.far (pts (m ((c : Thread nD τ).loc main_arg0)) b) s) d := by
  rw [← P2_v6]
  refine congrFun (?_ : (lastContents m c (Proc.devRef .tc main_v6) : FVec Ideal S4x512x3 .f32) = P2 m c (Proc.devRef .tc main_v6)) _
  show afterL postI (loopEnd m c) _ = _
  simp only [afterL_cons, afterL_nil]
  rw [keep hostOps0_14_writes _ main_v6 (by decide +kernel), keep hostOps0_13_writes _ main_v6 (by decide +kernel), keep hostOps0_12_writes _ main_v6 (by decide +kernel),
    keep hostOps0_11_writes _ main_v6 (by decide +kernel), keep hostOps0_10_writes _ main_v6 (by decide +kernel), keep hostOps0_9_writes _ main_v6 (by decide +kernel),
    keep hostOps0_8_writes _ main_v6 (by decide +kernel), keep hostOps0_7_writes _ main_v6 (by decide +kernel), keep hostOps0_6_writes _ main_v6 (by decide +kernel),
    keep hostOps0_5_writes _ main_v6 (by decide +kernel), keep hostOps0_4_writes _ main_v6 (by decide +kernel), keep hostOps0_3_writes _ main_v6 (by decide +kernel)]

end Cert.ReferenceIdeal.Ops
-- ==== Proof.BallSort.lean ====
module

public import proofs.«01_k».proof.Proof.GroupMax
public import Idealize.ShloMosaic.Lib.SortFacts

/-! A ball query by sorting. Every point outside the ball gets the number of points as its key, every point inside its own
index; after an ascending sort the first 32 places hold the first 32 points of the ball, and a place left over is filled with
the first of them. So the largest value over the 32 places is the largest over the ball's first 32 points. -/

@[expose] public section
set_option maxRecDepth 16384
noncomputable section

namespace Cert.Fps
open Classical
open Idealize.ShloMosaic

variable (I : Fin 4096 → Prop)

/-- The key of point `n`. -/
def key (n : Fin 4096) : ℕ := if I n then n else 4096

theorem key_le (n : Fin 4096) : key I n ≤ 4096 := by
  unfold key
  split <;> omega

theorem key_in {n : Fin 4096} (h : I n) : key I n = n := if_pos h

theorem in_of_key {n : Fin 4096} (h : key I n < 4096) : I n := by
  by_contra hn
  rw [key, if_neg hn] at h
  omega

/-- The point that an ascending sort of the keys puts at place `j`. -/
def place (j : Fin 4096) : Fin 4096 := sortedFrom (fun k k' => decide (key I k < key I k')) j

theorem place_le {i j : Fin 4096} (h : i ≤ j) : key I (place I i) ≤ key I (place I j) := by
  rcases eq_or_lt_of_le h with rfl | h
  · exact le_rfl
  · have := sortedFrom_noInversion (fun k k' => decide (key I k < key I k')) (fun k k' => decide (key I k < key I k'))
      (fun a b hab => by simp only [decide_eq_true_eq, decide_eq_false_iff_not] at hab ⊢; omega) (fun _ _ hab => hab)
      (fun a b c hab hbc => by simp only [decide_eq_false_iff_not] at hab hbc ⊢; omega) i j h
    simp only [decide_eq_false_iff_not, not_lt] at this
    exact this

/-- A point of the ball stands at the place that counts the points of the ball before it. -/
theorem upto_place (j : Fin 4096) (h : I (place I j)) : upto I (place I j) = (j : ℕ) + 1 := by
  have hs : (Finset.univ.filter fun m => I m ∧ m ≤ place I j) = (Finset.Iic j).image (place I) := by
    ext m
    simp only [Finset.mem_filter, Finset.mem_univ, true_and, Finset.mem_image, Finset.mem_Iic]
    constructor
    · rintro ⟨hm, hle⟩
      obtain ⟨i, rfl⟩ := sortedFrom_surjective (fun k k' => decide (key I k < key I k')) m
      refine ⟨i, ?_, rfl⟩
      by_contra hij
      have h1 := place_le I (not_le.mp hij).le
      rw [key_in I h, key_in I (show I (place I i) from hm)] at h1
      have h2 : place I i = place I j := Fin.ext (Nat.le_antisymm hle h1)
      exact hij (sortedFrom_injective _ h2).le
    · rintro ⟨i, hi, rfl⟩
      have h1 := place_le I hi
      rw [key_in I h] at h1
      have h2 := in_of_key I (lt_of_le_of_lt h1 (place I j).isLt)
      rw [key_in I h2] at h1
      exact ⟨h2, h1⟩
  unfold upto
  rw [Finset.sum_boole, hs, Finset.card_image_of_injective _ (show Function.Injective (place I) from sortedFrom_injective _), Fin.card_Iic]
  rfl

/-- The point at place `j`, or the first one where that is outside the ball. -/
def neighbour (j : Fin 32) : Fin 4096 :=
  if I (place I (j.castLE (by omega))) then place I (j.castLE (by omega)) else place I 0

theorem first_in (h : ∃ n, I n) : I (place I 0) := by
  obtain ⟨n, hn⟩ := h
  obtain ⟨i, rfl⟩ := sortedFrom_surjective (fun k k' => decide (key I k < key I k')) n
  have h1 := place_le I (Fin.zero_le i)
  rw [key_in I (show I (place I i) from hn)] at h1
  exact in_of_key I (lt_of_le_of_lt h1 (place I i).isLt)

theorem neighbour_kept (h : ∃ n, I n) (j : Fin 32) : Kept I (neighbour I j) := by
  unfold neighbour
  split
  · rename_i hj
    refine ⟨hj, ?_⟩
    rw [upto_place I _ hj]
    exact j.isLt
  · refine ⟨first_in I h, ?_⟩
    rw [upto_place I _ (first_in I h)]
    decide

theorem kept_neighbour {n : Fin 4096} (h : Kept I n) : ∃ j, neighbour I j = n := by
  obtain ⟨i, rfl⟩ := sortedFrom_surjective (fun k k' => decide (key I k < key I k')) n
  have h2 : upto I (place I i) ≤ 32 := h.2
  rw [upto_place I i h.1] at h2
  refine ⟨⟨i, h2⟩, ?_⟩
  exact if_pos h.1

/-- The largest value over the 32 places. -/
theorem best_eq (h : ∃ n, I n) (g : Fin 4096 → EReal) (z : EReal) :
    best I g ≤ z ↔ ∀ j, g (neighbour I j) ≤ z := by
  rw [best_le]
  constructor
  · exact fun hk j => hk _ (neighbour_kept I h j)
  · intro hj n hn
    obtain ⟨j, rfl⟩ := kept_neighbour I hn
    exact hj j

end Cert.Fps
-- ==== Proof.RefBall.lean ====
module

public import proofs.«01_k».proof.Proof.RefFps
public import proofs.«01_k».proof.Proof.BallSort

/-! The reference's ball query: the sorted keys of a centre's points, and the 32 neighbours taken from them. -/

@[expose] public section
set_option maxRecDepth 16384
noncomputable section

namespace Cert.ReferenceIdeal.Ops
open Cert.ReferenceIdeal Cert.ReferenceIdeal.Gen
open Idealize.ShloMosaic Idealize.ShloMosaic.TcCoe
open Idealize.ShloMosaic.StableHlo
open Classical

variable (V : Valuation τ sig (Elt Ideal))

/-- Whether a point is outside the ball of a centre. -/
def outside (ce : FVec Ideal S4x512x3 .f32) (x : FVec Ideal S4x4096x3 .f32) : IVec S4x512x4096 1 :=
  cmpf .ogt (Host.reduceAdd
      (mulf (subf (broadcastInDim S4x512x4096x3 ![0, 1, 2, 3] bcast_S4x512x1x3_S4x512x4096x3_0_1_2_3 (broadcastInDim S4x512x1x3 ![0, 1, 3] bcast_S4x512x3_S4x512x1x3_0_1_3 ce))
          (broadcastInDim S4x512x4096x3 ![0, 1, 2, 3] bcast_S4x1x4096x3_S4x512x4096x3_0_1_2_3 (broadcastInDim S4x1x4096x3 ![0, 2, 3] bcast_S4x4096x3_S4x1x4096x3_0_2_3 x)))
        (subf (broadcastInDim S4x512x4096x3 ![0, 1, 2, 3] bcast_S4x512x1x3_S4x512x4096x3_0_1_2_3 (broadcastInDim S4x512x1x3 ![0, 1, 3] bcast_S4x512x3_S4x512x1x3_0_1_3 ce))
          (broadcastInDim S4x512x4096x3 ![0, 1, 2, 3] bcast_S4x1x4096x3_S4x512x4096x3_0_1_2_3 (broadcastInDim S4x1x4096x3 ![0, 2, 3] bcast_S4x4096x3_S4x1x4096x3_0_2_3 x))))
      (constant S_ .f32 0x00000000#32) reducesTo_S4x512x4096x3_S4x512x4096_d3 h_S_)
    (broadcastInDim S4x512x4096 ![] bcast_S_S4x512x4096 (constant (F := Ideal) S_ .f32 0x3D23D70A#32))

set_option maxRecDepth 100000 in
theorem post_v18 : after hostOps0_3 V (Proc.devRef .tc main_v18) = outside (V (Proc.devRef .tc main_v6)) (V (Proc.devRef .tc main_arg0)) := by
  after_results
  rfl

theorem post_v9 : after hostOps0_3 V (Proc.devRef .tc main_v9) = (fun y => BitVec.ofNat 32 (y 2) : IVec S4x512x4096 32) := by
  have h : after hostOps0_3 V (Proc.devRef .tc main_v9) = (broadcastInDim S4x512x4096 ![0, 1, 2] bcast_S1x1x4096_S4x512x4096_0_1_2
      (broadcastInDim S1x1x4096 ![2] bcast_S4096_S1x1x4096_2 (iotaInDim S4096 32 0)) : IVec S4x512x4096 32) := by
    after_results
  refine h.trans (funext fun y => ?_)
  rw [eq_ix3 y]
  pointwise

theorem post_c4 : after hostOps0_3 V (Proc.devRef .tc main_c_4) = (fun _ => 4096#32 : IVec S_ 32) := by
  after_results
  rfl

/-- The keys: a point outside gets the number of points. -/
theorem post_v19 : after hostOps0_4 V (Proc.devRef .tc main_v19)
    = (select (V (Proc.devRef .tc main_v18) : IVec S4x512x4096 1) (broadcastInDim S4x512x4096 ![] bcast_S_S4x512x4096 (V (Proc.devRef .tc main_c_4) : IVec S_ 32))
        (V (Proc.devRef .tc main_v9) : IVec S4x512x4096 32) : IVec S4x512x4096 32) := by
  after_results
  rfl

theorem outside_ix (ce : FVec Ideal S4x512x3 .f32) (x : FVec Ideal S4x4096x3 .f32) (b : Fin 4) (s : Fin 512) (n : Fin 4096) (c : Fin 3 → EReal)
    (hc : ∀ d, ce (ix3 b s d) = c d) :
    outside ce x (ix3 b s n) = BitVec.ofBool (decide (Fps.rad < Fps.sqd c (pts x b n))) := by
  pointwise [outside]
  simp only [hc, Fin.sum_univ_three]
  rfl

/-- The key of a point, as a word. -/
theorem v19_ix (b : Fin 4) (s : Fin 512) (c : Fin 3 → EReal) (hc : ∀ d, (V (Proc.devRef .tc main_v6) : FVec Ideal S4x512x3 .f32) (ix3 b s d) = c d)
    (n : Fin 4096) :
    (after hostOps0_4 (after hostOps0_3 V) (Proc.devRef .tc main_v19) : IVec S4x512x4096 32) (ix3 b s n)
      = BitVec.ofNat 32 (Fps.key (fun n => Fps.sqd c (pts (V (Proc.devRef .tc main_arg0)) b n) ≤ Fps.rad) n) := by
  rw [post_v19, post_v18, post_c4, post_v9]
  show Scalar.select _ _ _ = _
  rw [outside_ix _ _ b s n c hc]
  show Scalar.select (BitVec.ofBool (decide (Fps.rad < Fps.sqd c (pts (V (Proc.devRef .tc main_arg0)) b n)))) (4096#32) (BitVec.ofNat 32 (n : ℕ)) = _
  unfold Scalar.select Fps.key
  by_cases h : Fps.sqd c (pts (V (Proc.devRef .tc main_arg0)) b n) ≤ Fps.rad
  · rw [if_pos h, decide_eq_false (not_lt.mpr h), if_neg (by decide)]
  · rw [if_neg h, decide_eq_true (not_le.mp h), if_pos (by decide)]

/-- The sort. -/
theorem sort_ix (x : IVec S4x512x4096 32) (b : Fin 4) (s : Fin 512) (I : Fin 4096 → Prop) (hx : ∀ n, x (ix3 b s n) = BitVec.ofNat 32 (Fps.key I n)) (j : Fin 4096) :
    Host.sort S4x512x4096 2 comparator_i32_d2 x (ix3 b s j) = BitVec.ofNat 32 (Fps.key I (Fps.place I j)) := by
  have ha : ∀ k : Fin 4096, (ix3 b s j : S4x512x4096.Idx).along (2 : Fin 3) k = ix3 b s k := fun k => by
    funext a
    fin_cases a <;> rfl
  have hb : (fun k k' : Fin 4096 => comparator_i32_d2 (x ((ix3 b s j : S4x512x4096.Idx).along (2 : Fin 3) k)) (x ((ix3 b s j : S4x512x4096.Idx).along (2 : Fin 3) k')) == 1#1)
      = fun k k' => decide (Fps.key I k < Fps.key I k') := by
    funext k k'
    rw [ha, ha, hx, hx]
    refine (congrArg (· == 1#1) (Cert.KernelIdeal.Body.slt_words (Fps.key_le I k) (Fps.key_le I k'))).trans ?_
    cases decide (Fps.key I k < Fps.key I k') <;> rfl
  have h2 : (2 : ℕ) < S4x512x4096.rank := by decide
  unfold Host.sort
  rw [dif_pos h2]
  show x ((ix3 b s j : S4x512x4096.Idx).along (2 : Fin 3) (sortedFrom (fun k k' : Fin 4096 => comparator_i32_d2 (x ((ix3 b s j : S4x512x4096.Idx).along (2 : Fin 3) k)) (x ((ix3 b s j : S4x512x4096.Idx).along (2 : Fin 3) k')) == 1#1) j)) = _
  rw [hb]
  exact (congrArg x (ha _)).trans (hx _)

theorem post_v20 : after hostOps0_5 V (Proc.devRef .tc main_v20) = Host.sort S4x512x4096 2 comparator_i32_d2 (V (Proc.devRef .tc main_v19) : IVec S4x512x4096 32) := by
  after_results
  rfl

/-- The first 32 of the sorted keys, a key of a point outside replaced by the first. -/
def firsts (y : IVec S4x512x4096 32) : IVec S4x512x32 32 :=
  select (cmpi .eq (extractStridedSlice S4x512x32 ![0, 0, 0] y slices_S4x512x4096_S4x512x32_0_0_0) (broadcastInDim S4x512x32 ![] bcast_S_S4x512x32 (constantI S_ 32 4096#32)))
    (broadcastInDim S4x512x32 ![0, 1, 2] bcast_S4x512x1_S4x512x32_0_1_2
      (extractStridedSlice S4x512x1 ![0, 0, 0] (extractStridedSlice S4x512x32 ![0, 0, 0] y slices_S4x512x4096_S4x512x32_0_0_0) slices_S4x512x32_S4x512x1_0_0_0))
    (extractStridedSlice S4x512x32 ![0, 0, 0] y slices_S4x512x4096_S4x512x32_0_0_0)

set_option maxRecDepth 100000 in
theorem post_v26 : after hostOps0_7 (after hostOps0_6 V) (Proc.devRef .tc main_v26) = firsts (V (Proc.devRef .tc main_v20)) := by
  after_results
  rfl

/-- A small number's word is not that of 4096. -/
theorem eq_word_ne (n : ℕ) (h : n < 4096) : IntOp.cmpi CmpIPredicate.eq (BitVec.ofNat 32 n) 4096#32 = 0#1 := by
  have hn : BitVec.ofNat 32 n ≠ 4096#32 := fun e => by
    have := congrArg BitVec.toInt e
    rw [Fps.toInt_ofNat n h.le] at this
    have h2 : (4096#32).toInt = 4096 := rfl
    omega
  show BitVec.ofBool (BitVec.ofNat 32 n == 4096#32) = 0#1
  rw [beq_eq_false_iff_ne.mpr hn]
  rfl

/-- The number of the neighbour at place `j`, when the ball holds a point. -/
theorem firsts_ix (y : IVec S4x512x4096 32) (b : Fin 4) (s : Fin 512) (I : Fin 4096 → Prop) (h : ∃ n, I n)
    (hy : ∀ j, y (ix3 b s j) = BitVec.ofNat 32 (Fps.key I (Fps.place I j))) (j : Fin 32) :
    firsts y (ix3 b s j) = BitVec.ofNat 32 (Fps.neighbour I j : ℕ) := by
  pointwise [firsts]
  have e0 : y (ix3 b s (0 : Fin 4096)) = BitVec.ofNat 32 (Fps.place I 0 : ℕ) := by rw [hy, Fps.key_in I (Fps.first_in I h)]
  have ej : y (ix3 b s (⟨(j : ℕ), by omega⟩ : Fin 4096)) = BitVec.ofNat 32 (Fps.key I (Fps.place I (j.castLE (by omega)))) := hy _
  refine (congrArg₂ (fun u v => Scalar.select (IntOp.cmpi CmpIPredicate.eq u 4096#32) v u) ej e0).trans ?_
  unfold Scalar.select Fps.neighbour
  by_cases hI : I (Fps.place I (j.castLE (by omega)))
  · rw [if_pos hI, Fps.key_in I hI, eq_word_ne _ (Fps.place I (j.castLE (by omega))).isLt, if_neg (by decide)]
  · rw [if_neg hI, Fps.key, if_neg hI]
    rfl

end Cert.ReferenceIdeal.Ops
-- ==== Proof.RefGroup.lean ====
module

public import proofs.«01_k».proof.Proof.RefBall

/-! The reference's grouping: the rows of the 32 neighbours are taken, the centre is subtracted from their coordinates, coordinates
and features are joined and mapped linearly, and the largest value over the neighbours is kept. -/

@[expose] public section
set_option maxRecDepth 16384
noncomputable section

namespace Cert.ReferenceIdeal.Ops
open Cert.ReferenceIdeal Cert.ReferenceIdeal.Gen
open Idealize.ShloMosaic Idealize.ShloMosaic.TcCoe
open Idealize.ShloMosaic.StableHlo
open Cert.Fps (takeRows)
open Classical

variable (V : Valuation τ sig (Elt Ideal))

/-- Place `r` of the flat list of a cloud's neighbours: the centre's number and the neighbour's place. -/
def row (r : Fin 16384) : Fin 512 := ⟨r / 32, by omega⟩
def col (r : Fin 16384) : Fin 32 := ⟨r % 32, by omega⟩
def flat32 (s : Fin 512) (j : Fin 32) : Fin 16384 := ⟨s * 32 + j, by omega⟩

theorem row_flat (s : Fin 512) (j : Fin 32) : row (flat32 s j) = s := Fin.ext (show ((s : ℕ) * 32 + j) / 32 = s by omega)
theorem col_flat (s : Fin 512) (j : Fin 32) : col (flat32 s j) = j := Fin.ext (show ((s : ℕ) * 32 + j) % 32 = j by omega)

/-- The numbers of the neighbours, flat. -/
def flatNumbers (i : IVec S4x512x32 32) : IVec S4x16384x1 32 :=
  broadcastInDim S4x16384x1 ![0, 1] bcast_S4x16384_S4x16384x1_0_1 (shapeCast S4x16384 i shapeCasts_S4x512x32_S4x16384)

theorem flatNumbers_ix (i : IVec S4x512x32 32) (b : Fin 4) (r : Fin 16384) : flatNumbers i (ix3 b r (0 : Fin 1)) = i (ix3 b (row r) (col r)) := by
  pointwise [flatNumbers]
  rfl

theorem post_v28 : after hostOps0_8 V (Proc.devRef .tc main_v28) = flatNumbers (V (Proc.devRef .tc main_v26)) := by
  after_results
  rfl

theorem post_v35 : after hostOps0_10 V (Proc.devRef .tc main_v35) = flatNumbers (V (Proc.devRef .tc main_v26)) := by
  after_results
  rfl

set_option maxRecDepth 100000 in
theorem post_v29 : after hostOps0_9 V (Proc.devRef .tc main_v29)
    = takeRows gather_S4x4096x3_S4x16384x1_S4x16384x3_2_1_0_0_1_2_113_wf bcast_S_S4x16384x1 bcast_S1_S1x1x1_2 bcast_S1x1x1_S4x16384x1_0_1_2
      reducesTo_S4x16384x1_S4x16384_d2 h_S_ bcast_S4x16384_S4x16384x3_0_1 bcast_S_S4x16384x3 (V (Proc.devRef .tc main_arg0)) (V (Proc.devRef .tc main_v28)) := by
  after_results
  rfl

set_option maxRecDepth 100000 in
theorem post_v36 : after hostOps0_11 V (Proc.devRef .tc main_v36)
    = takeRows gather_S4x4096x32_S4x16384x1_S4x16384x32_2_1_0_0_1_2_1132_wf bcast_S_S4x16384x1 bcast_S1_S1x1x1_2 bcast_S1x1x1_S4x16384x1_0_1_2
      reducesTo_S4x16384x1_S4x16384_d2 h_S_ bcast_S4x16384_S4x16384x32_0_1 bcast_S_S4x16384x32 (V (Proc.devRef .tc main_arg1)) (V (Proc.devRef .tc main_v35)) := by
  after_results
  rfl

/-- The neighbours' coordinates relative to the centre. -/
def relative (y : FVec Ideal S4x16384x3 .f32) (ce : FVec Ideal S4x512x3 .f32) : FVec Ideal S4x512x32x3 .f32 :=
  subf (shapeCast S4x512x32x3 y shapeCasts_S4x16384x3_S4x512x32x3)
    (broadcastInDim S4x512x32x3 ![0, 1, 2, 3] bcast_S4x512x1x3_S4x512x32x3_0_1_2_3 (broadcastInDim S4x512x1x3 ![0, 1, 3] bcast_S4x512x3_S4x512x1x3_0_1_3 ce))

theorem relative_ix (y : FVec Ideal S4x16384x3 .f32) (ce : FVec Ideal S4x512x3 .f32) (b : Fin 4) (s : Fin 512) (j : Fin 32) (d : Fin 3) :
    relative y ce (ix4 b s j d) = y (ix3 b (flat32 s j) d) - ce (ix3 b s d) := by
  pointwise [relative]
  rfl

theorem post_v33 : after hostOps0_10 V (Proc.devRef .tc main_v33) = relative (V (Proc.devRef .tc main_v29)) (V (Proc.devRef .tc main_v6)) := by
  after_results
  rfl

/-- The linear map of the joined rows. -/
def mapped (u : FVec Ideal S4x512x32x3 .f32) (y : FVec Ideal S4x16384x32 .f32) (w : FVec Ideal S64x35 .f32) (bias : FVec Ideal S64 .f32) : FVec Ideal S4x64x32x512 .f32 :=
  addf (transpose S4x64x32x512 [0, 3, 1, 2] (Host.dotGeneral dot_S4x35x32x512_S64x35_S4x32x512x64_1_1_023_0_n_n none
      (transpose S4x35x32x512 [0, 3, 2, 1] (concatenate S4x512x32x35 3 [⟨S4x512x32x3, u⟩, ⟨S4x512x32x32, shapeCast S4x512x32x32 y shapeCasts_S4x16384x32_S4x512x32x32⟩]
        concatenates_S4x512x32x3_S4x512x32x32_S4x512x32x35_d3) transposes_S4x512x32x35_S4x35x32x512_0_3_2_1) w) transposes_S4x32x512x64_S4x64x32x512_0_3_1_2)
    (broadcastInDim S4x64x32x512 ![0, 1, 2, 3] bcast_S1x64x1x1_S4x64x32x512_0_1_2_3 (broadcastInDim S1x64x1x1 ![1] bcast_S64_S1x64x1x1_1 bias))

theorem mapped_ix (u : FVec Ideal S4x512x32x3 .f32) (y : FVec Ideal S4x16384x32 .f32) (w : FVec Ideal S64x35 .f32) (bias : FVec Ideal S64 .f32)
    (b : Fin 4) (k : Fin 64) (j : Fin 32) (s : Fin 512) :
    mapped u y w bias (ix4 b k j s) = ((∑ d : Fin 3, u (ix4 b s j d) * w (ix2 k (⟨d, by omega⟩ : Fin 35)))
      + ∑ d : Fin 32, y (ix3 b (flat32 s j) d) * w (ix2 k (⟨3 + d, by omega⟩ : Fin 35))) + bias (ix1 k) := by
  pointwise [mapped]
  rfl

/-- The largest over the neighbours. -/
def largest (z : FVec Ideal S4x64x32x512 .f32) : FVec Ideal S4x512x64 .f32 :=
  transpose S4x512x64 [0, 2, 1] (Host.reduce FloatOps.maximumf z (constant S_ .f32 0xFF800000#32) reducesTo_S4x64x32x512_S4x64x512_d2 h_S_) transposes_S4x64x512_S4x512x64_0_2_1

theorem largest_le (z : FVec Ideal S4x64x32x512 .f32) (b : Fin 4) (s : Fin 512) (k : Fin 64) (t : EReal) :
    largest z (ix3 b s k) ≤ t ↔ ∀ j : Fin 32, z (ix4 b k j s) ≤ t := by
  have h : largest z (ix3 b s k) = Finset.univ.fold max ⊥ (fun j : Fin 32 => z (ix4 b k j s)) := by
    pointwise [largest]
    rw [bot_word]
  rw [h, Finset.fold_max_le]
  simp

set_option maxRecDepth 100000 in
theorem post_v46 : after hostOps0_12 V (Proc.devRef .tc main_v46)
    = largest (mapped (V (Proc.devRef .tc main_v33)) (V (Proc.devRef .tc main_v36)) (V (Proc.devRef .tc main_arg2)) (V (Proc.devRef .tc main_arg3))) := by
  after_results
  rfl

/-! ## The lists in turn -/

/-- After the lists of the ball query. -/
abbrev Q7 := after hostOps0_7 (after hostOps0_6 (after hostOps0_5 (after hostOps0_4 (after hostOps0_3 V))))

/-- After the lists of the gathers. -/
abbrev Q11 := after hostOps0_11 (after hostOps0_10 (after hostOps0_9 (after hostOps0_8 (Q7 V))))

theorem Q7_keeps (r : Ref sig .tc) (h3 : r ∉ hostOps0_3_W) (h4 : r ∉ hostOps0_4_W) (h5 : r ∉ hostOps0_5_W) (h6 : r ∉ hostOps0_6_W) (h7 : r ∉ hostOps0_7_W) :
    Q7 V (Proc.devRef .tc r) = V (Proc.devRef .tc r) := by
  unfold Q7
  rw [keep hostOps0_7_writes _ r h7, keep hostOps0_6_writes _ r h6, keep hostOps0_5_writes _ r h5, keep hostOps0_4_writes _ r h4, keep hostOps0_3_writes _ r h3]

/-- The numbers of the neighbours of one centre. -/
theorem Q7_v26 (b : Fin 4) (s : Fin 512) (c : Fin 3 → EReal) (hc : ∀ d, (V (Proc.devRef .tc main_v6) : FVec Ideal S4x512x3 .f32) (ix3 b s d) = c d)
    (h : ∃ n, Fps.sqd c (pts (V (Proc.devRef .tc main_arg0)) b n) ≤ Fps.rad) (j : Fin 32) :
    (Q7 V (Proc.devRef .tc main_v26) : IVec S4x512x32 32) (ix3 b s j)
      = BitVec.ofNat 32 (Fps.neighbour (fun n => Fps.sqd c (pts (V (Proc.devRef .tc main_arg0)) b n) ≤ Fps.rad) j : ℕ) := by
  unfold Q7
  rw [post_v26, post_v20]
  exact firsts_ix _ b s _ h (fun i => sort_ix _ b s _ (v19_ix V b s c hc) i) j

variable (c : Fin 4 → Fin 512 → Fin 3 → EReal) (hc : ∀ b s d, (V (Proc.devRef .tc main_v6) : FVec Ideal S4x512x3 .f32) (ix3 b s d) = c b s d)
include hc

/-- The ball of each centre. -/
abbrev inside (b : Fin 4) (s : Fin 512) (n : Fin 4096) : Prop := Fps.sqd (c b s) (pts (V (Proc.devRef .tc main_arg0)) b n) ≤ Fps.rad

variable (h : ∀ b s, ∃ n, inside V c b s n)
include h

theorem Q11_v33 (b : Fin 4) (s : Fin 512) (j : Fin 32) (d : Fin 3) :
    (Q11 V (Proc.devRef .tc main_v33) : FVec Ideal S4x512x32x3 .f32) (ix4 b s j d)
      = pts (V (Proc.devRef .tc main_arg0)) b (Fps.neighbour (inside V c b s) j) d - c b s d := by
  unfold Q11
  rw [keep hostOps0_11_writes _ main_v33 (by decide +kernel), post_v33, relative_ix, keep hostOps0_9_writes _ main_v6 (by decide +kernel),
    keep hostOps0_8_writes _ main_v6 (by decide +kernel), Q7_keeps V main_v6 (by decide +kernel) (by decide +kernel) (by decide +kernel) (by decide +kernel) (by decide +kernel), hc,
    post_v29, keep hostOps0_8_writes _ main_arg0 (by decide +kernel), Q7_keeps V main_arg0 (by decide +kernel) (by decide +kernel) (by decide +kernel) (by decide +kernel) (by decide +kernel)]
  refine congrArg (· - c b s d) ?_
  refine (Fps.takeRows_apply (R := 16384) (C := 3) _ _ _ _ _ _ _ _ _ _ (fun b r => Fps.neighbour (inside V c b (row r)) (col r)) (fun b r => ?_) b (flat32 s j) d).trans ?_
  · rw [post_v28, flatNumbers_ix]
    exact Q7_v26 V b (row r) (c b (row r)) (hc b (row r)) (h b (row r)) (col r)
  · show pts _ b (Fps.neighbour (inside V c b (row (flat32 s j))) (col (flat32 s j))) d = _
    rw [row_flat, col_flat]

theorem Q11_v36 (b : Fin 4) (s : Fin 512) (j : Fin 32) (d : Fin 32) :
    (Q11 V (Proc.devRef .tc main_v36) : FVec Ideal S4x16384x32 .f32) (ix3 b (flat32 s j) d)
      = (V (Proc.devRef .tc main_arg1) : FVec Ideal S4x4096x32 .f32) (ix3 b (Fps.neighbour (inside V c b s) j) d) := by
  unfold Q11
  rw [post_v36, keep hostOps0_10_writes _ main_arg1 (by decide +kernel), keep hostOps0_9_writes _ main_arg1 (by decide +kernel),
    keep hostOps0_8_writes _ main_arg1 (by decide +kernel), Q7_keeps V main_arg1 (by decide +kernel) (by decide +kernel) (by decide +kernel) (by decide +kernel) (by decide +kernel)]
  refine (Fps.takeRows_apply (R := 16384) (C := 32) _ _ _ _ _ _ _ _ _ _ (fun b r => Fps.neighbour (inside V c b (row r)) (col r)) (fun b r => ?_) b (flat32 s j) d).trans ?_
  · rw [post_v35, flatNumbers_ix, keep hostOps0_9_writes _ main_v26 (by decide +kernel), keep hostOps0_8_writes _ main_v26 (by decide +kernel)]
    exact Q7_v26 V b (row r) (c b (row r)) (hc b (row r)) (h b (row r)) (col r)
  · show (V (Proc.devRef .tc main_arg1) : FVec Ideal S4x4096x32 .f32) (ix3 b (Fps.neighbour (inside V c b (row (flat32 s j))) (col (flat32 s j))) d) = _
    rw [row_flat, col_flat]

omit hc h in
theorem Q11_keeps (r : Ref sig .tc) (h3 : r ∉ hostOps0_3_W) (h4 : r ∉ hostOps0_4_W) (h5 : r ∉ hostOps0_5_W) (h6 : r ∉ hostOps0_6_W) (h7 : r ∉ hostOps0_7_W)
    (h8 : r ∉ hostOps0_8_W) (h9 : r ∉ hostOps0_9_W) (h10 : r ∉ hostOps0_10_W) (h11 : r ∉ hostOps0_11_W) :
    Q11 V (Proc.devRef .tc r) = V (Proc.devRef .tc r) := by
  unfold Q11
  rw [keep hostOps0_11_writes _ r h11, keep hostOps0_10_writes _ r h10, keep hostOps0_9_writes _ r h9, keep hostOps0_8_writes _ r h8, Q7_keeps V r h3 h4 h5 h6 h7]

/-- Channel `k` of the linear map of point `n`'s joined row, the coordinates relative to the centre `c`. -/
def joined (x : FVec Ideal S4x4096x3 .f32) (v : FVec Ideal S4x4096x32 .f32) (w : FVec Ideal S64x35 .f32) (bias : FVec Ideal S64 .f32) (c : Fin 3 → EReal)
    (b : Fin 4) (k : Fin 64) (n : Fin 4096) : EReal :=
  ((∑ d : Fin 3, (pts x b n d - c d) * w (ix2 k (⟨d, by omega⟩ : Fin 35))) + ∑ d : Fin 32, v (ix3 b n d) * w (ix2 k (⟨3 + d, by omega⟩ : Fin 35))) + bias (ix1 k)

/-- The pooled row of each centre: the largest over the first 32 points of its ball. -/
theorem Q12_v46 (b : Fin 4) (s : Fin 512) (k : Fin 64) :
    (after hostOps0_12 (Q11 V) (Proc.devRef .tc main_v46) : FVec Ideal S4x512x64 .f32) (ix3 b s k)
      = Fps.best (inside V c b s) (joined (V (Proc.devRef .tc main_arg0)) (V (Proc.devRef .tc main_arg1)) (V (Proc.devRef .tc main_arg2)) (V (Proc.devRef .tc main_arg3)) (c b s) b k) := by
  refine eq_of_forall_ge_iff (α := EReal) fun t => ?_
  rw [post_v46, largest_le, Fps.best_eq _ (h b s)]
  refine forall_congr' fun j => ?_
  rw [mapped_ix, Q11_keeps V main_arg2 (by decide +kernel) (by decide +kernel) (by decide +kernel) (by decide +kernel) (by decide +kernel) (by decide +kernel) (by decide +kernel) (by decide +kernel) (by decide +kernel),
    Q11_keeps V main_arg3 (by decide +kernel) (by decide +kernel) (by decide +kernel) (by decide +kernel) (by decide +kernel) (by decide +kernel) (by decide +kernel) (by decide +kernel) (by decide +kernel)]
  simp only [Q11_v33 V c hc h, Q11_v36 V c hc h]
  rfl

end Cert.ReferenceIdeal.Ops
-- ==== Proof.RefNorm.lean ====
module

public import proofs.«01_k».proof.Proof.RefGroup
public import proofs.«01_k».proof.Proof.GroupNorm

/-! The reference's layer normalisation, and its agreement with the kernel's: the one divides by the square root of the variance,
the other multiplies by the reciprocal square root. -/

@[expose] public section
set_option maxRecDepth 16384
noncomputable section

namespace Cert.ReferenceIdeal.Ops
open Cert.ReferenceIdeal Cert.ReferenceIdeal.Gen
open Idealize.ShloMosaic Idealize.ShloMosaic.TcCoe
open Idealize.ShloMosaic.StableHlo

variable (V : Valuation τ sig (Elt Ideal))

/-- The mean over the channels. -/
def means (z : FVec Ideal S4x512x64 .f32) : FVec Ideal S4x512x1 .f32 :=
  Host.divf (broadcastInDim S4x512x1 ![0, 1] bcast_S4x512_S4x512x1_0_1 (Host.reduceAdd z (constant S_ .f32 0x00000000#32) reducesTo_S4x512x64_S4x512_d2 h_S_))
    (broadcastInDim S4x512x1 ![] bcast_S_S4x512x1 (constant S_ .f32 0x42800000#32))

theorem means_ix (z : FVec Ideal S4x512x64 .f32) (b : Fin 4) (s : Fin 512) : means z (ix3 b s (0 : Fin 1)) = Fps.mean (fun k => z (ix3 b s k)) := by
  pointwise [means]
  rfl

set_option maxRecDepth 100000 in
theorem post_v50 : after hostOps0_12 V (Proc.devRef .tc main_v50) = means (after hostOps0_12 V (Proc.devRef .tc main_v46)) := by
  rw [post_v46]
  after_results
  rfl

/-- The number of channels less the correction, which is zero. -/
def divisor : FVec Ideal S_ .f32 := subf (constant S_ .f32 0x42800000#32) (sitofp .f32 (constantI S_ 32 0#32))

/-- The variance over the channels. -/
def variances (z : FVec Ideal S4x512x64 .f32) : FVec Ideal S4x512x1 .f32 := fun y =>
  Scalar.select (cmpf .ogt divisor (constant S_ .f32 0x00000000#32) ix0)
    (Host.divf (broadcastInDim S4x512x1 ![0, 1] bcast_S4x512_S4x512x1_0_1 (Host.reduceAdd
      (mulf (subf z (broadcastInDim S4x512x64 ![0, 1, 2] bcast_S4x512x1_S4x512x64_0_1_2 (means z))) (subf z (broadcastInDim S4x512x64 ![0, 1, 2] bcast_S4x512x1_S4x512x64_0_1_2 (means z))))
      (constant S_ .f32 0x00000000#32) reducesTo_S4x512x64_S4x512_d2 h_S_)) (broadcastInDim S4x512x1 ![] bcast_S_S4x512x1 divisor) y)
    (Ideal.ofBits .f32 0x7FC00000#32)

theorem post_c9 : after hostOps0_12 V (Proc.devRef .tc main_c_9) = (constantI S_ 32 0#32 : IVec S_ 32) := by
  after_results

set_option maxRecDepth 100000 in
theorem post_v51 (hz : V (Proc.devRef .tc main_c_9) = (constantI S_ 32 0#32 : IVec S_ 32)) :
    after hostOps0_13 V (Proc.devRef .tc main_v51) = variances (V (Proc.devRef .tc main_v46)) := by
  after_results
  rw [hz]
  rfl

theorem chans_eq : Ideal.ofBits .f32 0x42800000#32 = ((64 : ℝ) : EReal) := by
  simp [Ideal.ofBits, Ideal.ieee, -EReal.coe_mul]; norm_num

theorem sitofp_zero : FloatOps.sitofp (F := Ideal) .f32 0#32 = ((0 : ℝ) : EReal) := by
  show (((0#32).toInt : ℝ) : EReal) = _
  norm_num

theorem variances_ix (z : FVec Ideal S4x512x64 .f32) (b : Fin 4) (s : Fin 512) : variances z (ix3 b s (0 : Fin 1)) = Fps.var (fun k => z (ix3 b s k)) := by
  pointwise [variances, divisor]
  have e : Ideal.ofBits .f32 0x42800000#32 - FloatOps.sitofp (F := Ideal) .f32 0#32 = Fps.chans := by
    rw [chans_eq, sitofp_zero, EReal.coe_zero, sub_zero]
    exact chans_eq.symm
  have hp : (0 : EReal) < Fps.chans := by
    rw [Fps.chans, chans_eq]
    exact_mod_cast (by norm_num : (0 : ℝ) < 64)
  simp only [means_ix]
  refine (congrArg (fun u => if (0 : EReal) < u then Ideal.div (∑ x, (z (ix3 b s x) - Fps.mean fun k => z (ix3 b s k)) * (z (ix3 b s x) - Fps.mean fun k => z (ix3 b s k))) u
    else Ideal.ofBits .f32 0x7FC00000#32) e).trans ?_
  exact if_pos hp

/-- The normalised row, scaled and shifted. -/
def normalised (z : FVec Ideal S4x512x64 .f32) (mu va : FVec Ideal S4x512x1 .f32) (g h : FVec Ideal S64 .f32) : FVec Ideal S4x512x64 .f32 :=
  addf (mulf (Host.divf (subf z (broadcastInDim S4x512x64 ![0, 1, 2] bcast_S4x512x1_S4x512x64_0_1_2 mu))
      (broadcastInDim S4x512x64 ![0, 1, 2] bcast_S4x512x1_S4x512x64_0_1_2 (Host.sqrt (addf va (broadcastInDim S4x512x1 ![] bcast_S_S4x512x1 (constant S_ .f32 0x3727C5AC#32))))))
      (broadcastInDim S4x512x64 ![0, 1, 2] bcast_S1x1x64_S4x512x64_0_1_2 (broadcastInDim S1x1x64 ![2] bcast_S64_S1x1x64_2 g)))
    (broadcastInDim S4x512x64 ![0, 1, 2] bcast_S1x1x64_S4x512x64_0_1_2 (broadcastInDim S1x1x64 ![2] bcast_S64_S1x1x64_2 h))

set_option maxRecDepth 100000 in
theorem post_v64 : after hostOps0_14 V (Proc.devRef .tc main_v64)
    = normalised (V (Proc.devRef .tc main_v46)) (V (Proc.devRef .tc main_v50)) (V (Proc.devRef .tc main_v51)) (V (Proc.devRef .tc main_arg4)) (V (Proc.devRef .tc main_arg5)) := by
  after_results
  rfl

theorem eps_pos : 0 < Fps.eps := by
  have h : Fps.eps = ((2748779 / 274877906944 : ℝ) : EReal) := by
    unfold Fps.eps
    simp [Ideal.ofBits, Ideal.ieee, -EReal.coe_mul]; norm_num
  rw [h]
  exact_mod_cast (by norm_num : (0 : ℝ) < 2748779 / 274877906944)

theorem var_nonneg (x : Fin 64 → EReal) : 0 ≤ Fps.var x := by
  have hs : 0 ≤ ∑ c, (x c - Fps.mean x) * (x c - Fps.mean x) := Finset.sum_nonneg fun c _ => by
    rcases le_total 0 (x c - Fps.mean x) with h | h
    · exact mul_nonneg h h
    · rw [← neg_mul_neg]
      exact mul_nonneg (EReal.neg_nonneg.mpr h) (EReal.neg_nonneg.mpr h)
  unfold Fps.var Fps.chans
  rw [chans_eq, Ideal.div_coe (by norm_num)]
  exact mul_nonneg hs (by exact_mod_cast (by norm_num : (0 : ℝ) ≤ 1 / 64))

/-- Dividing by the square root is multiplying by the reciprocal square root. -/
theorem div_sqrt (a v : EReal) (h : 0 < v) : Ideal.div a (Ideal.sqrt v) = a * Ideal.rsqrt v := by
  induction v with
  | bot => exact absurd h (by simp)
  | top =>
    rw [Ideal.sqrt_top, Ideal.rsqrt_top, Ideal.div, if_neg (by simp), EReal.inv_top]
  | coe r =>
    have hr : 0 < r := by exact_mod_cast h
    rw [Ideal.sqrt_coe, Ideal.rsqrt_coe, if_neg (not_lt.mpr hr.le), if_neg (not_lt.mpr hr.le), if_neg hr.ne', Ideal.div_coe (Real.sqrt_ne_zero'.mpr hr), one_div]

theorem normalised_ix (z : FVec Ideal S4x512x64 .f32) (g h : FVec Ideal S64 .f32) (b : Fin 4) (s : Fin 512) (k : Fin 64) :
    normalised z (means z) (variances z) g h (ix3 b s k) = Fps.norm (fun k => z (ix3 b s k)) (fun k => g (ix1 k)) (fun k => h (ix1 k)) k := by
  pointwise [normalised]
  rw [means_ix, variances_ix]
  refine congrArg (fun u => u * g (ix1 k) + h (ix1 k)) (div_sqrt _ _ ?_)
  exact lt_of_lt_of_le eps_pos (le_add_of_nonneg_left (var_nonneg _))

variable (m : (ℓ : Loc nD τ sig) → Buf (Elt Ideal) ℓ)

theorem P2_keeps (c : Dev nD) (r : Ref sig .tc) (hp : loopEnd m c (Proc.devRef .tc r) = m ((c : Thread nD τ).loc r)) (h1 : r ∉ hostOps0_1_W) (h2 : r ∉ hostOps0_2_W) :
    P2 m c (Proc.devRef .tc r) = m ((c : Thread nD τ).loc r) := by
  unfold P2
  rw [keep hostOps0_2_writes _ r h2, keep hostOps0_1_writes _ r h1, hp]

end Cert.ReferenceIdeal.Ops
-- ==== Proof.Linear.lean ====
module

public import proofs.«01_k».proof.Proof.GroupMax

/-! The linearity that the kernel uses. The reference subtracts the centre from every neighbour before the linear map and the maximum;
the kernel maps the points and subtracts the mapped centre after the maximum. With real coordinates and real weights on them the
two agree, whatever the features, the other weights and the bias are. -/

@[expose] public section
noncomputable section

namespace Cert.Fps

/-- Subtracting a real number from a maximum. -/
theorem best_sub (I : Fin 4096 → Prop) (g : Fin 4096 → EReal) (t : ℝ) : best I g - (t : EReal) = best I (fun n => g n - (t : EReal)) := by
  refine eq_of_forall_ge_iff fun z => ?_
  have e : ∀ a : EReal, a - (t : EReal) ≤ z ↔ a ≤ z + t := fun a =>
    EReal.sub_le_iff_le_add (Or.inl (EReal.coe_ne_bot t)) (Or.inl (EReal.coe_ne_top t))
  rw [e, best_le, best_le]
  exact forall_congr' fun n => forall_congr' fun _ => (e _).symm

/-- The map of a difference of real vectors. -/
theorem sum_sub (x c w : Fin 3 → EReal) (hx : ∀ d, ∃ r : ℝ, x d = r) (hc : ∀ d, ∃ r : ℝ, c d = r) (hw : ∀ d, ∃ r : ℝ, w d = r) :
    (∃ t : ℝ, ∑ d, c d * w d = t) ∧ ∑ d, (x d - c d) * w d = ∑ d, x d * w d - ∑ d, c d * w d := by
  choose x' hx' using hx
  choose c' hc' using hc
  choose w' hw' using hw
  simp only [Fin.sum_univ_three, hx', hc', hw']
  refine ⟨⟨c' 0 * w' 0 + c' 1 * w' 1 + c' 2 * w' 2, by push_cast; rfl⟩, ?_⟩
  norm_cast
  ring

/-- One channel: the kernel's maximum less the mapped centre is the maximum of the reference's rows. -/
theorem pooled_eq (I : Fin 4096 → Prop) (x : Fin 4096 → Fin 3 → EReal) (c w : Fin 3 → EReal) (v : Fin 4096 → EReal) (bias : EReal)
    (hx : ∀ n d, ∃ r : ℝ, x n d = r) (hc : ∀ d, ∃ r : ℝ, c d = r) (hw : ∀ d, ∃ r : ℝ, w d = r) :
    best I (fun n => v n + ∑ d, x n d * w d + bias) - ∑ d, c d * w d = best I (fun n => ∑ d, (x n d - c d) * w d + v n + bias) := by
  obtain ⟨t, ht⟩ := (sum_sub (x 0) c w (hx 0) hc hw).1
  have e : (fun n => ∑ d, (x n d - c d) * w d + v n + bias) = fun n => (v n + ∑ d, x n d * w d + bias) - (t : EReal) := by
    funext n
    rw [(sum_sub (x n) c w (hx n) hc hw).2, ht, sub_eq_add_neg, sub_eq_add_neg]
    ac_rfl
  rw [e, ht, best_sub]

end Cert.Fps
-- ==== Proof.Finite.lean ====
module

public import proofs.«01_k».proof.Proof.Gen.Pre_finite
public import proofs.«01_k».proof.Proof.Check
public import Idealize.ShloMosaic.Lib.ReduceAll

/-! What the precondition says: the coordinates of the points and the weights that multiply them are real numbers. -/

@[expose] public section
set_option maxRecDepth 16384
noncomputable section

namespace Cert.Finite
open Cert.Pre_finite Cert.Pre_finite.Gen
open Idealize.ShloMosaic

/-- A value whose magnitude is below infinity is a real number. -/
theorem real_of_abs (a : EReal) (h : BitVec.ofBool (decide (FloatOps.absf (F := Ideal) (φ := .f32) a < Ideal.ofBits .f32 0x7F800000#32)) = 1#1) : ∃ r : ℝ, a = r := by
  have ht : Ideal.ofBits .f32 0x7F800000#32 = (⊤ : EReal) := by simp [Ideal.ofBits, Ideal.ieee]
  have h' : max a (-a) < (⊤ : EReal) := by
    rw [← ht]
    by_contra hn
    have e : decide (FloatOps.absf (F := Ideal) (φ := .f32) a < Ideal.ofBits .f32 0x7F800000#32) = false := decide_eq_false hn
    rw [e] at h
    exact absurd h (by decide)
  induction a with
  | bot => exact absurd h' (by simp)
  | top => exact absurd h' (by simp)
  | coe r => exact ⟨r, rfl⟩

variable (x : FVec Ideal S4x4096x3 .f32) (v : FVec Ideal S4x4096x32 .f32) (w : FVec Ideal S64x35 .f32) (a b c : FVec Ideal S64 .f32)
  (h : fn (F := Ideal) x v w a b c = fun _ => 1#1)
include h

theorem points_real (i : Fin 4) (n : Fin 4096) (d : Fin 3) : ∃ r : ℝ, x (ix3 i n d) = r := by
  have h1 := (IntOp.andi_eq_one.mp (congrFun h ix0)).1
  have h2 := Host.reduce_andi_all _ _ _ _ _ h1 (ix3 i n d)
  revert h2
  pointwise
  exact real_of_abs _

theorem weights_real (k : Fin 64) (d : Fin 3) : ∃ r : ℝ, w (ix2 k (⟨d, by omega⟩ : Fin 35)) = r := by
  have h1 := (IntOp.andi_eq_one.mp (congrFun h ix0)).2
  have h2 := Host.reduce_andi_all _ _ _ _ _ h1 (ix2 k d)
  revert h2
  pointwise
  exact real_of_abs _

end Cert.Finite
-- ==== Proof.Equation.lean ====
module

public import proofs.«01_k».proof.Proof.GroupArray
public import proofs.«01_k».proof.Proof.RefNorm
public import proofs.«01_k».proof.Proof.Linear
public import proofs.«01_k».proof.Proof.Finite

/-! The equation: from the same arguments, real coordinates and real weights on them, the kernel's two results are the reference's. -/

@[expose] public section
set_option maxRecDepth 16384
noncomputable section

namespace Cert.ReferenceIdeal.Ops
open Cert.ReferenceIdeal Cert.ReferenceIdeal.Gen
open Idealize.ShloMosaic Idealize.ShloMosaic.TcCoe
open Idealize.ShloMosaic.StableHlo

/-- A real point lies in its own ball. -/
theorem sqd_self (p : Fin 3 → EReal) (h : ∀ d, ∃ r : ℝ, p d = r) : Fps.sqd p p ≤ Fps.rad := by
  choose p' hp using h
  have e : Fps.sqd p p = 0 := by
    unfold Fps.sqd
    simp only [hp]
    norm_cast
    simp
  have hr : Fps.rad = ((10737418 / 268435456 : ℝ) : EReal) := by
    unfold Fps.rad
    simp [Ideal.ofBits, Ideal.ieee, -EReal.coe_mul]; norm_num
  rw [e, hr]
  exact_mod_cast (by norm_num : (0 : ℝ) ≤ 10737418 / 268435456)

variable (m : (ℓ : Loc nD τ sig) → Buf (Elt Ideal) ℓ) (c : Dev nD)

/-- The arguments are still there when the lists after the centres begin. -/
theorem P2_arg (r : Ref sig .tc) (h0 : r ∉ condOps_W) (h1 : r ∉ hostOps0_W) (h2 : r ∉ tripW) (h3 : r ∉ hostOps0_1_W) (h4 : r ∉ hostOps0_2_W) :
    P2 m c (Proc.devRef .tc r) = m ((c : Thread nD τ).loc r) :=
  P2_keeps m c r ((keep condOps_writes _ r h0).trans (loop_keeps m c h1 h2 512)) h3 h4

/-- The reference's first result, the coordinates being real. -/
theorem last_v64 (x : FVec Ideal S4x4096x3 .f32) (v : FVec Ideal S4x4096x32 .f32) (w : FVec Ideal S64x35 .f32) (bias g h : FVec Ideal S64 .f32)
    (e0 : m ((c : Thread nD τ).loc main_arg0) = x) (e1 : m ((c : Thread nD τ).loc main_arg1) = v) (e2 : m ((c : Thread nD τ).loc main_arg2) = w)
    (e3 : m ((c : Thread nD τ).loc main_arg3) = bias) (e4 : m ((c : Thread nD τ).loc main_arg4) = g) (e5 : m ((c : Thread nD τ).loc main_arg5) = h)
    (hx : ∀ b n d, ∃ r : ℝ, x (ix3 b n d) = r) (b : Fin 4) (s : Fin 512) (k : Fin 64) :
    (lastContents m c (Proc.devRef .tc main_v64) : FVec Ideal S4x512x64 .f32) (ix3 b s k)
      = Fps.norm (fun k => Fps.best (fun n => Fps.sqd (pts x b (Fps.far (pts x b) s)) (pts x b n) ≤ Fps.rad) (joined x v w bias (pts x b (Fps.far (pts x b) s)) b k))
          (fun k => g (ix1 k)) (fun k => h (ix1 k)) k := by
  have a0 := (P2_arg m c main_arg0 (by decide +kernel) (by decide +kernel) (by decide +kernel) (by decide +kernel) (by decide +kernel)).trans e0
  have a1 := (P2_arg m c main_arg1 (by decide +kernel) (by decide +kernel) (by decide +kernel) (by decide +kernel) (by decide +kernel)).trans e1
  have a2 := (P2_arg m c main_arg2 (by decide +kernel) (by decide +kernel) (by decide +kernel) (by decide +kernel) (by decide +kernel)).trans e2
  have a3 := (P2_arg m c main_arg3 (by decide +kernel) (by decide +kernel) (by decide +kernel) (by decide +kernel) (by decide +kernel)).trans e3
  have a4 := (P2_arg m c main_arg4 (by decide +kernel) (by decide +kernel) (by decide +kernel) (by decide +kernel) (by decide +kernel)).trans e4
  have a5 := (P2_arg m c main_arg5 (by decide +kernel) (by decide +kernel) (by decide +kernel) (by decide +kernel) (by decide +kernel)).trans e5
  have hc := P2_v6 m c
  rw [e0] at hc
  show (afterL postI (loopEnd m c) (Proc.devRef .tc main_v64) : FVec Ideal S4x512x64 .f32) (ix3 b s k) = _
  simp only [afterL_cons, afterL_nil]
  show (after hostOps0_14 (after hostOps0_13 (after hostOps0_12 (Q11 (P2 m c)))) (Proc.devRef .tc main_v64) : FVec Ideal S4x512x64 .f32) (ix3 b s k) = _
  generalize P2 m c = V at a0 a1 a2 a3 a4 a5 hc ⊢
  have hb : ∀ b s, ∃ n, inside V (fun b s => pts x b (Fps.far (pts x b) s)) b s n := fun b s =>
    ⟨Fps.far (pts x b) s, by
      show Fps.sqd _ (pts (V (Proc.devRef .tc main_arg0)) b _) ≤ _
      rw [a0]
      exact sqd_self _ fun d => hx b _ d⟩
  have hv := fun k => Q12_v46 V (fun b s => pts x b (Fps.far (pts x b) s)) hc hb b s k
  have k4 := Q11_keeps V main_arg4 (by decide +kernel) (by decide +kernel) (by decide +kernel) (by decide +kernel) (by decide +kernel) (by decide +kernel) (by decide +kernel) (by decide +kernel) (by decide +kernel)
  have k5 := Q11_keeps V main_arg5 (by decide +kernel) (by decide +kernel) (by decide +kernel) (by decide +kernel) (by decide +kernel) (by decide +kernel) (by decide +kernel) (by decide +kernel) (by decide +kernel)
  rw [post_v64, keep hostOps0_13_writes _ main_v46 (by decide +kernel), keep hostOps0_13_writes _ main_v50 (by decide +kernel), post_v51 _ (post_c9 _), post_v50,
    keep hostOps0_13_writes _ main_arg4 (by decide +kernel), keep hostOps0_13_writes _ main_arg5 (by decide +kernel),
    keep hostOps0_12_writes _ main_arg4 (by decide +kernel), keep hostOps0_12_writes _ main_arg5 (by decide +kernel), k4, k5, a4, a5, normalised_ix]
  refine Cert.KernelIdeal.Body.norm_congr (funext fun k => (hv k).trans ?_) rfl rfl k
  rw [a1, a2, a3]
  show Fps.best (fun n => Fps.sqd _ (pts (V (Proc.devRef .tc main_arg0)) b n) ≤ _) _ = _
  rw [a0]

/-- The two first results agree. -/
theorem results_eq (mk : (ℓ : Loc Cert.KernelIdeal.nD Cert.KernelIdeal.τ Cert.KernelIdeal.sig) → Buf (Elt Ideal) ℓ) (ck : Dev Cert.KernelIdeal.nD)
    (x : FVec Ideal S4x4096x3 .f32) (v : FVec Ideal S4x4096x32 .f32) (w : FVec Ideal S64x35 .f32) (bias g h : FVec Ideal S64 .f32)
    (d0 : mk ((ck.tc : Thread Cert.KernelIdeal.nD Cert.KernelIdeal.τ).loc Cert.KernelIdeal.main_arg0) = x)
    (d1 : mk ((ck.tc : Thread Cert.KernelIdeal.nD Cert.KernelIdeal.τ).loc Cert.KernelIdeal.main_arg1) = v)
    (d2 : mk ((ck.tc : Thread Cert.KernelIdeal.nD Cert.KernelIdeal.τ).loc Cert.KernelIdeal.main_arg2) = w)
    (d3 : mk ((ck.tc : Thread Cert.KernelIdeal.nD Cert.KernelIdeal.τ).loc Cert.KernelIdeal.main_arg3) = bias)
    (d4 : mk ((ck.tc : Thread Cert.KernelIdeal.nD Cert.KernelIdeal.τ).loc Cert.KernelIdeal.main_arg4) = g)
    (d5 : mk ((ck.tc : Thread Cert.KernelIdeal.nD Cert.KernelIdeal.τ).loc Cert.KernelIdeal.main_arg5) = h)
    (e0 : m ((c : Thread nD τ).loc main_arg0) = x) (e1 : m ((c : Thread nD τ).loc main_arg1) = v) (e2 : m ((c : Thread nD τ).loc main_arg2) = w)
    (e3 : m ((c : Thread nD τ).loc main_arg3) = bias) (e4 : m ((c : Thread nD τ).loc main_arg4) = g) (e5 : m ((c : Thread nD τ).loc main_arg5) = h)
    (hx : ∀ b n d, ∃ r : ℝ, x (ix3 b n d) = r) (hw : ∀ (k : Fin 64) (d : Fin 3), ∃ r : ℝ, w (ix2 k (⟨d, by omega⟩ : Fin 35)) = r) :
    (lastContents m c (Proc.devRef .tc main_v64) : FVec Ideal S4x512x64 .f32) = Cert.KernelIdeal.Body.features mk ck := by
  funext y
  rw [eq_ix3 y]
  refine (last_v64 m c x v w bias g h e0 e1 e2 e3 e4 e5 hx (y 0) (y 1) (y 2)).trans ?_
  unfold Cert.KernelIdeal.Body.features
  rw [d0, d1, d2, d3, d4, d5]
  refine Cert.KernelIdeal.Body.norm_congr (funext fun k => ?_) rfl rfl (y 2)
  exact (Fps.pooled_eq _ (fun n d => x (ix3 (y 0) n d)) (fun d => x (ix3 (y 0) (Fps.far (pts x (y 0)) (y 1)) d)) (fun d => w (ix2 k (⟨d, by omega⟩ : Fin 35)))
    (fun n => ∑ d : Fin 32, v (ix3 (y 0) n d) * w (ix2 k (⟨3 + d, by omega⟩ : Fin 35))) (bias (ix1 k)) (fun n d => hx _ n d) (fun d => hx _ _ d) (hw k)).symm

end Cert.ReferenceIdeal.Ops
-- ==== Proof.lean ====
/- The certificate's claims, put together. -/
module

public import proofs.«01_k».proof.Defs
public import proofs.«01_k».proof.Proof.Readout
public import proofs.«01_k».proof.Proof.PlainReadout
public import proofs.«01_k».proof.Proof.RefFrame
public import proofs.«01_k».proof.Proof.Equation
public import Idealize.ShloMosaic.Adequacy
public import Idealize.ShloMosaic.Init

@[expose] public section

noncomputable section

namespace Cert.Proof

open Idealize.ShloMosaic Idealize.SL.Sem Idealize.ShloMosaic.TcCoe

theorem frame_kernel : Cert.quiescent_Kernel := fun m g _ =>
  (θ_run _ _ _).mono (fun _ h => ⟨fun c => (h.1 c).2.2, h.2⟩) (Cert.Kernel.Body.run_read Cert.Kernel.Body.chk_bits m g)

theorem frame_ideal : Cert.quiescent_KernelIdeal := fun m g _ =>
  (θ_run _ _ _).mono (fun _ h => ⟨fun c => (h.1 c).2.2, h.2⟩) (Cert.KernelIdeal.Body.run_read Cert.KernelIdeal.Body.chk_ideal m g)

theorem frame_ideal_finite : Cert.quiescent_KernelIdeal_pre_finite := fun m g _ => frame_ideal m g trivial

theorem frame_reference : Cert.quiescent_ReferenceIdeal := fun m g _ =>
  (θ_run _ _ _).mono (fun _ h => ⟨fun c => (h.1 c).2.2, h.2⟩) (Cert.ReferenceIdeal.Ops.run_read m g)

theorem frame_reference_finite : Cert.quiescent_ReferenceIdeal_pre_finite := fun m g _ => frame_reference m g trivial

theorem preserves : Cert.preserves_Kernel_KernelIdeal :=
  IdealRules.named_const.statement Cert.KernelIdeal.κ "mask" .f32 0xF149F2CA#32 ⊥ rfl

/-- Both run from the same arguments, and each of the kernel's results is the reference's. -/
theorem algebraic : Cert.algebraic_KernelIdeal_ReferenceIdeal_pre_finite := by
  intro m g m' g' hpre hargs
  refine ⟨fun c => Cert.KernelIdeal.Body.U4 Cert.KernelIdeal.Body.chk_ideal m c Cert.KernelIdeal.main_v10,
    fun c => Cert.KernelIdeal.Body.U4 Cert.KernelIdeal.Body.chk_ideal m c Cert.KernelIdeal.main_v2,
    (θ_run _ _ _).mono (fun _ h => h.1) (Cert.KernelIdeal.Body.run_read Cert.KernelIdeal.Body.chk_ideal m g),
    (θ_run _ _ _).mono (fun _ h c => ⟨(h.1 c).1.trans ?_, (h.1 c).2.1.trans ?_, (h.1 c).2.2⟩) (Cert.ReferenceIdeal.Ops.run_read m' g')⟩
  · obtain ⟨e0, e1, e2, e3, e4, e5⟩ := hargs c
    refine (Cert.ReferenceIdeal.Ops.results_eq m' c m c _ _ _ _ _ _ rfl rfl rfl rfl rfl rfl e0 e1 e2 e3 e4 e5
      (Cert.Finite.points_real _ _ _ _ _ _ (hpre c)) (Cert.Finite.weights_real _ _ _ _ _ _ (hpre c))).trans ?_
    exact (Cert.KernelIdeal.Body.U4_v10 m Cert.KernelIdeal.Body.chk_ideal c).symm
  · funext y
    have e0 := (hargs c).1
    rw [eq_ix3 y]
    refine (Cert.ReferenceIdeal.Ops.last_v6 m' c (y 0) (y 1) (y 2)).trans (Eq.trans ?_ (Cert.KernelIdeal.Body.U4_v2 m Cert.KernelIdeal.Body.chk_ideal c (y 0) (y 1) (y 2)).symm)
    exact congrArg (fun x => Cert.ReferenceIdeal.Ops.pts x (y 0) (Cert.Fps.far (Cert.ReferenceIdeal.Ops.pts x (y 0)) (y 1)) (y 2)) e0

theorem claim : Cert.Claim := ⟨Cert.Kernel.Gen.facts, Cert.KernelIdeal.Gen.facts, Cert.ReferenceIdeal.Gen.facts, Cert.Pre_finite.Gen.facts,
  frame_kernel, frame_ideal, frame_ideal_finite, frame_reference, frame_reference_finite, preserves, algebraic⟩

end Cert.Proof

end
